-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_steps [hPre_finite_steps : Cert.Pre_finite_steps.Facts] (m : (ℓ : Loc Cert.SsdIdeal.nD Cert.SsdIdeal.τ Cert.SsdIdeal.sig) → Buf (Elt Ideal) ℓ) : Prop :=
  ∀ c : Dev Cert.SsdIdeal.nD,
    (Cert.Pre_finite_steps.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))) = (fun _ => 1#1)

def Pre_SsdReferenceIdeal (m : (ℓ : Loc Cert.SsdReferenceIdeal.nD Cert.SsdReferenceIdeal.τ Cert.SsdReferenceIdeal.sig) → Buf (Elt Ideal) ℓ) : Prop :=
  True

def Pre_SsdReferenceIdeal_finite_steps [hPre_finite_steps : Cert.Pre_finite_steps.Facts] (m : (ℓ : Loc Cert.SsdReferenceIdeal.nD Cert.SsdReferenceIdeal.τ Cert.SsdReferenceIdeal.sig) → Buf (Elt Ideal) ℓ) : Prop :=
  ∀ c : Dev Cert.SsdReferenceIdeal.nD,
    (Cert.Pre_finite_steps.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4)) (m ((c.tc : Thread Cert.SsdReferenceIdeal.nD Cert.SsdReferenceIdeal.τ).loc Cert.SsdReferenceIdeal.main_arg5)) (m ((c.tc : Thread Cert.SsdReferenceIdeal.nD Cert.SsdReferenceIdeal.τ).loc Cert.SsdReferenceIdeal.main_arg6))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdIdeal_pre_finite_steps [hSsdIdeal : Cert.SsdIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_steps m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6))
      ∧ r.2.sem = fun _ => 0)

def quiescent_SsdReferenceIdeal_pre_finite_steps [hSsdReferenceIdeal : Cert.SsdReferenceIdeal.Facts] [hPre_finite_steps : Cert.Pre_finite_steps.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal_finite_steps m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v39) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v12_0)) (v1 : (c : Dev Cert.InprojIdeal.nD) → Buf (Elt Ideal) ((c.tc : Thread Cert.InprojIdeal.nD Cert.InprojIdeal.τ).loc Cert.InprojIdeal.main_v12_1)) (v2 : (c : Dev Cert.InprojIdeal.nD) → Buf (Elt Ideal) ((c.tc : Thread Cert.InprojIdeal.nD Cert.InprojIdeal.τ).loc Cert.InprojIdeal.main_v12_2)) (v3 : (c : Dev Cert.InprojIdeal.nD) → Buf (Elt Ideal) ((c.tc : Thread Cert.InprojIdeal.nD Cert.InprojIdeal.τ).loc Cert.InprojIdeal.main_v12_3)) (v4 : (c : Dev Cert.InprojIdeal.nD) → Buf (Elt Ideal) ((c.tc : Thread Cert.InprojIdeal.nD Cert.InprojIdeal.τ).loc Cert.InprojIdeal.main_v12_4)) (v5 : (c : Dev Cert.InprojIdeal.nD) → Buf (Elt Ideal) ((c.tc : Thread Cert.InprojIdeal.nD Cert.InprojIdeal.τ).loc Cert.InprojIdeal.main_v12_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v12_0) = v0 c
          ∧ r.2.mem ((c.tc : Thread Cert.InprojIdeal.nD Cert.InprojIdeal.τ).loc Cert.InprojIdeal.main_v12_1) = v1 c
          ∧ r.2.mem ((c.tc : Thread Cert.InprojIdeal.nD Cert.InprojIdeal.τ).loc Cert.InprojIdeal.main_v12_2) = v2 c
          ∧ r.2.mem ((c.tc : Thread Cert.InprojIdeal.nD Cert.InprojIdeal.τ).loc Cert.InprojIdeal.main_v12_3) = v3 c
          ∧ r.2.mem ((c.tc : Thread Cert.InprojIdeal.nD Cert.InprojIdeal.τ).loc Cert.InprojIdeal.main_v12_4) = v4 c
          ∧ r.2.mem ((c.tc : Thread Cert.InprojIdeal.nD Cert.InprojIdeal.τ).loc Cert.InprojIdeal.main_v12_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v60) = v0 c
          ∧ r.2.mem ((c.tc : Thread Cert.InprojReferenceIdeal.nD Cert.InprojReferenceIdeal.τ).loc Cert.InprojReferenceIdeal.main_v62) = v1 c
          ∧ r.2.mem ((c.tc : Thread Cert.InprojReferenceIdeal.nD Cert.InprojReferenceIdeal.τ).loc Cert.InprojReferenceIdeal.main_v64) = v2 c
          ∧ r.2.mem ((c.tc : Thread Cert.InprojReferenceIdeal.nD Cert.InprojReferenceIdeal.τ).loc Cert.InprojReferenceIdeal.main_v66) = v3 c
          ∧ r.2.mem ((c.tc : Thread Cert.InprojReferenceIdeal.nD Cert.InprojReferenceIdeal.τ).loc Cert.InprojReferenceIdeal.main_v67) = v4 c
          ∧ r.2.mem ((c.tc : Thread Cert.InprojReferenceIdeal.nD Cert.InprojReferenceIdeal.τ).loc Cert.InprojReferenceIdeal.main_v68) = v5 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_Ssd_SsdIdeal : Prop :=
  True

def algebraic_SsdIdeal_SsdReferenceIdeal_pre_finite_steps [hSsdIdeal : Cert.SsdIdeal.Facts] [hSsdReferenceIdeal : Cert.SsdReferenceIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdIdeal_finite_steps m →
    (∀ c : Dev Cert.SsdIdeal.nD,
      m' ((c.tc : Thread Cert.SsdReferenceIdeal.nD Cert.SsdReferenceIdeal.τ).loc Cert.SsdReferenceIdeal.main_arg0) = m ((c.tc : Thread Cert.SsdIdeal.nD Cert.SsdIdeal.τ).loc Cert.SsdIdeal.main_arg0)
      ∧ m' ((c.tc : Thread Cert.SsdReferenceIdeal.nD Cert.SsdReferenceIdeal.τ).loc Cert.SsdReferenceIdeal.main_arg1) = m ((c.tc : Thread Cert.SsdIdeal.nD Cert.SsdIdeal.τ).loc Cert.SsdIdeal.main_arg1)
      ∧ m' ((c.tc : Thread Cert.SsdReferenceIdeal.nD Cert.SsdReferenceIdeal.τ).loc Cert.SsdReferenceIdeal.main_arg2) = m ((c.tc : Thread Cert.SsdIdeal.nD Cert.SsdIdeal.τ).loc Cert.SsdIdeal.main_arg2)
      ∧ m' ((c.tc : Thread Cert.SsdReferenceIdeal.nD Cert.SsdReferenceIdeal.τ).loc Cert.SsdReferenceIdeal.main_arg3) = m ((c.tc : Thread Cert.SsdIdeal.nD Cert.SsdIdeal.τ).loc Cert.SsdIdeal.main_arg3)
      ∧ m' ((c.tc : Thread Cert.SsdReferenceIdeal.nD Cert.SsdReferenceIdeal.τ).loc Cert.SsdReferenceIdeal.main_arg4) = m ((c.tc : Thread Cert.SsdIdeal.nD Cert.SsdIdeal.τ).loc Cert.SsdIdeal.main_arg4)
      ∧ m' ((c.tc : Thread Cert.SsdReferenceIdeal.nD Cert.SsdReferenceIdeal.τ).loc Cert.SsdReferenceIdeal.main_arg5) = m ((c.tc : Thread Cert.SsdIdeal.nD Cert.SsdIdeal.τ).loc Cert.SsdIdeal.main_arg5)
      ∧ m' ((c.tc : Thread Cert.SsdReferenceIdeal.nD Cert.SsdReferenceIdeal.τ).loc Cert.SsdReferenceIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v12)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v12) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v110) = v0 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4)
          ∧ r.2.mem ((c.tc : Thread Cert.SsdReferenceIdeal.nD Cert.SsdReferenceIdeal.τ).loc Cert.SsdReferenceIdeal.main_arg5) = m' ((c.tc : Thread Cert.SsdReferenceIdeal.nD Cert.SsdReferenceIdeal.τ).loc Cert.SsdReferenceIdeal.main_arg5)
          ∧ r.2.mem ((c.tc : Thread Cert.SsdReferenceIdeal.nD Cert.SsdReferenceIdeal.τ).loc Cert.SsdReferenceIdeal.main_arg6) = m' ((c.tc : Thread Cert.SsdReferenceIdeal.nD Cert.SsdReferenceIdeal.τ).loc Cert.SsdReferenceIdeal.main_arg6))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v11)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v11) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v18) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4))

def Claim : Prop :=
  ∃ (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hSsd : Cert.Ssd.Facts) (hSsdIdeal : Cert.SsdIdeal.Facts) (hSsdReferenceIdeal : Cert.SsdReferenceIdeal.Facts) (hOutproj : Cert.Outproj.Facts) (hOutprojIdeal : Cert.OutprojIdeal.Facts) (hOutprojReferenceIdeal : Cert.OutprojReferenceIdeal.Facts) (hPre_finite_steps : Cert.Pre_finite_steps.Facts),
    quiescent_Ffn (hFfn := hFfn)
    ∧ quiescent_FfnIdeal (hFfnIdeal := hFfnIdeal)
    ∧ quiescent_FfnReferenceIdeal (hFfnReferenceIdeal := hFfnReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Ssd (hSsd := hSsd)
    ∧ quiescent_SsdIdeal (hSsdIdeal := hSsdIdeal)
    ∧ quiescent_SsdIdeal_pre_finite_steps (hSsdIdeal := hSsdIdeal) (hPre_finite_steps := hPre_finite_steps)
    ∧ quiescent_SsdReferenceIdeal (hSsdReferenceIdeal := hSsdReferenceIdeal)
    ∧ quiescent_SsdReferenceIdeal_pre_finite_steps (hSsdReferenceIdeal := hSsdReferenceIdeal) (hPre_finite_steps := hPre_finite_steps)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ preserves_Ffn_FfnIdeal
    ∧ algebraic_FfnIdeal_FfnReferenceIdeal (hFfnIdeal := hFfnIdeal) (hFfnReferenceIdeal := hFfnReferenceIdeal)
    ∧ preserves_Inproj_InprojIdeal
    ∧ algebraic_InprojIdeal_InprojReferenceIdeal (hInprojIdeal := hInprojIdeal) (hInprojReferenceIdeal := hInprojReferenceIdeal)
    ∧ preserves_Ssd_SsdIdeal
    ∧ algebraic_SsdIdeal_SsdReferenceIdeal_pre_finite_steps (hSsdIdeal := hSsdIdeal) (hSsdReferenceIdeal := hSsdReferenceIdeal) (hPre_finite_steps := hPre_finite_steps)
    ∧ preserves_Outproj_OutprojIdeal
    ∧ algebraic_OutprojIdeal_OutprojReferenceIdeal (hOutprojIdeal := hOutprojIdeal) (hOutprojReferenceIdeal := hOutprojReferenceIdeal)
-- ==== Pre_finite_steps.lean ====
abbrev S32768x1024 : Shape := ⟨2, ![32768, 1024]⟩
abbrev S32768x1536 : Shape := ⟨2, ![32768, 1536]⟩
abbrev S32768x128 : Shape := ⟨2, ![32768, 128]⟩
abbrev S1x16 : Shape := ⟨2, ![1, 16]⟩
abbrev S1x1024 : Shape := ⟨2, ![1, 1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S32768x1024 .f32) (main_arg1 : FVec F S32768x1536 .f32) (main_arg2 : FVec F S32768x128 .f32) (main_arg3 : FVec F S1x16 .f32) (main_arg4 : FVec F S1x16 .f32) (main_arg5 : FVec F S1x16 .f32) (main_arg6 : FVec F S1x1024 .f32) : IVec S_ 1 :=
  let main_cst : FVec F S_ .f32 := constant S_ .f32 0x7F800000#32
  let main_v0 : FVec F S32768x128 .f32 := broadcastInDim S32768x128 ![] bcast_S_S32768x128 main_cst
  let main_v1 : IVec S32768x128 1 := cmpf .olt main_arg2 main_v0
  let main_c : IVec S_ 1 := constantI S_ 1 1#1
  let main_v2 : IVec S_ 1 := (fun x v => Host.reduce IntOp.andi x v reducesTo_S32768x128_S_d0_1 h_S_) main_v1 main_c
  let main_cst_0 : FVec F S_ .f32 := constant S_ .f32 0x7F800000#32
  let main_v3 : FVec F S1x16 .f32 := broadcastInDim S1x16 ![] bcast_S_S1x16 main_cst_0
  let main_v4 : IVec S1x16 1 := cmpf .olt main_arg3 main_v3
  let main_c_1 : IVec S_ 1 := constantI S_ 1 1#1
  let main_v5 : IVec S_ 1 := (fun x v => Host.reduce IntOp.andi x v reducesTo_S1x16_S_d0_1 h_S_) main_v4 main_c_1
  let main_v6 : IVec S_ 1 := andi main_v2 main_v5
  let main_cst_2 : FVec F S_ .f32 := constant S_ .f32 0x7F800000#32
  let main_v7 : FVec F S1x16 .f32 := broadcastInDim S1x16 ![] bcast_S_S1x16 main_cst_2
  let main_v8 : IVec S1x16 1 := cmpf .olt main_arg4 main_v7
  let main_c_3 : IVec S_ 1 := constantI S_ 1 1#1
  let main_v9 : IVec S_ 1 := (fun x v => Host.reduce IntOp.andi x v reducesTo_S1x16_S_d0_1 h_S_) main_v8 main_c_3
  let main_v10 : IVec S_ 1 := andi main_v6 main_v9
  main_v10
-- ==== Ffn.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 18
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S32768x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S4x8192x2816, .f32⟩
  | .hbm, ⟨27, _⟩ => ⟨S4x8192x2816, .f32⟩
  | .hbm, ⟨28, _⟩ => ⟨S4x8192x2816, .f32⟩
  | .hbm, ⟨29, _⟩ => ⟨S_, .f32⟩
  | .hbm, ⟨30, _⟩ => ⟨S4x8192x2816, .f32⟩
  | .hbm, ⟨31, _⟩ => ⟨S4x8192x2816, .f32⟩
  | .hbm, ⟨32, _⟩ => ⟨S_, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S4x8192x1024, .f32⟩
  | .hbm, ⟨39, _⟩ => ⟨S1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x8192x1, .f32⟩
  | .hbm, ⟨51, _⟩ => ⟨S4x8192x1024, .f32⟩
  | .hbm, ⟨52, _⟩ => ⟨S4x8192x1024, .f32⟩
  | .hbm, ⟨53, _⟩ => ⟨S1x1x1024, .f32⟩
  | .hbm, ⟨54, _⟩ => ⟨S4x8192x1024, .f32⟩
  | .hbm, ⟨55, _⟩ => ⟨S4x8192x1024, .f32⟩
  | .hbm, ⟨56, _⟩ => ⟨S_, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Inproj.lean ====
abbrev S4x8192x1024 : Shape := ⟨3, ![4, 8192, 1024]⟩
abbrev S1x1024 : Shape := ⟨2, ![1, 1024]⟩
abbrev S1x1024x4112 : Shape := ⟨3, ![1, 1024, 4112]⟩
abbrev S1x4x1536 : Shape := ⟨3, ![1, 4, 1536]⟩
abbrev S1x1536 : Shape := ⟨2, ![1, 1536]⟩
abbrev S1024x4112 : Shape := ⟨2, ![1024, 4112]⟩
abbrev S1024x16 : Shape := ⟨2, ![1024, 16]⟩
abbrev S1024x4096 : Shape := ⟨2, ![1024, 4096]⟩
abbrev S_ : Shape := ⟨0, ![]⟩
abbrev S1024x128 : Shape := ⟨2, ![1024, 128]⟩
abbrev S1024x4224 : Shape := ⟨2, ![1024, 4224]⟩
abbrev S32768x1024 : Shape := ⟨2, ![32768, 1024]⟩
abbrev S1024 : Shape := ⟨1, ![1024]⟩
abbrev S4x1536 : Shape := ⟨2, ![4, 1536]⟩
abbrev S1536 : Shape := ⟨1, ![1536]⟩
abbrev S32768x512 : Shape := ⟨2, ![32768, 512]⟩
abbrev S32768x1536 : Shape := ⟨2, ![32768, 1536]⟩
abbrev S32768x128 : Shape := ⟨2, ![32768, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S520x1536 : Shape := ⟨2, ![520, 1536]⟩
abbrev S8x1536 : Shape := ⟨2, ![8, 1536]⟩
abbrev S512 : Shape := ⟨1, ![512]⟩
abbrev S512x1 : Shape := ⟨2, ![512, 1]⟩
abbrev S1024x512 : Shape := ⟨2, ![1024, 512]⟩
abbrev S520x512 : Shape := ⟨2, ![520, 512]⟩
abbrev S1x512 : Shape := ⟨2, ![1, 512]⟩
abbrev S8x512 : Shape := ⟨2, ![8, 512]⟩

abbrev nBuf : Space → Nat
  | .hbm => 25
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4112, .f32⟩
  | .hbm, ⟨3, _⟩ => ⟨S1x4x1536, .f32⟩
  | .hbm, ⟨4, _⟩ => ⟨S1x1536, .f32⟩
  | .hbm, ⟨5, _⟩ => ⟨S1024x4112, .f32⟩
  | .hbm, ⟨6, _⟩ => ⟨S1024x16, .f32⟩
  | .hbm, ⟨7, _⟩ => ⟨S1024x4096, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x4224, .f32⟩
  | .hbm, ⟨12, _⟩ => ⟨S1024x4224, .bf16⟩
  | .hbm, ⟨13, _⟩ => ⟨S32768x1024, .f32⟩
  | .hbm, ⟨14, _⟩ => ⟨S1024, .f32⟩
  | .hbm, ⟨15, _⟩ => ⟨S1x1024, .f32⟩
  | .hbm, ⟨16, _⟩ => ⟨S4x1536, .f32⟩
  | .hbm, ⟨17, _⟩ => ⟨S1536, .f32⟩
  | .hbm, ⟨18, _⟩ => ⟨S1x1536, .f32⟩
  | .hbm, ⟨19, _⟩ => ⟨S32768x512, .bf16⟩
  | .hbm, ⟨20, _⟩ => ⟨S32768x512, .bf16⟩
  | .hbm, ⟨21, _⟩ => ⟨S32768x512, .bf16⟩
  | .hbm, ⟨22, _⟩ => ⟨S32768x1024, .f32⟩
  | .hbm, ⟨23, _⟩ => ⟨S32768x1536, .f32⟩
  | .hbm, ⟨24, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S4x1536, .f32⟩
  | .local _ .vmem, ⟨5, _⟩ => ⟨S1x1536, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S512x1536, .f32⟩
  | .local _ .vmem, ⟨15, _⟩ => ⟨S512x1536, .f32⟩
  | .local _ .vmem, ⟨16, _⟩ => ⟨S512x128, .f32⟩
  | .local _ .vmem, ⟨17, _⟩ => ⟨S512x128, .f32⟩
  | .local _ .vmem, ⟨18, _⟩ => ⟨S520x1536, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojReferenceIdeal.lean ====
abbrev S4x8192x1024 : Shape := ⟨3, ![4, 8192, 1024]⟩
abbrev S1x1024 : Shape := ⟨2, ![1, 1024]⟩
abbrev S1x1024x4112 : Shape := ⟨3, ![1, 1024, 4112]⟩
abbrev S1x4x1536 : Shape := ⟨3, ![1, 4, 1536]⟩
abbrev S1x1536 : Shape := ⟨2, ![1, 1536]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4112 : Shape := ⟨2, ![1024, 4112]⟩
abbrev S4x8192x4112 : Shape := ⟨3, ![4, 8192, 4112]⟩
abbrev S4x8192x512 : Shape := ⟨3, ![4, 8192, 512]⟩
abbrev S4x8192x1536 : Shape := ⟨3, ![4, 8192, 1536]⟩
abbrev S4x8192x16 : Shape := ⟨3, ![4, 8192, 16]⟩
abbrev S4x1536 : Shape := ⟨2, ![4, 1536]⟩
abbrev S1536 : Shape := ⟨1, ![1536]⟩
abbrev S4x8195x1536 : Shape := ⟨3, ![4, 8195, 1536]⟩
abbrev S1x1x1536 : Shape := ⟨3, ![1, 1, 1536]⟩
abbrev S4x8192x128 : Shape := ⟨3, ![4, 8192, 128]⟩
abbrev S32768x512 : Shape := ⟨2, ![32768, 512]⟩
abbrev S32768x1024 : Shape := ⟨2, ![32768, 1024]⟩
abbrev S32768x1536 : Shape := ⟨2, ![32768, 1536]⟩
abbrev S32768x128 : Shape := ⟨2, ![32768, 128]⟩

abbrev nBuf : Space → Nat
  | .hbm => 98
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4112, .f32⟩
  | .hbm, ⟨3, _⟩ => ⟨S1x4x1536, .f32⟩
  | .hbm, ⟨4, _⟩ => ⟨S1x1536, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x4112, .f32⟩
  | .hbm, ⟨23, _⟩ => ⟨S4x8192x4112, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x1024, .f32⟩
  | .hbm, ⟨28, _⟩ => ⟨S4x8192x1536, .f32⟩
  | .hbm, ⟨29, _⟩ => ⟨S4x8192x16, .f32⟩
  | .hbm, ⟨30, _⟩ => ⟨S_, .f32⟩
  | .hbm, ⟨31, _⟩ => ⟨S4x8192x512, .f32⟩
  | .hbm, ⟨32, _⟩ => ⟨S4x8192x512, .f32⟩
  | .hbm, ⟨33, _⟩ => ⟨S4x1536, .f32⟩
  | .hbm, ⟨34, _⟩ => ⟨S1536, .f32⟩
  | .hbm, ⟨35, _⟩ => ⟨S_, .i32⟩
  | .hbm, ⟨36, _⟩ => ⟨S_, .f32⟩
  | .hbm, ⟨37, _⟩ => ⟨S4x8195x1536, .f32⟩
  | .hbm, ⟨38, _⟩ => ⟨S1x1536, .f32⟩
  | .hbm, ⟨39, _⟩ => ⟨S1536, .f32⟩
  | .hbm, ⟨40, _⟩ => ⟨S4x8192x1536, .f32⟩
  | .hbm, ⟨41, _⟩ => ⟨S1x1x1536, .f32⟩
  | .hbm, ⟨42, _⟩ => ⟨S4x8192x1536, .f32⟩
  | .hbm, ⟨43, _⟩ => ⟨S4x8192x1536, .f32⟩
  | .hbm, ⟨44, _⟩ => ⟨S1x1536, .f32⟩
  | .hbm, ⟨45, _⟩ => ⟨S1536, .f32⟩
  | .hbm, ⟨46, _⟩ => ⟨S4x8192x1536, .f32⟩
  | .hbm, ⟨47, _⟩ => ⟨S1x1x1536, .f32⟩
  | .hbm, ⟨48, _⟩ => ⟨S4x8192x1536, .f32⟩
  | .hbm, ⟨49, _⟩ => ⟨S4x8192x1536, .f32⟩
  | .hbm, ⟨50, _⟩ => ⟨S4x8192x1536, .f32⟩
  | .hbm, ⟨51, _⟩ => ⟨S1x1536, .f32⟩
  | .hbm, ⟨52, _⟩ => ⟨S1536, .f32⟩
  | .hbm, ⟨53, _⟩ => ⟨S4x8192x1536, .f32⟩
  | .hbm, ⟨54, _⟩ => ⟨S1x1x1536, .f32⟩
  | .hbm, ⟨55, _⟩ => ⟨S4x8192x1536, .f32⟩
  | .hbm, ⟨56, _⟩ => ⟨S4x8192x1536, .f32⟩
  | .hbm, ⟨57, _⟩ => ⟨S4x8192x1536, .f32⟩
  | .hbm, ⟨58, _⟩ => ⟨S1x1536, .f32⟩
  | .hbm, ⟨59, _⟩ => ⟨S1536, .f32⟩
  | .hbm, ⟨60, _⟩ => ⟨S4x8192x1536, .f32⟩
  | .hbm, ⟨61, _⟩ => ⟨S1x1x1536, .f32⟩
  | .hbm, ⟨62, _⟩ => ⟨S4x8192x1536, .f32⟩
  | .hbm, ⟨63, _⟩ => ⟨S4x8192x1536, .f32⟩
  | .hbm, ⟨64, _⟩ => ⟨S4x8192x1536, .f32⟩
  | .hbm, ⟨65, _⟩ => ⟨S1x1x1536, .f32⟩
  | .hbm, ⟨66, _⟩ => ⟨S4x8192x1536, .f32⟩
  | .hbm, ⟨67, _⟩ => ⟨S4x8192x1536, .f32⟩
  | .hbm, ⟨68, _⟩ => ⟨S4x8192x1536, .f32⟩
  | .hbm, ⟨69, _⟩ => ⟨S4x8192x1536, .f32⟩
  | .hbm, ⟨70, _⟩ => ⟨S_, .f32⟩
  | .hbm, ⟨71, _⟩ => ⟨S4x8192x1536, .f32⟩
  | .hbm, ⟨72, _⟩ => ⟨S4x8192x1536, .f32⟩
  | .hbm, ⟨73, _⟩ => ⟨S_, .f32⟩
  | .hbm, ⟨74, _⟩ => ⟨S4x8192x1536, .f32⟩
  | .hbm, ⟨75, _⟩ => ⟨S4x8192x1536, .f32⟩
  | .hbm, ⟨76, _⟩ => ⟨S4x8192x1536, .f32⟩
  | .hbm, ⟨77, _⟩ => ⟨S_, .i32⟩
  | .hbm, ⟨78, _⟩ => ⟨S_, .f32⟩
  | .hbm, ⟨79, _⟩ => ⟨S4x8192x128, .f32⟩
  | .hbm, ⟨80, _⟩ => ⟨S32768x512, .f32⟩
  | .hbm, ⟨81, _⟩ => ⟨S32768x512, .bf16⟩
  | .hbm, ⟨82, _⟩ => ⟨S32768x512, .f32⟩
  | .hbm, ⟨83, _⟩ => ⟨S32768x512, .bf16⟩
  | .hbm, ⟨84, _⟩ => ⟨S32768x512, .f32⟩
  | .hbm, ⟨85, _⟩ => ⟨S32768x512, .bf16⟩
  | .hbm, ⟨86, _⟩ => ⟨S4x8192x1024, .f32⟩
  | .hbm, ⟨87, _⟩ => ⟨S4x8192x1024, .f32⟩
  | .hbm, ⟨88, _⟩ => ⟨S_, .f32⟩
  | .hbm, ⟨89, _⟩ => ⟨S4x8192x1024, .f32⟩
  | .hbm, ⟨90, _⟩ => ⟨S4x8192x1024, .f32⟩
  | .hbm, ⟨91, _⟩ => ⟨S_, .f32⟩
  | .hbm, ⟨92, _⟩ => ⟨S4x8192x1024, .f32⟩
  | .hbm, ⟨93, _⟩ => ⟨S4x8192x1024, .f32⟩
  | .hbm, ⟨94, _⟩ => ⟨S4x8192x1024, .f32⟩
  | .hbm, ⟨95, _⟩ => ⟨S32768x1024, .f32⟩
  | .hbm, ⟨96, _⟩ => ⟨S32768x1536, .f32⟩
  | .hbm, ⟨97, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v57 : Ref sig .tc := ⟨.hbm, 76, rfl⟩
abbrev main_c_3 : Ref sig .tc := ⟨.hbm, 77, rfl⟩
abbrev main_call2_v0 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== Ssd.lean ====
abbrev S32768x1024 : Shape := ⟨2, ![32768, 1024]⟩
abbrev S32768x1536 : Shape := ⟨2, ![32768, 1536]⟩
abbrev S32768x128 : Shape := ⟨2, ![32768, 128]⟩
abbrev S1x16 : Shape := ⟨2, ![1, 16]⟩
abbrev S1x1024 : Shape := ⟨2, ![1, 1024]⟩
abbrev S16 : Shape := ⟨1, ![16]⟩
abbrev S16x64 : Shape := ⟨2, ![16, 64]⟩
abbrev S1024 : Shape := ⟨1, ![1024]⟩
abbrev S_ : Shape := ⟨0, ![]⟩
abbrev S128 : Shape := ⟨1, ![128]⟩
abbrev S1x128 : Shape := ⟨2, ![1, 128]⟩
abbrev S128x1024 : Shape := ⟨2, ![128, 1024]⟩
abbrev S128x1536 : Shape := ⟨2, ![128, 1536]⟩
abbrev S128x128 : Shape := ⟨2, ![128, 128]⟩
abbrev S2x128x512 : Shape := ⟨3, ![2, 128, 512]⟩
abbrev S1x128x512 : Shape := ⟨3, ![1, 128, 512]⟩
abbrev S128x512 : Shape := ⟨2, ![128, 512]⟩
abbrev S128x1 : Shape := ⟨2, ![128, 1]⟩
abbrev S1x512 : Shape := ⟨2, ![1, 512]⟩

abbrev nBuf : Space → Nat
  | .hbm => 24
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1536, .f32⟩
  | .hbm, ⟨2, _⟩ => ⟨S32768x128, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x1024, .f32⟩
  | .hbm, ⟨7, _⟩ => ⟨S16, .f32⟩
  | .hbm, ⟨8, _⟩ => ⟨S16x64, .f32⟩
  | .hbm, ⟨9, _⟩ => ⟨S1024, .f32⟩
  | .hbm, ⟨10, _⟩ => ⟨S1x1024, .f32⟩
  | .hbm, ⟨11, _⟩ => ⟨S16, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S16, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1024, .f32⟩
  | .hbm, ⟨22, _⟩ => ⟨S1x1024, .f32⟩
  | .hbm, ⟨23, _⟩ => ⟨S32768x1024, .bf16⟩
  | .local _ .vmem, ⟨0, _⟩ => ⟨S128x1024, .f32⟩
  | .local _ .vmem, ⟨1, _⟩ => ⟨S128x1024, .f32⟩
  | .local _ .vmem, ⟨2, _⟩ => ⟨S128x1536, .f32⟩
  | .local _ .vmem, ⟨3, _⟩ => ⟨S128x1536, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S128x1024, .bf16⟩
  | .local _ .vmem, ⟨11, _⟩ => ⟨S128x1024, .bf16⟩
  | .local _ .vmem, ⟨12, _⟩ => ⟨S2x128x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SsdReferenceIdeal.lean ====
abbrev S32768x1024 : Shape := ⟨2, ![32768, 1024]⟩
abbrev S32768x1536 : Shape := ⟨2, ![32768, 1536]⟩
abbrev S32768x128 : Shape := ⟨2, ![32768, 128]⟩
abbrev S1x16 : Shape := ⟨2, ![1, 16]⟩
abbrev S1x1024 : Shape := ⟨2, ![1, 1024]⟩
abbrev S4x8192x1024 : Shape := ⟨3, ![4, 8192, 1024]⟩
abbrev S4x8192x1536 : Shape := ⟨3, ![4, 8192, 1536]⟩
abbrev S4x8192x128 : Shape := ⟨3, ![4, 8192, 128]⟩
abbrev S4x8192x16 : Shape := ⟨3, ![4, 8192, 16]⟩
abbrev S16 : Shape := ⟨1, ![16]⟩
abbrev S1024 : Shape := ⟨1, ![1024]⟩
abbrev S4x8192x256 : Shape := ⟨3, ![4, 8192, 256]⟩
abbrev S4x8192x2x8x64 : Shape := ⟨5, ![4, 8192, 2, 8, 64]⟩
abbrev S4x8192x2x128 : Shape := ⟨4, ![4, 8192, 2, 128]⟩
abbrev S1x1x16 : Shape := ⟨3, ![1, 1, 16]⟩
abbrev S_ : Shape := ⟨0, ![]⟩
abbrev S4x8192x2x8 : Shape := ⟨4, ![4, 8192, 2, 8]⟩
abbrev S2x8 : Shape := ⟨2, ![2, 8]⟩
abbrev S4x8192x2x8x1 : Shape := ⟨5, ![4, 8192, 2, 8, 1]⟩
abbrev S1x1x2x8 : Shape := ⟨4, ![1, 1, 2, 8]⟩
abbrev S4x64x128x2x8x64 : Shape := ⟨6, ![4, 64, 128, 2, 8, 64]⟩
abbrev S4x64x128x2x8 : Shape := ⟨5, ![4, 64, 128, 2, 8]⟩
abbrev S4x2x8x64x128 : Shape := ⟨5, ![4, 2, 8, 64, 128]⟩
abbrev S4x64x128x2x128 : Shape := ⟨5, ![4, 64, 128, 2, 128]⟩
abbrev S4x2x8x64x128x1 : Shape := ⟨6, ![4, 2, 8, 64, 128, 1]⟩
abbrev S4x2x8x64x128x128 : Shape := ⟨6, ![4, 2, 8, 64, 128, 128]⟩
abbrev S128x128 : Shape := ⟨2, ![128, 128]⟩
abbrev S4x2x64x128x128 : Shape := ⟨5, ![4, 2, 64, 128, 128]⟩
abbrev S4x2x1x64x128x128 : Shape := ⟨6, ![4, 2, 1, 64, 128, 128]⟩
abbrev S4x64x2x8x64x128 : Shape := ⟨6, ![4, 64, 2, 8, 64, 128]⟩
abbrev S4x2x8x64x1 : Shape := ⟨5, ![4, 2, 8, 64, 1]⟩
abbrev S4x64x128x2x8x1 : Shape := ⟨6, ![4, 64, 128, 2, 8, 1]⟩
abbrev S4x1x2x8x64x128 : Shape := ⟨6, ![4, 1, 2, 8, 64, 128]⟩
abbrev S4x65x2x8x64x128 : Shape := ⟨6, ![4, 65, 2, 8, 64, 128]⟩
abbrev S4x2x8x64 : Shape := ⟨4, ![4, 2, 8, 64]⟩
abbrev S4x2x8x65 : Shape := ⟨4, ![4, 2, 8, 65]⟩
abbrev S4x2x8x65x1 : Shape := ⟨5, ![4, 2, 8, 65, 1]⟩
abbrev S4x2x8x65x65 : Shape := ⟨5, ![4, 2, 8, 65, 65]⟩
abbrev S65x65 : Shape := ⟨2, ![65, 65]⟩
abbrev S4x2x8x64x128x65 : Shape := ⟨6, ![4, 2, 8, 64, 128, 65]⟩
abbrev S2x8x1 : Shape := ⟨3, ![2, 8, 1]⟩
abbrev S1x1x2x8x1 : Shape := ⟨5, ![1, 1, 2, 8, 1]⟩
abbrev S4x8192x2x512 : Shape := ⟨4, ![4, 8192, 2, 512]⟩
abbrev S2x512 : Shape := ⟨2, ![2, 512]⟩
abbrev S4x8192x2 : Shape := ⟨3, ![4, 8192, 2]⟩
abbrev S4x8192x2x1 : Shape := ⟨4, ![4, 8192, 2, 1]⟩
abbrev S1x1x2x512 : Shape := ⟨4, ![1, 1, 2, 512]⟩

abbrev nBuf : Space → Nat
  | .hbm => 195
  | .vmem => 0
  | .smem => 0
  | _ => 0

abbrev hbmTy0_0 (i : Nat) : BufTy := match i % 128 with
  | 0 => ⟨S32768x1024, .f32⟩
  | 1 => ⟨S32768x1536, .f32⟩
  | 2 => ⟨S32768x128, .f32⟩
  | 3 => ⟨S1x16, .f32⟩
  | 4 => ⟨S1x16, .f32⟩
  | 5 => ⟨S1x16, .f32⟩
  | 6 => ⟨S1x1024, .f32⟩
  | 7 => ⟨S4x8192x1024, .f32⟩
  | 8 => ⟨S4x8192x1536, .f32⟩
  | 9 => ⟨S4x8192x128, .f32⟩
  | 10 => ⟨S4x8192x16, .f32⟩
  | 11 => ⟨S16, .f32⟩
  | 12 => ⟨S16, .f32⟩
  | 13 => ⟨S16, .f32⟩
  | 14 => ⟨S1024, .f32⟩
  | 15 => ⟨S4x8192x1024, .f32⟩
  | 16 => ⟨S4x8192x256, .f32⟩
  | 17 => ⟨S4x8192x256, .f32⟩
  | 18 => ⟨S4x8192x2x8x64, .f32⟩
  | 19 => ⟨S4x8192x2x128, .f32⟩
  | 20 => ⟨S4x8192x2x128, .f32⟩
  | 21 => ⟨S1x1x16, .f32⟩
  | 22 => ⟨S4x8192x16, .f32⟩
  | 23 => ⟨S4x8192x16, .f32⟩
  | 24 => ⟨S_, .f32⟩
  | 25 => ⟨S4x8192x16, .f32⟩
  | 26 => ⟨S4x8192x16, .f32⟩
  | 27 => ⟨S4x8192x16, .f32⟩
  | 28 => ⟨S4x8192x16, .f32⟩
  | 29 => ⟨S4x8192x16, .i1⟩
  | 30 => ⟨S4x8192x16, .f32⟩
  | 31 => ⟨S4x8192x16, .f32⟩
  | 32 => ⟨S4x8192x16, .f32⟩
  | 33 => ⟨S4x8192x16, .f32⟩
  | 34 => ⟨S4x8192x16, .f32⟩
  | 35 => ⟨S4x8192x16, .f32⟩
  | 36 => ⟨S4x8192x16, .f32⟩
  | 37 => ⟨S4x8192x16, .f32⟩
  | 38 => ⟨S4x8192x2x8, .f32⟩
  | 39 => ⟨S16, .f32⟩
  | 40 => ⟨S2x8, .f32⟩
  | 41 => ⟨S2x8, .f32⟩
  | 42 => ⟨S4x8192x2x8x1, .f32⟩
  | 43 => ⟨S4x8192x2x8x64, .f32⟩
  | 44 => ⟨S4x8192x2x8x64, .f32⟩
  | 45 => ⟨S1x1x2x8, .f32⟩
  | 46 => ⟨S4x8192x2x8, .f32⟩
  | 47 => ⟨S4x8192x2x8, .f32⟩
  | 48 => ⟨S4x64x128x2x8x64, .f32⟩
  | 49 => ⟨S4x64x128x2x8, .f32⟩
  | 50 => ⟨S4x2x8x64x128, .f32⟩
  | 51 => ⟨S4x64x128x2x128, .f32⟩
  | 52 => ⟨S4x64x128x2x128, .f32⟩
  | 53 => ⟨S_, .f32⟩
  | 54 => ⟨S_, .f32⟩
  | 55 => ⟨S4x2x8x64x128, .f32⟩
  | 56 => ⟨S4x2x8x64x128x1, .f32⟩
  | 57 => ⟨S4x2x8x64x128x128, .f32⟩
  | 58 => ⟨S_, .i1⟩
  | 59 => ⟨S128x128, .i1⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .i1⟩
  | 67 => ⟨S128x128, .i1⟩
  | 68 => ⟨S128x128, .i1⟩
  | 69 => ⟨S_, .f32⟩
  | 70 => ⟨S_, .f32⟩
  | 71 => ⟨S4x2x8x64x128x128, .i1⟩
  | 72 => ⟨S4x2x8x64x128x128, .f32⟩
  | 73 => ⟨S4x2x8x64x128x128, .f32⟩
  | 74 => ⟨S_, .f32⟩
  | 75 => ⟨S_, .f32⟩
  | 76 => ⟨S4x2x8x64x128x128, .f32⟩
  | 77 => ⟨S_, .i1⟩
  | 78 => ⟨S128x128, .i1⟩
  | 79 => ⟨S128x128, .i32⟩
  | 80 => ⟨S_, .i32⟩
  | 81 => ⟨S128x128, .i32⟩
  | 82 => ⟨S128x128, .i32⟩
  | 83 => ⟨S128x128, .i32⟩
  | 84 => ⟨S128x128, .i1⟩
  | 85 => ⟨S_, .i1⟩
  | 86 => ⟨S128x128, .i1⟩
  | 87 => ⟨S128x128, .i1⟩
  | 88 => ⟨S_, .f32⟩
  | 89 => ⟨S_, .f32⟩
  | 90 => ⟨S4x2x8x64x128x128, .i1⟩
  | 91 => ⟨S4x2x8x64x128x128, .f32⟩
  | 92 => ⟨S4x2x8x64x128x128, .f32⟩
  | 93 => ⟨S4x2x8x64x128x128, .f32⟩
  | 94 => ⟨S4x2x64x128x128, .f32⟩
  | 95 => ⟨S4x2x1x64x128x128, .f32⟩
  | 96 => ⟨S4x2x8x64x128x128, .f32⟩
  | 97 => ⟨S4x2x8x64x128x128, .f32⟩
  | 98 => ⟨S4x64x2x8x64x128, .f32⟩
  | 99 => ⟨S4x64x128x2x8x64, .f32⟩
  | 100 => ⟨S4x2x8x64x1, .f32⟩
  | 101 => ⟨S4x2x8x64x128, .f32⟩
  | 102 => ⟨S4x2x8x64x128, .f32⟩
  | 103 => ⟨S4x2x8x64x128, .f32⟩
  | 104 => ⟨S4x64x128x2x8, .f32⟩
  | 105 => ⟨S4x64x128x2x8x1, .f32⟩
  | 106 => ⟨S4x64x128x2x8x64, .f32⟩
  | 107 => ⟨S4x64x128x2x8x64, .f32⟩
  | 108 => ⟨S4x64x2x8x64x128, .f32⟩
  | 109 => ⟨S4x1x2x8x64x128, .f32⟩
  | 110 => ⟨S_, .f32⟩
  | 111 => ⟨S4x1x2x8x64x128, .f32⟩
  | 112 => ⟨S4x65x2x8x64x128, .f32⟩
  | 113 => ⟨S4x2x8x64x1, .f32⟩
  | 114 => ⟨S4x2x8x64, .f32⟩
  | 115 => ⟨S_, .i32⟩
  | 116 => ⟨S_, .f32⟩
  | 117 => ⟨S4x2x8x65, .f32⟩
  | 118 => ⟨S4x2x8x65x1, .f32⟩
  | 119 => ⟨S4x2x8x65x65, .f32⟩
  | 120 => ⟨S_, .i1⟩
  | 121 => ⟨S65x65, .i1⟩
  | 122 => ⟨S65x65, .i32⟩
  | 123 => ⟨S_, .i32⟩
  | 124 => ⟨S65x65, .i32⟩
  | 125 => ⟨S65x65, .i32⟩
  | 126 => ⟨S65x65, .i32⟩
  | 127 => ⟨S65x65, .i1⟩
  | _ => ⟨S32768x1024, .f32⟩

abbrev hbmTy0_1 (i : Nat) : BufTy := match i % 128 with
  | 0 => ⟨S_, .i1⟩
  | 1 => ⟨S65x65, .i1⟩
  | 2 => ⟨S65x65, .i1⟩
  | 3 => ⟨S_, .f32⟩
  | 4 => ⟨S_, .f32⟩
  | 5 => ⟨S4x2x8x65x65, .i1⟩
  | 6 => ⟨S4x2x8x65x65, .f32⟩
  | 7 => ⟨S4x2x8x65x65, .f32⟩
  | 8 => ⟨S_, .f32⟩
  | 9 => ⟨S_, .f32⟩
  | 10 => ⟨S4x2x8x65x65, .f32⟩
  | 11 => ⟨S_, .i1⟩
  | 12 => ⟨S65x65, .i1⟩
  | 13 => ⟨S65x65, .i32⟩
  | 14 => ⟨S_, .i32⟩
  | 15 => ⟨S65x65, .i32⟩
  | 16 => ⟨S65x65, .i32⟩
  | 17 => ⟨S65x65, .i32⟩
  | 18 => ⟨S65x65, .i1⟩
  | 19 => ⟨S_, .i1⟩
  | 20 => ⟨S65x65, .i1⟩
  | 21 => ⟨S65x65, .i1⟩
  | 22 => ⟨S_, .f32⟩
  | 23 => ⟨S_, .f32⟩
  | 24 => ⟨S4x2x8x65x65, .i1⟩
  | 25 => ⟨S4x2x8x65x65, .f32⟩
  | 26 => ⟨S4x2x8x65x65, .f32⟩
  | 27 => ⟨S4x2x8x65x65, .f32⟩
  | 28 => ⟨S4x2x8x64x128x65, .f32⟩
  | 29 => ⟨S4x65x2x8x64x128, .f32⟩
  | 30 => ⟨S4x64x2x8x64x128, .f32⟩
  | 31 => ⟨S4x64x2x8x64x128, .f32⟩
  | 32 => ⟨S4x64x128x2x8x64, .f32⟩
  | 33 => ⟨S4x2x8x64x128, .f32⟩
  | 34 => ⟨S4x64x128x2x8, .f32⟩
  | 35 => ⟨S4x64x128x2x8x1, .f32⟩
  | 36 => ⟨S4x64x128x2x8x64, .f32⟩
  | 37 => ⟨S4x64x128x2x8x64, .f32⟩
  | 38 => ⟨S4x64x128x2x8x64, .f32⟩
  | 39 => ⟨S4x8192x2x8x64, .f32⟩
  | 40 => ⟨S2x8x1, .f32⟩
  | 41 => ⟨S1x1x2x8x1, .f32⟩
  | 42 => ⟨S4x8192x2x8x64, .f32⟩
  | 43 => ⟨S4x8192x2x8x64, .f32⟩
  | 44 => ⟨S4x8192x2x8x64, .f32⟩
  | 45 => ⟨S4x8192x1024, .f32⟩
  | 46 => ⟨S4x8192x1024, .f32⟩
  | 47 => ⟨S4x8192x2x512, .f32⟩
  | 48 => ⟨S2x512, .f32⟩
  | 49 => ⟨S4x8192x2x512, .f32⟩
  | 50 => ⟨S_, .f32⟩
  | 51 => ⟨S4x8192x2, .f32⟩
  | 52 => ⟨S4x8192x2x1, .f32⟩
  | 53 => ⟨S_, .f32⟩
  | 54 => ⟨S4x8192x2x1, .f32⟩
  | 55 => ⟨S4x8192x2x1, .f32⟩
  | 56 => ⟨S_, .f32⟩
  | 57 => ⟨S4x8192x2x1, .f32⟩
  | 58 => ⟨S4x8192x2x1, .f32⟩
  | 59 => ⟨S4x8192x2x1, .f32⟩
  | 60 => ⟨S4x8192x2x512, .f32⟩
  | 61 => ⟨S4x8192x2x512, .f32⟩
  | 62 => ⟨S1x1x2x512, .f32⟩
  | 63 => ⟨S4x8192x2x512, .f32⟩
  | 64 => ⟨S4x8192x2x512, .f32⟩
  | 65 => ⟨S32768x1024, .f32⟩
  | 66 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_call0_cst : Ref sig .tc := ⟨.hbm, 53, rfl⟩
abbrev main_call1_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c : Ref sig .tc := ⟨.hbm, 58, rfl⟩
abbrev main_v36 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_0 : Ref sig .tc := ⟨.hbm, 66, rfl⟩
abbrev main_call2_v5 : Ref sig .tc := ⟨.hbm, 67, rfl⟩
abbrev main_v37 : Ref sig .tc := ⟨.hbm, 68, rfl⟩
abbrev main_cst : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v38 : Ref sig .tc := ⟨.hbm, 73, rfl⟩
abbrev main_call4_call0_cst : Ref sig .tc := ⟨.hbm, 74, rfl⟩
abbrev main_call4_call0_v0 : Ref sig .tc := ⟨.hbm, 75, rfl⟩
abbrev main_v39 : Ref sig .tc := ⟨.hbm, 76, rfl⟩
abbrev main_c_0 : Ref sig .tc := ⟨.hbm, 77, rfl⟩
abbrev main_v40 : Ref sig .tc := ⟨.hbm, 78, rfl⟩
abbrev main_call5_v0 : Ref sig .tc := ⟨.hbm, 79, rfl⟩
abbrev main_call5_c : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_call5_c_0 : Ref sig .tc := ⟨.hbm, 85, rfl⟩
abbrev main_call5_v5 : Ref sig .tc := ⟨.hbm, 86, rfl⟩
abbrev main_v41 : Ref sig .tc := ⟨.hbm, 87, rfl⟩
abbrev main_cst_1 : Ref sig .tc := ⟨.hbm, 88, rfl⟩
abbrev main_call6_v0 : Ref sig .tc := ⟨.hbm, 89, rfl⟩
abbrev main_call6_v1 : Ref sig .tc := ⟨.hbm, 90, rfl⟩
abbrev main_call6_v2 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_2 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_c_3 : Ref sig .tc := ⟨.hbm, 115, rfl⟩
abbrev main_call7_v0 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_c_4 : Ref sig .tc := ⟨.hbm, 120, rfl⟩
abbrev main_v67 : Ref sig .tc := ⟨.hbm, 121, rfl⟩
abbrev main_call8_v0 : Ref sig .tc := ⟨.hbm, 122, rfl⟩
abbrev main_call8_c : Ref sig .tc := ⟨.hbm, 123, rfl⟩
abbrev main_call8_v1 : Ref sig .tc := ⟨.hbm, 124, rfl⟩
abbrev main_call8_v2 : Ref sig .tc := ⟨.hbm, 125, rfl⟩
abbrev main_call8_v3 : Ref sig .tc := ⟨.hbm, 126, rfl⟩
abbrev main_call8_v4 : Ref sig .tc := ⟨.hbm, 127, rfl⟩
abbrev main_call8_c_0 : Ref sig .tc := ⟨.hbm, 128, rfl⟩
abbrev main_call8_v5 : Ref sig .tc := ⟨.hbm, 129, rfl⟩
abbrev main_v68 : Ref sig .tc := ⟨.hbm, 130, rfl⟩
abbrev main_cst_5 : Ref sig .tc := ⟨.hbm, 131, rfl⟩
abbrev main_call9_v0 : Ref sig .tc := ⟨.hbm, 132, rfl⟩
abbrev main_call9_v1 : Ref sig .tc := ⟨.hbm, 133, rfl⟩
abbrev main_call9_v2 : Ref sig .tc := ⟨.hbm, 134, rfl⟩
abbrev main_v69 : Ref sig .tc := ⟨.hbm, 135, rfl⟩
abbrev main_call10_call0_cst : Ref sig .tc := ⟨.hbm, 136, rfl⟩
abbrev main_call10_call0_v0 : Ref sig .tc := ⟨.hbm, 137, rfl⟩
abbrev main_v70 : Ref sig .tc := ⟨.hbm, 138, rfl⟩
abbrev main_c_6 : Ref sig .tc := ⟨.hbm, 139, rfl⟩
abbrev main_v71 : Ref sig .tc := ⟨.hbm, 140, rfl⟩
abbrev main_call11_v0 : Ref sig .tc := ⟨.hbm, 141, rfl⟩
abbrev main_call11_c : Ref sig .tc := ⟨.hbm, 142, rfl⟩
abbrev main_call11_v1 : Ref sig .tc := ⟨.hbm, 143, rfl⟩
abbrev main_call11_v2 : Ref sig .tc := ⟨.hbm, 144, rfl⟩
abbrev main_call11_v3 : Ref sig .tc := ⟨.hbm, 145, rfl⟩
abbrev main_call11_v4 : Ref sig .tc := ⟨.hbm, 146, rfl⟩
abbrev main_call11_c_0 : Ref sig .tc := ⟨.hbm, 147, rfl⟩
abbrev main_call11_v5 : Ref sig .tc := ⟨.hbm, 148, rfl⟩
abbrev main_v72 : Ref sig .tc := ⟨.hbm, 149, rfl⟩
abbrev main_cst_7 : Ref sig .tc := ⟨.hbm, 150, rfl⟩
abbrev main_call12_v0 : Ref sig .tc := ⟨.hbm, 151, rfl⟩
abbrev main_call12_v1 : Ref sig .tc := ⟨.hbm, 152, rfl⟩
abbrev main_call12_v2 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_cst_8 : Ref sig .tc := ⟨.hbm, 178, rfl⟩
abbrev main_v97 : Ref sig .tc := ⟨.hbm, 179, rfl⟩
abbrev main_v98 : Ref sig .tc := ⟨.hbm, 180, rfl⟩
abbrev main_cst_9 : Ref sig .tc := ⟨.hbm, 181, rfl⟩
abbrev main_v99 : Ref sig .tc := ⟨.hbm, 182, rfl⟩
abbrev main_v100 : Ref sig .tc := ⟨.hbm, 183, rfl⟩
abbrev main_cst_10 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩

abbrev nD : Nat := 1
abbrev τ : Topo := Topo.v7x

variable {F : FTy → Type} [FloatOps F]
-- ==== Outproj.lean ====
abbrev S4x8192x1024 : Shape := ⟨3, ![4, 8192, 1024]⟩
abbrev S4x8192x512 : Shape := ⟨3, ![4, 8192, 512]⟩
abbrev S1x1536x1024 : Shape := ⟨3, ![1, 1536, 1024]⟩
abbrev S1x1024 : Shape := ⟨2, ![1, 1024]⟩
abbrev S1536x1024 : Shape := ⟨2, ![1536, 1024]⟩
abbrev S32768x1024 : Shape := ⟨2, ![32768, 1024]⟩
abbrev S32768x512 : Shape := ⟨2, ![32768, 512]⟩
abbrev S512x1024 : Shape := ⟨2, ![512, 1024]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x1024, .f32⟩
  | .hbm, ⟨3, _⟩ => ⟨S1x1536x1024, .f32⟩
  | .hbm, ⟨4, _⟩ => ⟨S1x1024, .f32⟩
  | .hbm, ⟨5, _⟩ => ⟨S1536x1024, .f32⟩
  | .hbm, ⟨6, _⟩ => ⟨S1536x1024, .bf16⟩
  | .hbm, ⟨7, _⟩ => ⟨S32768x1024, .f32⟩
  | .hbm, ⟨8, _⟩ => ⟨S32768x512, .f32⟩
  | .hbm, ⟨9, _⟩ => ⟨S32768x512, .bf16⟩
  | .hbm, ⟨10, _⟩ => ⟨S32768x1024, .f32⟩
  | .hbm, ⟨11, _⟩ => ⟨S32768x1024, .bf16⟩
  | .hbm, ⟨12, _⟩ => ⟨S512x1024, .bf16⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutprojReferenceIdeal.lean ====
abbrev S4x8192x1024 : Shape := ⟨3, ![4, 8192, 1024]⟩
abbrev S4x8192x512 : Shape := ⟨3, ![4, 8192, 512]⟩
abbrev S1x1536x1024 : Shape := ⟨3, ![1, 1536, 1024]⟩
abbrev S1x1024 : Shape := ⟨2, ![1, 1024]⟩
abbrev S4x8192x1536 : Shape := ⟨3, ![4, 8192, 1536]⟩
abbrev S1536x1024 : Shape := ⟨2, ![1536, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x1024, .f32⟩
  | .hbm, ⟨3, _⟩ => ⟨S1x1536x1024, .f32⟩
  | .hbm, ⟨4, _⟩ => ⟨S1x1024, .f32⟩
  | .hbm, ⟨5, _⟩ => ⟨S4x8192x1536, .f32⟩
  | .hbm, ⟨6, _⟩ => ⟨S1536x1024, .f32⟩
  | .hbm, ⟨7, _⟩ => ⟨S4x8192x1024, .f32⟩
  | .hbm, ⟨8, _⟩ => ⟨S1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.FfnRow.lean ====
module
public import proofs.«01_k».proof.Proof.Gen.FfnIdeal.Frame
public import Idealize.ShloMosaic.Lib.Pipeline.ValueKit
set_option maxRecDepth 16384
@[expose] public section

/-! # One row of the feed-forward half step

The half step as a function of one row of activations, and the kernel's block as that function, row by row. -/

noncomputable section
open Idealize.ShloMosaic Idealize.ShloMosaic.TcCoe Idealize.SL.Sem
namespace Cert.FfnIdeal.Value
open Cert.FfnIdeal Cert.FfnIdeal.Gen

/-- `silu a * b`, the gate written as a quotient. -/
def gated (a b : EReal) : EReal := Ideal.div a (1 + Ideal.exp (0 - a)) * b

/-- One chunk of 256 hidden columns: its part of an entry of the down projection. -/
def chunk (h : Fin 1024 → EReal) (g u : Fin 1024 → Fin 256 → EReal) (d : Fin 256 → EReal) : EReal :=
  ∑ j : Fin 256, gated (∑ k, h k * g k j) (∑ k, h k * u k j) * d j

theorem pay4_at (x : FVec Ideal S512x1024 .f32) (p : FVec Ideal S1x1024 .f32)
    (g u : FVec Ideal S1024x256 .bf16) (d : FVec Ideal S256x1024 .bf16) (r : Fin 512) (c : Fin 1024) :
    k0_pay4 (F := Ideal) x p g u d (ix2 r c)
      = chunk (fun k => k0_pay3 (F := Ideal) x p (ix2 r k)) (fun k j => g (ix2 k j)) (fun k j => u (ix2 k j)) (fun j => d (ix2 j c)) := by
  pointwise [k0_pay4, chunk, gated]

theorem pay6_at (h : FVec Ideal S512x1024 .bf16) (acc : FVec Ideal S512x1024 .f32)
    (g u : FVec Ideal S1024x256 .bf16) (d : FVec Ideal S256x1024 .bf16)
    (g' u' : FVec Ideal S1024x256 .bf16) (d' : FVec Ideal S256x1024 .bf16) (r : Fin 512) (c : Fin 1024) :
    k0_pay6 (F := Ideal) h acc (k0_pay5 g) u d g' u' d' (ix2 r c)
      = acc (ix2 r c)
        + chunk (fun k => h (ix2 r k)) (fun k j => g (ix2 k j)) (fun k j => u (ix2 k j)) (fun j => d (ix2 j c))
        + chunk (fun k => h (ix2 r k)) (fun k j => g' (ix2 k j)) (fun k j => u' (ix2 k j)) (fun j => d' (ix2 j c)) := by
  pointwise [k0_pay6, k0_pay5, chunk, gated]

theorem pay8_at (h : FVec Ideal S512x1024 .bf16) (acc : FVec Ideal S512x1024 .f32)
    (g u : FVec Ideal S1024x256 .bf16) (d : FVec Ideal S256x1024 .bf16)
    (g' u' : FVec Ideal S1024x256 .bf16) (d' : FVec Ideal S256x1024 .bf16) (r : Fin 512) (c : Fin 1024) :
    k0_pay8 (F := Ideal) h acc (k0_pay7 h g) u d g' u' d' (ix2 r c)
      = acc (ix2 r c)
        + chunk (fun k => h (ix2 r k)) (fun k j => g (ix2 k j)) (fun k j => u (ix2 k j)) (fun j => d (ix2 j c))
        + chunk (fun k => h (ix2 r k)) (fun k j => g' (ix2 k j)) (fun k j => u' (ix2 k j)) (fun j => d' (ix2 j c)) := by
  pointwise [k0_pay8, k0_pay7, chunk, gated]

theorem pay10_at (h : FVec Ideal S512x1024 .bf16) (acc : FVec Ideal S512x1024 .f32)
    (g u : FVec Ideal S1024x256 .bf16) (d : FVec Ideal S256x1024 .bf16)
    (g' u' : FVec Ideal S1024x256 .bf16) (d' : FVec Ideal S256x1024 .bf16) (r : Fin 512) (c : Fin 1024) :
    k0_pay10 (F := Ideal) h acc (k0_pay9 h g) u d g' u' d' (ix2 r c)
      = acc (ix2 r c)
        + chunk (fun k => h (ix2 r k)) (fun k j => g (ix2 k j)) (fun k j => u (ix2 k j)) (fun j => d (ix2 j c))
        + chunk (fun k => h (ix2 r k)) (fun k j => g' (ix2 k j)) (fun k j => u' (ix2 k j)) (fun j => d' (ix2 j c)) := by
  pointwise [k0_pay10, k0_pay9, chunk, gated]

theorem pay13_at (h : FVec Ideal S512x1024 .bf16) (acc : FVec Ideal S512x1024 .f32)
    (g u : FVec Ideal S1024x256 .bf16) (d : FVec Ideal S256x1024 .bf16)
    (g' u' : FVec Ideal S1024x256 .bf16) (d' : FVec Ideal S256x1024 .bf16) (r : Fin 512) (c : Fin 1024) :
    k0_pay13 (F := Ideal) h acc (k0_pay11 h g) (k0_pay12 u) d g' u' d' (ix2 r c)
      = acc (ix2 r c)
        + chunk (fun k => h (ix2 r k)) (fun k j => g (ix2 k j)) (fun k j => u (ix2 k j)) (fun j => d (ix2 j c))
        + chunk (fun k => h (ix2 r k)) (fun k j => g' (ix2 k j)) (fun k j => u' (ix2 k j)) (fun j => d' (ix2 j c)) := by
  pointwise [k0_pay13, k0_pay11, k0_pay12, chunk, gated]

theorem pay16_at (h : FVec Ideal S512x1024 .bf16) (acc : FVec Ideal S512x1024 .f32)
    (g u : FVec Ideal S1024x256 .bf16) (d : FVec Ideal S256x1024 .bf16)
    (g' u' : FVec Ideal S1024x256 .bf16) (d' : FVec Ideal S256x1024 .bf16) (r : Fin 512) (c : Fin 1024) :
    k0_pay16 (F := Ideal) h acc (k0_pay14 h g) (k0_pay15 h u) d g' u' d' (ix2 r c)
      = acc (ix2 r c)
        + chunk (fun k => h (ix2 r k)) (fun k j => g (ix2 k j)) (fun k j => u (ix2 k j)) (fun j => d (ix2 j c))
        + chunk (fun k => h (ix2 r k)) (fun k j => g' (ix2 k j)) (fun k j => u' (ix2 k j)) (fun j => d' (ix2 j c)) := by
  pointwise [k0_pay16, k0_pay14, k0_pay15, chunk, gated]

/-- The mean square of a row of 1024, plus the normalisation's `ε`, under the square root. -/
def rscale (x : Fin 1024 → EReal) : EReal :=
  Ideal.rsqrt (Ideal.div (∑ k, x k * x k) (Ideal.ofBits .f32 0x44800000#32) + Ideal.ofBits .f32 0x358637BD#32)

/-- A normalised entry of a row. -/
def normed (x g : Fin 1024 → EReal) (k : Fin 1024) : EReal := x k * rscale x * g k

/-- An entry of the gated down projection of a row `h`. -/
def mixed (h : Fin 1024 → EReal) (g u : Fin 1024 → Fin 2816 → EReal) (d : Fin 2816 → Fin 1024 → EReal) (c : Fin 1024) : EReal :=
  ∑ f : Fin 2816, gated (∑ k, h k * g k f) (∑ k, h k * u k f) * d f c

/-- An entry of the half step: the row, plus half the normalised feed-forward of its normalisation. -/
def halfStep (x p : Fin 1024 → EReal) (g u : Fin 1024 → Fin 2816 → EReal) (d : Fin 2816 → Fin 1024 → EReal)
    (q : Fin 1024 → EReal) (c : Fin 1024) : EReal :=
  x c + Ideal.ofBits .f32 0x3F000000#32 * normed (mixed (normed x p) g u d) q c

theorem pay3_at (x : FVec Ideal S512x1024 .f32) (p : FVec Ideal S1x1024 .f32) (r : Fin 512) (c : Fin 1024) :
    k0_pay3 (F := Ideal) x p (ix2 r c) = normed (fun k => x (ix2 r k)) (fun k => p (ix2 0 k)) c := by
  pointwise [k0_pay3, k0_pay2, normed, rscale]

/-- A sum over 2816 columns is the sum over its eleven chunks of 256. -/
theorem sum_chunks (F : Fin 2816 → EReal) :
    ∑ f, F f = ∑ i : Fin 11, ∑ j : Fin 256, F ⟨256 * i.val + j.val, by omega⟩ := by
  rw [← Fintype.sum_prod_type' (f := fun (i : Fin 11) (j : Fin 256) => F ⟨256 * i.val + j.val, by omega⟩)]
  refine (Fintype.sum_equiv (finProdFinEquiv (m := 11) (n := 256)) _ _ fun x => ?_).symm
  congr 1
  apply Fin.ext
  simp [finProdFinEquiv, Nat.add_comm]

theorem mixed_chunks (h : Fin 1024 → EReal) (g u : Fin 1024 → Fin 2816 → EReal) (d : Fin 2816 → Fin 1024 → EReal) (c : Fin 1024) :
    mixed h g u d c = ∑ i : Fin 11, chunk h (fun k j => g k ⟨256 * i.val + j.val, by omega⟩)
      (fun k j => u k ⟨256 * i.val + j.val, by omega⟩) (fun j => d ⟨256 * i.val + j.val, by omega⟩ c) :=
  sum_chunks _

/-- Eleven terms, added from the left. -/
theorem sum_eleven (C : Fin 11 → EReal) :
    ∑ i, C i = C 0 + C 1 + C 2 + C 3 + C 4 + C 5 + C 6 + C 7 + C 8 + C 9 + C 10 := by
  simp only [Fin.sum_univ_castSucc, Fin.sum_univ_zero, zero_add]
  rfl

/-- The down projection of the kernel's block, its eleven chunks added up, is the row's. -/
theorem acc_at (x0 : FVec Ideal S512x1024 .f32) (x1 : FVec Ideal S1x1024 .f32) (x2 x3 : FVec Ideal S1024x2816 .bf16)
    (x4 : FVec Ideal S2816x1024 .bf16) (x5 : FVec Ideal S1x1024 .f32) (r : Fin 512) (c : Fin 1024) :
    k0_pay16 (F := Ideal) (k0_pay19 x0 x1 x2 x3 x4 x5) (k0_pay20 x0 x1 x2 x3 x4 x5) (k0_pay21 x0 x1 x2 x3 x4 x5)
        (k0_pay22 x0 x1 x2 x3 x4 x5) (View.ld x4 r0_21) (View.ld x2 r0_22) (View.ld x3 r0_22) (View.ld x4 r0_23) (ix2 r c)
      = mixed (normed (fun k => x0 (ix2 r k)) (fun k => x1 (ix2 0 k))) (fun k f => x2 (ix2 k f)) (fun k f => x3 (ix2 k f))
          (fun f c => x4 (ix2 f c)) c := by
  unfold k0_pay22 k0_pay21 k0_pay20
  rw [pay16_at, pay13_at, pay10_at, pay8_at, pay6_at, pay4_at]
  unfold k0_pay19
  simp only [pay3_at]
  rw [mixed_chunks]
  rw [sum_eleven]
  pointwise []

/-- The kernel's block of 512 rows holds the half step of each row. -/
theorem block_at (x0 : FVec Ideal S512x1024 .f32) (x1 : FVec Ideal S1x1024 .f32) (x2 x3 : FVec Ideal S1024x2816 .bf16)
    (x4 : FVec Ideal S2816x1024 .bf16) (x5 : FVec Ideal S1x1024 .f32) (r : Fin 512) (c : Fin 1024) :
    (show EReal from out0_6 (F := Ideal) x0 x1 x2 x3 x4 x5 (ix2 r c))
      = halfStep (fun k => x0 (ix2 r k)) (fun k => x1 (ix2 0 k)) (fun k f => x2 (ix2 k f)) (fun k f => x3 (ix2 k f))
          (fun f c => x4 (ix2 f c)) (fun k => x5 (ix2 0 k)) c := by
  unfold out0_6
  have hm := acc_at x0 x1 x2 x3 x4 x5
  unfold k0_pay18
  generalize k0_pay16 (F := Ideal) (k0_pay19 x0 x1 x2 x3 x4 x5) (k0_pay20 x0 x1 x2 x3 x4 x5) (k0_pay21 x0 x1 x2 x3 x4 x5)
        (k0_pay22 x0 x1 x2 x3 x4 x5) (View.ld x4 r0_21) (View.ld x2 r0_22) (View.ld x3 r0_22) (View.ld x4 r0_23) = Y at hm ⊢
  frame_out
  pointwise [k0_pay1, k0_pay2, k0_pay17, halfStep, normed, rscale]
  simp only [hm]

end Cert.FfnIdeal.Value
-- ==== Proof.FfnReference.lean ====
module
public import proofs.«01_k».proof.Proof.FfnRow
public import proofs.«01_k».proof.Proof.Gen.FfnReferenceIdeal.Run
public import Idealize.ShloMosaic.Lib.Pipeline.ValueKit
set_option maxRecDepth 16384
@[expose] public section

/-! # The reference's feed-forward half step, row by row -/

noncomputable section
open Idealize.ShloMosaic Idealize.ShloMosaic.TcCoe Idealize.SL.Sem
namespace Cert.FfnReferenceIdeal.Value
open Cert.FfnReferenceIdeal Cert.FfnReferenceIdeal.Gen
open Cert.FfnIdeal.Value (gated halfStep mixed normed rscale)

theorem exp_nonneg (x : EReal) : 0 ≤ Ideal.exp x := by
  induction x with
  | bot => exact le_refl _
  | top => exact le_top
  | coe r => exact EReal.coe_nonneg.mpr (Real.exp_pos r).le

theorem one_add_exp_ne_zero (x : EReal) : 1 + Ideal.exp x ≠ 0 := by
  have h : (0 : EReal) < 1 + Ideal.exp x :=
    lt_of_lt_of_le zero_lt_one (le_add_of_nonneg_right (exp_nonneg x))
  exact ne_of_gt h

/-- The gate with the logistic written as a factor is the gate written as a quotient. -/
theorem gated_eq (a b : EReal) : a * Ideal.div 1 (1 + Ideal.exp (-a)) * b = gated a b := by
  unfold gated Ideal.div
  rw [zero_sub, if_neg (one_add_exp_ne_zero _), if_neg (one_add_exp_ne_zero _), one_mul]

/-- The normalised activations. -/
def refH (x : FVec Ideal S4x8192x1024 .f32) (p : FVec Ideal S1x1024 .f32) : FVec Ideal S4x8192x1024 .f32 :=
  (mulf (mulf (x) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (x) (x)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (p) shapeCasts_S1x1024_S1024))))

/-- The gated feed-forward of normalised activations. -/
def refY (h : FVec Ideal S4x8192x1024 .f32) (g u : FVec Ideal S1x1024x2816 .f32) (w : FVec Ideal S1x2816x1024 .f32) :
    FVec Ideal S4x8192x1024 .f32 :=
  (Host.dotGeneral dot_S4x8192x2816_S2816x1024_S4x8192x1024_2_0_01_1_n_n none (mulf (mulf (Host.dotGeneral dot_S4x8192x1024_S1024x2816_S4x8192x2816_2_0_01_1_n_n none h (shapeCast _ (g) shapeCasts_S1x1024x2816_S1024x2816)) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (Host.dotGeneral dot_S4x8192x1024_S1024x2816_S4x8192x2816_2_0_01_1_n_n none h (shapeCast _ (g) shapeCasts_S1x1024x2816_S1024x2816))))))) (Host.dotGeneral dot_S4x8192x1024_S1024x2816_S4x8192x2816_2_0_01_1_n_n none h (shapeCast _ (u) shapeCasts_S1x1024x2816_S1024x2816))) (shapeCast _ (w) shapeCasts_S1x2816x1024_S2816x1024))

/-- The half step from the feed-forward's output. -/
def refZ (x y : FVec Ideal S4x8192x1024 .f32) (q : FVec Ideal S1x1024 .f32) : FVec Ideal S32768x1024 .f32 :=
  shapeCast _ (addf (x) (mulf (broadcastInDim S4x8192x1024 ![] bcast_S_S4x8192x1024 (constant S_ .f32 0x3F000000#32)) (mulf (mulf y (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf y y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (q) shapeCasts_S1x1024_S1024)))))) shapeCasts_S4x8192x1024_S32768x1024

theorem refH_at (x : FVec Ideal S4x8192x1024 .f32) (p : FVec Ideal S1x1024 .f32) (b : Fin 4) (s : Fin 8192) (k : Fin 1024) :
    refH x p (ix3 b s k) = normed (fun k => x (ix3 b s k)) (fun k => p (ix2 0 k)) k := by
  pointwise [refH, normed, rscale]

theorem refY_at (h : FVec Ideal S4x8192x1024 .f32) (g u : FVec Ideal S1x1024x2816 .f32) (w : FVec Ideal S1x2816x1024 .f32)
    (b : Fin 4) (s : Fin 8192) (c : Fin 1024) :
    refY h g u w (ix3 b s c) = mixed (fun k => h (ix3 b s k)) (fun k f => g (ix3 0 k f)) (fun k f => u (ix3 0 k f))
      (fun f c => w (ix3 0 f c)) c := by
  pointwise [refY]
  simp only [gated_eq, mixed]

theorem refZ_at (x y : FVec Ideal S4x8192x1024 .f32) (q : FVec Ideal S1x1024 .f32) (r : Fin 32768) (c : Fin 1024) :
    refZ x y q (ix2 r c) = x (ix3 ⟨r.val / 8192, by omega⟩ ⟨r.val % 8192, by omega⟩ c)
      + Ideal.ofBits .f32 0x3F000000#32
        * normed (fun k => y (ix3 ⟨r.val / 8192, by omega⟩ ⟨r.val % 8192, by omega⟩ k)) (fun k => q (ix2 0 k)) c := by
  pointwise [refZ, normed, rscale]

/-- Every entry of the reference's result is the half step of its row. -/
theorem reference_at (x : FVec Ideal S4x8192x1024 .f32) (p q : FVec Ideal S1x1024 .f32)
    (g u : FVec Ideal S1x1024x2816 .f32) (w : FVec Ideal S1x2816x1024 .f32) (r : Fin 32768) (c : Fin 1024) :
    refZ x (refY (refH x p) g u w) q (ix2 r c)
      = halfStep (fun k => x (ix3 ⟨r.val / 8192, by omega⟩ ⟨r.val % 8192, by omega⟩ k)) (fun k => p (ix2 0 k))
          (fun k f => g (ix3 0 k f)) (fun k f => u (ix3 0 k f)) (fun f c => w (ix3 0 f c)) (fun k => q (ix2 0 k)) c := by
  rw [refZ_at, halfStep]
  simp only [refY_at, refH_at]

/-- The reference's result array. -/
theorem result (m : (ℓ : Loc nD τ sig) → Buf (Elt Ideal) ℓ) (d : Dev nD) :
    res_main_v39 (F := Ideal) m d
      = refZ (m ((d.tc : Thread nD τ).loc main_arg0))
          (refY (refH (m ((d.tc : Thread nD τ).loc main_arg0)) (m ((d.tc : Thread nD τ).loc main_arg1)))
            (m ((d.tc : Thread nD τ).loc main_arg2)) (m ((d.tc : Thread nD τ).loc main_arg3)) (m ((d.tc : Thread nD τ).loc main_arg4)))
          (m ((d.tc : Thread nD τ).loc main_arg5)) := rfl

end Cert.FfnReferenceIdeal.Value
-- ==== Proof.FfnValue.lean ====
module
public import proofs.«01_k».proof.Proof.FfnReference
public import Idealize.ShloMosaic.Lib.Pipeline.ValueKit
set_option maxRecDepth 16384
@[expose] public section

/-! # The feed-forward kernel's result array is the reference's -/

noncomputable section
open Idealize.ShloMosaic Idealize.ShloMosaic.TcCoe Idealize.SL.Sem
open Idealize.ShloMosaic.Pipeline (Dat)
namespace Cert.FfnIdeal.Value
open Cert.FfnIdeal Cert.FfnIdeal.Gen
open Cert.FfnReferenceIdeal.Value (refH refY refZ reference_at)

variable (m : (ℓ : Loc nD τ sig) → Buf (Elt Ideal) ℓ)

/-- The reference's result on the kernel's arguments. -/
def want (c : Dev nD) : FVec Ideal S32768x1024 .f32 :=
  refZ (m ((c : Thread nD τ).loc main_arg0))
    (refY (refH (m ((c : Thread nD τ).loc main_arg0)) (m ((c : Thread nD τ).loc main_arg1)))
      (m ((c : Thread nD τ).loc main_arg2)) (m ((c : Thread nD τ).loc main_arg3)) (m ((c : Thread nD τ).loc main_arg4)))
    (m ((c : Thread nD τ).loc main_arg5))

/-- Every window's block index at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ t.val < 64 :=
  (by decide +kernel : ∀ t : Fin grid0.N, _)

theorem read0 (c : Dev nD) (t : Fin cfg0.N) (r : Fin 512) (k : Fin 1024) (h : t.val * 512 + r.val < 32768) :
    (show EReal from iblk m c 0 t (ix2 r k)) = (show FVec Ideal S4x8192x1024 .f32 from m ((c : Thread nD τ).loc main_arg0))
      (ix3 ⟨(t.val * 512 + r.val) / 8192, by omega⟩ ⟨(t.val * 512 + r.val) % 8192, by omega⟩ k) := by
  blk_simp [iblk, idx t]
  entry_read
  pointwise []
  blk_ext [idx t]

theorem read1 (c : Dev nD) (t : Fin cfg0.N) (k : Fin 1024) :
    (show EReal from iblk m c 1 t (ix2 0 k)) = (show FVec Ideal S1x1024 .f32 from m ((c : Thread nD τ).loc main_arg1)) (ix2 0 k) := by
  blk_simp [iblk, idx t]
  entry_read
  pointwise []
  blk_ext [idx t]

theorem read2 (c : Dev nD) (t : Fin cfg0.N) (k : Fin 1024) (f : Fin 2816) :
    (show EReal from iblk m c 2 t (ix2 k f)) = (show FVec Ideal S1x1024x2816 .f32 from m ((c : Thread nD τ).loc main_arg2)) (ix3 0 k f) := by
  blk_simp [iblk, idx t]
  entry_read
  pointwise []
  blk_ext [idx t]

theorem read3 (c : Dev nD) (t : Fin cfg0.N) (k : Fin 1024) (f : Fin 2816) :
    (show EReal from iblk m c 3 t (ix2 k f)) = (show FVec Ideal S1x1024x2816 .f32 from m ((c : Thread nD τ).loc main_arg3)) (ix3 0 k f) := by
  blk_simp [iblk, idx t]
  entry_read
  pointwise []
  blk_ext [idx t]

theorem read4 (c : Dev nD) (t : Fin cfg0.N) (f : Fin 2816) (k : Fin 1024) :
    (show EReal from iblk m c 4 t (ix2 f k)) = (show FVec Ideal S1x2816x1024 .f32 from m ((c : Thread nD τ).loc main_arg4)) (ix3 0 f k) := by
  blk_simp [iblk, idx t]
  entry_read
  pointwise []
  blk_ext [idx t]

theorem read5 (c : Dev nD) (t : Fin cfg0.N) (k : Fin 1024) :
    (show EReal from iblk m c 5 t (ix2 0 k)) = (show FVec Ideal S1x1024 .f32 from m ((c : Thread nD τ).loc main_arg5)) (ix2 0 k) := by
  blk_simp [iblk, idx t]
  entry_read
  pointwise []
  blk_ext [idx t]

/-- What the body leaves at a block index is the reference's entry at the array index it sits at. -/
theorem point (c : Dev nD) (t : Fin cfg0.N) (r : Fin 512) (k : Fin 1024) (h : t.val * 512 + r.val < 32768) :
    (show EReal from out0_6 (iblk m c 0 t) (iblk m c 1 t) (iblk m c 2 t) (iblk m c 3 t) (iblk m c 4 t) (iblk m c 5 t) (ix2 r k))
      = want m c (ix2 ⟨t.val * 512 + r.val, h⟩ k) := by
  rw [want, reference_at]
  refine (block_at _ _ _ _ _ _ r k).trans ?_
  congr 1
  · funext k; exact read0 m c t r k h
  · funext k; exact read1 m c t k
  · funext k f; exact read2 m c t k f
  · funext k f; exact read3 m c t k f
  · funext f k; exact read4 m c t f k
  · funext k; exact read5 m c t k

/-- The result array after the run. -/
theorem final (c : Dev nD) : (dats m 0 c).arrAt 6 (cfgs 0).N = want m c := by
  refine (dats m 0 c).arrAt_eq_of_covers 6 _ (by decide +kernel) fun t _ y => ?_
  obtain ⟨r, k, rfl⟩ : ∃ (r : Fin 512) (k : Fin 1024), y = ix2 r k := ⟨y 0, y 1, eq_ix2 y⟩
  have h : t.val * 512 + r.val < 32768 := by have := (idx t).2.2.2.2.2.2.2; omega
  blk_simp
  rw [after0_6]
  refine (point m c t r k h).trans ?_
  blk_ext [idx t]

end Cert.FfnIdeal.Value
-- ==== Proof.FfnClaim.lean ====
module
public import proofs.«01_k».proof.Defs
public import proofs.«01_k».proof.Proof.FfnValue
public import Idealize.ShloMosaic.Lib.Claim
@[expose] public section

/-! # The feed-forward call against its reference -/

noncomputable section
open Idealize.ShloMosaic Idealize.SL.Sem
namespace Cert.Proof

/-- The kernel's run and the reference's end with the same array. -/
theorem ffn_algebraic : Cert.algebraic_FfnIdeal_FfnReferenceIdeal := by
  pair_intro
  · run_from Cert.FfnIdeal.Gen.run_main m g
  · run_from Cert.FfnReferenceIdeal.Value.run m' g'
    obtain ⟨h0, h1, h2, h3, h4, h5⟩ := hagree c
    refine Eq.trans ?_ (Cert.FfnIdeal.Value.final m c).symm
    rw [Cert.FfnReferenceIdeal.Value.result, h0, h1, h2, h3, h4, h5]
    rfl

/-- The reference runs, its arguments end unchanged, and it declares no counter. -/
theorem ffn_reference_frame : Cert.quiescent_FfnReferenceIdeal := fun m g _ =>
  (θ_run Cert.FfnReferenceIdeal.defs _ _).mono
    (fun r h => ⟨fun c => (h c).2, Idealize.ShloMosaic.sem_eq_zero_of_no_sems (by decide) r.2⟩)
    (Cert.FfnReferenceIdeal.Value.run m g)

end Cert.Proof
-- ==== Proof.InprojRow.lean ====
module
public import proofs.«01_k».proof.Proof.FfnRow
public import proofs.«01_k».proof.Proof.Gen.InprojIdeal.Value
public import Idealize.ShloMosaic.Lib.Pipeline.ValueKit
set_option maxRecDepth 16384
@[expose] public section
noncomputable section
open Idealize.ShloMosaic Idealize.ShloMosaic.TcCoe Idealize.SL.Sem
namespace Cert.InprojIdeal.Value
open Cert.InprojIdeal Cert.InprojIdeal.Gen
open Cert.FfnIdeal.Value (normed rscale)

/-- The gate silu, as the kernel writes it. -/
def silu (a : EReal) : EReal := Ideal.div a (1 + Ideal.exp (0 - a))

/-- The causal depthwise convolution of width 4 at row `r` of a tile whose array starts eight rows earlier. -/
def conv (w₀ w₁ w₂ w₃ b : EReal) (u : Fin 520 → EReal) (r : Fin 512) : EReal :=
  w₀ * u ⟨r.val + 5, by omega⟩ + w₁ * u ⟨r.val + 6, by omega⟩ + w₂ * u ⟨r.val + 7, by omega⟩ + w₃ * u ⟨r.val + 8, by omega⟩ + b

/-- Rolling down by one row, once, twice and three times, away from the wrap. -/
theorem rolled (r : Fin 512) : (r.val + 8 + 520 - 1) % 520 = r.val + 7 ∧ (r.val + 7 + 520 - 1) % 520 = r.val + 6
    ∧ (r.val + 6 + 520 - 1) % 520 = r.val + 5 ∧ 8 + r.val = r.val + 8 := by omega

theorem pay5_at (u : FVec Ideal S520x512 .f32) (w0 w1 w2 w3 b : FVec Ideal S1x512 .f32) (r : Fin 512) (k : Fin 512) :
    k0_pay5 (F := Ideal) u w0 w1 w2 w3 b (ix2 r k)
      = silu (conv (w0 (ix2 0 k)) (w1 (ix2 0 k)) (w2 (ix2 0 k)) (w3 (ix2 0 k)) (b (ix2 0 k)) (fun i => u (ix2 i k)) r) := by
  obtain ⟨e₁, e₂, e₃, e₄⟩ := rolled r
  pointwise [k0_pay5, silu, conv]
  simp only [e₁, e₂, e₃, e₄]

theorem pay11_at (u : FVec Ideal S520x512 .f32) (w0 w1 w2 w3 b : FVec Ideal S1x512 .f32) (r : Fin 512) (k : Fin 512) :
    k0_pay11 (F := Ideal) u (k0_pay9 u w0 w1) w2 w3 b (ix2 r k)
      = silu (conv (w0 (ix2 0 k)) (w1 (ix2 0 k)) (w2 (ix2 0 k)) (w3 (ix2 0 k)) (b (ix2 0 k)) (fun i => u (ix2 i k)) r) := by
  obtain ⟨e₁, e₂, e₃, e₄⟩ := rolled r
  pointwise [k0_pay11, k0_pay9, silu, conv]
  simp only [e₁, e₂, e₃, e₄]

theorem pay19_at (u : FVec Ideal S520x512 .f32) (w0 w1 w2 w3 b : FVec Ideal S1x512 .f32) (r : Fin 512) (k : Fin 512) :
    k0_pay19 (F := Ideal) (k0_pay16 u w0 w1 w2) (k0_pay17 u w3) b (ix2 r k)
      = silu (conv (w0 (ix2 0 k)) (w1 (ix2 0 k)) (w2 (ix2 0 k)) (w3 (ix2 0 k)) (b (ix2 0 k)) (fun i => u (ix2 i k)) r) := by
  obtain ⟨e₁, e₂, e₃, e₄⟩ := rolled r
  pointwise [k0_pay19, k0_pay16, k0_pay17, silu, conv]
  simp only [e₁, e₂, e₃, e₄]

/-- An entry of the joint projection of a normalised row. -/
def proj (x g : Fin 1024 → EReal) (w : Fin 1024 → EReal) : EReal := ∑ k, normed x g k * w k

theorem pay3_at (x : FVec Ideal S512x1024 .f32) (g : FVec Ideal S1x1024 .f32) (w : FVec Ideal S1024x512 .bf16) (r : Fin 512) (k : Fin 512) :
    k0_pay3 (F := Ideal) x g w (ix2 r k) = proj (fun k => x (ix2 r k)) (fun k => g (ix2 0 k)) (fun n => w (ix2 n k)) := by
  pointwise [k0_pay3, k0_pay2, proj, normed, rscale]

theorem pay8_at (x : FVec Ideal S512x1024 .f32) (g : FVec Ideal S1x1024 .f32) (w : FVec Ideal S1024x512 .bf16) (r : Fin 512) (k : Fin 512) :
    k0_pay8 (F := Ideal) (k0_pay2 x g) w (ix2 r k) = proj (fun k => x (ix2 r k)) (fun k => g (ix2 0 k)) (fun n => w (ix2 n k)) := by
  pointwise [k0_pay8, k0_pay2, proj, normed, rscale]

theorem pay15_at (x : FVec Ideal S512x1024 .f32) (g : FVec Ideal S1x1024 .f32) (w : FVec Ideal S1024x512 .bf16) (r : Fin 512) (k : Fin 512) :
    k0_pay15 (F := Ideal) (k0_pay2 x g) w (ix2 r k) = proj (fun k => x (ix2 r k)) (fun k => g (ix2 0 k)) (fun n => w (ix2 n k)) := by
  pointwise [k0_pay15, k0_pay2, proj, normed, rscale]

/-- The scratch array a tile's convolution reads, one column of it: eight rows of the tile before, then the tile's own. -/
def ext (low : Fin 8 → EReal) (u : Fin 512 → EReal) : Fin 520 → EReal := fun i =>
  if h : i.val < 8 then low ⟨i.val, h⟩ else u ⟨i.val - 8, by omega⟩

variable {sig' : RefSig} {κ' : Kind} {sp' : Space}

/-- Reading the scratch array back after the newest store put the tile's rows at row 8 of 512 of its columns. -/
theorem ext_at (v : View sig' κ' sp' S520x1536 .f32) (f : v.ty.Contents (Elt Ideal)) (o : ℕ) (ho : o + 512 ≤ 1536)
    (inb : ∀ a, (![8, o] : Fin 2 → ℕ) a + (![512, 512] : Fin 2 → ℕ) a ≤ S520x1536.size a)
    (w : (Rect.unit (s := S520x1536) ![8, o] ![512, 512] inb).shape.Idx → Elt Ideal .f32) (L : List (View.Piece (Elt Ideal) S520x1536 .f32))
    (low : Fin 8 → EReal) (k : Fin 512) (i : Fin 520) (y : S520x1536.Idx) (hy : y = ix2 i ⟨o + k.val, by omega⟩)
    (hlow : ∀ j : Fin 8, (show EReal from v.read (Elt Ideal) (v.writes (Elt Ideal) f L) (ix2 ⟨j.val, by omega⟩ ⟨o + k.val, by omega⟩)) = low j) :
    (show EReal from v.read (Elt Ideal) (v.writes (Elt Ideal) f (⟨Rect.unit ![8, o] ![512, 512] inb, w⟩ :: L)) y)
      = ext low (fun r => w (ix2 r k)) i := by
  subst hy
  unfold ext
  split
  · rename_i h
    refine (View.read_writes_cons_miss_of_axis v f _ L _ 0 8 512 rfl rfl rfl (Or.inl h)).trans ?_
    exact hlow ⟨i.val, h⟩
  · rename_i h
    refine View.read_writes_cons_hit_of_coords v f _ w L (ix2 ⟨i.val - 8, by omega⟩ k) _ ?_
    intro a
    match a with
    | ⟨0, _⟩ => show i.val = 8 + 1 * (i.val - 8); omega
    | ⟨1, _⟩ => show o + k.val = o + 1 * k.val; omega

/-- The last eight rows, read back right after they were stored. -/
theorem halo_at (v : View sig' κ' sp' S520x1536 .f32) (o : ℕ)
    (inb : ∀ a, (![8, o] : Fin 2 → ℕ) a + (![512, 512] : Fin 2 → ℕ) a ≤ S520x1536.size a)
    (inb' : ∀ a, (![512, o] : Fin 2 → ℕ) a + (![8, 512] : Fin 2 → ℕ) a ≤ S520x1536.size a)
    (w : (Rect.unit (s := S520x1536) ![8, o] ![512, 512] inb).shape.Idx → Elt Ideal .f32) (L : List (View.Piece (Elt Ideal) S520x1536 .f32))
    (i : Fin 8) (k : Fin 512) :
    v.readCov (⟨Rect.unit ![8, o] ![512, 512] inb, w⟩ :: L) (Rect.unit (s := S520x1536) ![512, o] ![8, 512] inb').toLoadRect (ix2 i k)
      = w (ix2 ⟨504 + i.val, by omega⟩ k) := by
  refine View.read_writes_cons_hit_of_coords v v.junk _ w L (ix2 ⟨504 + i.val, by omega⟩ k) _ ?_
  intro a
  match a with
  | ⟨0, _⟩ => show 512 + 1 * i.val = 8 + 1 * (504 + i.val); omega
  | ⟨1, _⟩ => show o + 1 * k.val = o + 1 * k.val; omega

/-- Where the newest store of a list reaches, its payload is what is read; -/
theorem canon_hit {S : Shape} (r : Rect S) (w : r.shape.Idx → Elt Ideal .f32) (L : List (View.Piece (Elt Ideal) S .f32)) (x : r.shape.Idx) (y : S.Idx)
    (hx : ∀ a, (y a).val = r.off a + r.stride a * (x a).val) : View.canon (Val := Elt Ideal) (⟨r, w⟩ :: L) y = w x := by
  have e : r.emb x = y := Rect.emb_eq_of_coords r x y hx
  subst e
  exact View.canon_cons_emb r w L x

/-- elsewhere the older ones are. -/
theorem canon_miss {S : Shape} (p : View.Piece (Elt Ideal) S .f32) (L : List (View.Piece (Elt Ideal) S .f32)) (y : S.Idx) (a : Fin S.rank) (o n : ℕ)
    (ho : p.1.off a = o) (hst : p.1.stride a = 1) (hn : p.1.size a = n) (h : (y a).val < o ∨ o + n ≤ (y a).val) :
    View.canon (Val := Elt Ideal) (p :: L) y = View.canon (Val := Elt Ideal) L y :=
  View.canon_cons_of_not_mem p L (p.1.not_mem_set_of_axis y a o n ho hst hn h)

/-- A block written as two halves. -/
theorem canon_two (i512 : ∀ a, (![0, 512] : Fin 2 → ℕ) a + (![512, 512] : Fin 2 → ℕ) a ≤ S512x1024.size a)
    (i0 : ∀ a, (![0, 0] : Fin 2 → ℕ) a + (![512, 512] : Fin 2 → ℕ) a ≤ S512x1024.size a)
    (w512 w0 : S512x512.Idx → Elt Ideal .f32) (G : Fin 512 → Fin 1024 → EReal)
    (h512 : ∀ r k : Fin 512, (show EReal from w512 (ix2 r k)) = G r ⟨512 + k.val, by omega⟩)
    (h0 : ∀ r k : Fin 512, (show EReal from w0 (ix2 r k)) = G r ⟨0 + k.val, by omega⟩)
    (r : Fin 512) (k : Fin 1024) :
    (show EReal from View.canon (Val := Elt Ideal) (s := S512x1024) (e := .f32) [⟨Rect.unit ![0, 512] ![512, 512] i512, w512⟩, ⟨Rect.unit ![0, 0] ![512, 512] i0, w0⟩] (ix2 r k)) = G r k := by
  by_cases c512 : 512 ≤ k.val
  · have e : k = ⟨512 + (k.val - 512), by omega⟩ := Fin.ext (by simp; omega)
    refine (canon_hit (S := S512x1024) (Rect.unit (s := S512x1024) ![0, 512] ![512, 512] i512) w512 _ (ix2 (n0 := 512) (n1 := 512) r ⟨k.val - 512, by omega⟩) _ ?_).trans ?_
    rotate_left
    · exact (h512 r ⟨k.val - 512, by omega⟩).trans (congrArg (G r) e.symm)
    intro a
    match a with
    | ⟨0, _⟩ => show r.val = 0 + 1 * r.val; omega
    | ⟨1, _⟩ => show k.val = 512 + 1 * (k.val - 512); omega
  refine (canon_miss _ _ _ 1 512 512 rfl rfl rfl (Or.inl (by show k.val < 512; omega))).trans ?_
  have e : k = ⟨0 + k.val, by omega⟩ := Fin.ext (by simp)
  refine (canon_hit (S := S512x1024) (Rect.unit (s := S512x1024) ![0, 0] ![512, 512] i0) w0 _ (ix2 (n0 := 512) (n1 := 512) r ⟨k.val - 0, by omega⟩) _ ?_).trans ?_
  rotate_left
  · exact (h0 r ⟨k.val - 0, by omega⟩).trans (congrArg (G r) e.symm)
  intro a
  match a with
  | ⟨0, _⟩ => show r.val = 0 + 1 * r.val; omega
  | ⟨1, _⟩ => show k.val = 0 + 1 * (k.val - 0); omega

/-- A block written as three thirds. -/
theorem canon_three (i1024 : ∀ a, (![0, 1024] : Fin 2 → ℕ) a + (![512, 512] : Fin 2 → ℕ) a ≤ S512x1536.size a)
    (i512 : ∀ a, (![0, 512] : Fin 2 → ℕ) a + (![512, 512] : Fin 2 → ℕ) a ≤ S512x1536.size a)
    (i0 : ∀ a, (![0, 0] : Fin 2 → ℕ) a + (![512, 512] : Fin 2 → ℕ) a ≤ S512x1536.size a)
    (w1024 w512 w0 : S512x512.Idx → Elt Ideal .f32) (G : Fin 512 → Fin 1536 → EReal)
    (h1024 : ∀ r k : Fin 512, (show EReal from w1024 (ix2 r k)) = G r ⟨1024 + k.val, by omega⟩)
    (h512 : ∀ r k : Fin 512, (show EReal from w512 (ix2 r k)) = G r ⟨512 + k.val, by omega⟩)
    (h0 : ∀ r k : Fin 512, (show EReal from w0 (ix2 r k)) = G r ⟨0 + k.val, by omega⟩)
    (r : Fin 512) (k : Fin 1536) :
    (show EReal from View.canon (Val := Elt Ideal) (s := S512x1536) (e := .f32) [⟨Rect.unit ![0, 1024] ![512, 512] i1024, w1024⟩, ⟨Rect.unit ![0, 512] ![512, 512] i512, w512⟩, ⟨Rect.unit ![0, 0] ![512, 512] i0, w0⟩] (ix2 r k)) = G r k := by
  by_cases c1024 : 1024 ≤ k.val
  · have e : k = ⟨1024 + (k.val - 1024), by omega⟩ := Fin.ext (by simp; omega)
    refine (canon_hit (S := S512x1536) (Rect.unit (s := S512x1536) ![0, 1024] ![512, 512] i1024) w1024 _ (ix2 (n0 := 512) (n1 := 512) r ⟨k.val - 1024, by omega⟩) _ ?_).trans ?_
    rotate_left
    · exact (h1024 r ⟨k.val - 1024, by omega⟩).trans (congrArg (G r) e.symm)
    intro a
    match a with
    | ⟨0, _⟩ => show r.val = 0 + 1 * r.val; omega
    | ⟨1, _⟩ => show k.val = 1024 + 1 * (k.val - 1024); omega
  refine (canon_miss _ _ _ 1 1024 512 rfl rfl rfl (Or.inl (by show k.val < 1024; omega))).trans ?_
  by_cases c512 : 512 ≤ k.val
  · have e : k = ⟨512 + (k.val - 512), by omega⟩ := Fin.ext (by simp; omega)
    refine (canon_hit (S := S512x1536) (Rect.unit (s := S512x1536) ![0, 512] ![512, 512] i512) w512 _ (ix2 (n0 := 512) (n1 := 512) r ⟨k.val - 512, by omega⟩) _ ?_).trans ?_
    rotate_left
    · exact (h512 r ⟨k.val - 512, by omega⟩).trans (congrArg (G r) e.symm)
    intro a
    match a with
    | ⟨0, _⟩ => show r.val = 0 + 1 * r.val; omega
    | ⟨1, _⟩ => show k.val = 512 + 1 * (k.val - 512); omega
  refine (canon_miss _ _ _ 1 512 512 rfl rfl rfl (Or.inl (by show k.val < 512; omega))).trans ?_
  have e : k = ⟨0 + k.val, by omega⟩ := Fin.ext (by simp)
  refine (canon_hit (S := S512x1536) (Rect.unit (s := S512x1536) ![0, 0] ![512, 512] i0) w0 _ (ix2 (n0 := 512) (n1 := 512) r ⟨k.val - 0, by omega⟩) _ ?_).trans ?_
  rotate_left
  · exact (h0 r ⟨k.val - 0, by omega⟩).trans (congrArg (G r) e.symm)
  intro a
  match a with
  | ⟨0, _⟩ => show r.val = 0 + 1 * r.val; omega
  | ⟨1, _⟩ => show k.val = 0 + 1 * (k.val - 0); omega

theorem pay4_id (v : Vec Ideal S8x512 .f32) : k0_pay4 (F := Ideal) v = v := by
  funext i; obtain ⟨a, b, rfl⟩ : ∃ a b, i = ix2 a b := ⟨_, _, (ix2_eta i).symm⟩; pointwise [k0_pay4]

theorem pay10_id (v : Vec Ideal S8x512 .f32) : k0_pay10 (F := Ideal) v = v := by
  funext i; obtain ⟨a, b, rfl⟩ : ∃ a b, i = ix2 a b := ⟨_, _, (ix2_eta i).symm⟩; pointwise [k0_pay10]

theorem pay18_id (v : Vec Ideal S8x512 .f32) : k0_pay18 (F := Ideal) v = v := by
  funext i; obtain ⟨a, b, rfl⟩ : ∃ a b, i = ix2 a b := ⟨_, _, (ix2_eta i).symm⟩; pointwise [k0_pay18]

/-- What a tile leaves in the first eight rows of the scratch array. -/
theorem canon_low (i1024 : ∀ a, (![0, 1024] : Fin 2 → ℕ) a + (![8, 512] : Fin 2 → ℕ) a ≤ S520x1536.size a)
    (j1024 : ∀ a, (![8, 1024] : Fin 2 → ℕ) a + (![512, 512] : Fin 2 → ℕ) a ≤ S520x1536.size a)
    (i512 : ∀ a, (![0, 512] : Fin 2 → ℕ) a + (![8, 512] : Fin 2 → ℕ) a ≤ S520x1536.size a)
    (j512 : ∀ a, (![8, 512] : Fin 2 → ℕ) a + (![512, 512] : Fin 2 → ℕ) a ≤ S520x1536.size a)
    (i0 : ∀ a, (![0, 0] : Fin 2 → ℕ) a + (![8, 512] : Fin 2 → ℕ) a ≤ S520x1536.size a)
    (j0 : ∀ a, (![8, 0] : Fin 2 → ℕ) a + (![512, 512] : Fin 2 → ℕ) a ≤ S520x1536.size a)
    (w1024 w512 w0 : S8x512.Idx → Elt Ideal .f32) (u1024 u512 u0 : S512x512.Idx → Elt Ideal .f32) (L : List (View.Piece (Elt Ideal) S520x1536 .f32))
    (G : Fin 8 → Fin 1536 → EReal)
    (h1024 : ∀ (r : Fin 8) (k : Fin 512), (show EReal from w1024 (ix2 r k)) = G r ⟨1024 + k.val, by omega⟩)
    (h512 : ∀ (r : Fin 8) (k : Fin 512), (show EReal from w512 (ix2 r k)) = G r ⟨512 + k.val, by omega⟩)
    (h0 : ∀ (r : Fin 8) (k : Fin 512), (show EReal from w0 (ix2 r k)) = G r ⟨0 + k.val, by omega⟩)
    (r : Fin 8) (k : Fin 1536) :
    (show EReal from View.canon (Val := Elt Ideal) (s := S520x1536) (e := .f32) (⟨Rect.unit ![0, 1024] ![8, 512] i1024, w1024⟩ :: ⟨Rect.unit ![8, 1024] ![512, 512] j1024, u1024⟩ :: ⟨Rect.unit ![0, 512] ![8, 512] i512, w512⟩ :: ⟨Rect.unit ![8, 512] ![512, 512] j512, u512⟩ :: ⟨Rect.unit ![0, 0] ![8, 512] i0, w0⟩ :: ⟨Rect.unit ![8, 0] ![512, 512] j0, u0⟩ :: L) (ix2 ⟨r.val, by omega⟩ k)) = G r k := by
  by_cases c1024 : 1024 ≤ k.val
  · have e : k = ⟨1024 + (k.val - 1024), by omega⟩ := Fin.ext (by simp; omega)
    refine (canon_hit (S := S520x1536) (Rect.unit (s := S520x1536) ![0, 1024] ![8, 512] i1024) w1024 _ (ix2 (n0 := 8) (n1 := 512) r ⟨k.val - 1024, by omega⟩) _ ?_).trans ?_
    rotate_left
    · exact (h1024 r ⟨k.val - 1024, by omega⟩).trans (congrArg (G r) e.symm)
    intro a
    match a with
    | ⟨0, _⟩ => show r.val = 0 + 1 * r.val; omega
    | ⟨1, _⟩ => show k.val = 1024 + 1 * (k.val - 1024); omega
  refine (canon_miss _ _ _ 1 1024 512 rfl rfl rfl (Or.inl (by show k.val < 1024; omega))).trans ?_
  refine (canon_miss _ _ _ 0 8 512 rfl rfl rfl (Or.inl (by show r.val < 8; omega))).trans ?_
  by_cases c512 : 512 ≤ k.val
  · have e : k = ⟨512 + (k.val - 512), by omega⟩ := Fin.ext (by simp; omega)
    refine (canon_hit (S := S520x1536) (Rect.unit (s := S520x1536) ![0, 512] ![8, 512] i512) w512 _ (ix2 (n0 := 8) (n1 := 512) r ⟨k.val - 512, by omega⟩) _ ?_).trans ?_
    rotate_left
    · exact (h512 r ⟨k.val - 512, by omega⟩).trans (congrArg (G r) e.symm)
    intro a
    match a with
    | ⟨0, _⟩ => show r.val = 0 + 1 * r.val; omega
    | ⟨1, _⟩ => show k.val = 512 + 1 * (k.val - 512); omega
  refine (canon_miss _ _ _ 1 512 512 rfl rfl rfl (Or.inl (by show k.val < 512; omega))).trans ?_
  refine (canon_miss _ _ _ 0 8 512 rfl rfl rfl (Or.inl (by show r.val < 8; omega))).trans ?_
  have e : k = ⟨0 + k.val, by omega⟩ := Fin.ext (by simp)
  refine (canon_hit (S := S520x1536) (Rect.unit (s := S520x1536) ![0, 0] ![8, 512] i0) w0 _ (ix2 (n0 := 8) (n1 := 512) r ⟨k.val - 0, by omega⟩) _ ?_).trans ?_
  rotate_left
  · exact (h0 r ⟨k.val - 0, by omega⟩).trans (congrArg (G r) e.symm)
  intro a
  match a with
  | ⟨0, _⟩ => show r.val = 0 + 1 * r.val; omega
  | ⟨1, _⟩ => show k.val = 0 + 1 * (k.val - 0); omega

end Cert.InprojIdeal.Value
-- ==== Proof.InprojReference.lean ====
module
public import proofs.«01_k».proof.Proof.InprojRow
public import proofs.«01_k».proof.Proof.FfnReference
public import proofs.«01_k».proof.Proof.Gen.InprojReferenceIdeal.Run
public import Idealize.ShloMosaic.Lib.Pipeline.ValueKit
set_option maxRecDepth 16384
@[expose] public section

/-! # The reference's input projection, row by row -/

noncomputable section
open Idealize.ShloMosaic Idealize.ShloMosaic.TcCoe Idealize.SL.Sem
namespace Cert.InprojReferenceIdeal.Value
open Cert.InprojReferenceIdeal Cert.InprojReferenceIdeal.Gen
open Cert.FfnIdeal.Value (normed rscale)
open Cert.InprojIdeal.Value (proj silu)
open Cert.FfnReferenceIdeal.Value (gated_eq)

/-- The joint projection. -/
def refP (x : FVec Ideal S4x8192x1024 .f32) (g : FVec Ideal S1x1024 .f32) (w : FVec Ideal S1x1024x4112 .f32) : FVec Ideal S4x8192x4112 .f32 :=
  Host.dotGeneral dot_S4x8192x1024_S1024x4112_S4x8192x4112_2_0_01_1_n_n none (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ g shapeCasts_S1x1024_S1024)))) (shapeCast _ w shapeCasts_S1x1024x4112_S1024x4112)

/-- The scaled queries. -/
def refQ (y : FVec Ideal S4x8192x4112 .f32) : FVec Ideal S32768x512 .bf16 :=
  truncf .bf16 (shapeCast _ (mulf (extractStridedSlice S4x8192x512 ![0, 0, 0] y slices_S4x8192x4112_S4x8192x512_0_0_0) (broadcastInDim S4x8192x512 ![] bcast_S_S4x8192x512 (constant S_ .f32 0x3E8293EE#32))) shapeCasts_S4x8192x512_S32768x512) bitsLt_bf16_f32

/-- The keys. -/
def refK (y : FVec Ideal S4x8192x4112 .f32) : FVec Ideal S32768x512 .bf16 :=
  truncf .bf16 (shapeCast _ (extractStridedSlice S4x8192x512 ![0, 0, 512] y slices_S4x8192x4112_S4x8192x512_0_0_512) shapeCasts_S4x8192x512_S32768x512) bitsLt_bf16_f32

/-- The values. -/
def refV (y : FVec Ideal S4x8192x4112 .f32) : FVec Ideal S32768x512 .bf16 :=
  truncf .bf16 (shapeCast _ (extractStridedSlice S4x8192x512 ![0, 0, 1024] y slices_S4x8192x4112_S4x8192x512_0_0_1024) shapeCasts_S4x8192x512_S32768x512) bitsLt_bf16_f32

/-- The gate of the state space branch. -/
def refG (y : FVec Ideal S4x8192x4112 .f32) : FVec Ideal S32768x1024 .f32 :=
  shapeCast _ (mulf (extractStridedSlice S4x8192x1024 ![0, 0, 1536] y slices_S4x8192x4112_S4x8192x1024_0_0_1536) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 1536] y slices_S4x8192x4112_S4x8192x1024_0_0_1536)))))) shapeCasts_S4x8192x1024_S32768x1024

/-- The part that is convolved, three zero rows put before it. -/
def refU (y : FVec Ideal S4x8192x4112 .f32) : FVec Ideal S4x8195x1536 .f32 :=
  pad S4x8195x1536 ![0, 3, 0] ![0, 0, 0] ![0, 0, 0] (extractStridedSlice S4x8192x1536 ![0, 0, 2560] y slices_S4x8192x4112_S4x8192x1536_0_0_2560) (sitofp .f32 (constantI S_ 32 0#32)) pads_S4x8192x1536_S4x8195x1536_000_300_000 h_S_

/-- The convolution, as four shifted products. -/
def refC (u : FVec Ideal S4x8195x1536 .f32) (cw : FVec Ideal S1x4x1536 .f32) (cb : FVec Ideal S1x1536 .f32) : FVec Ideal S4x8192x1536 .f32 :=
  addf (addf (addf (addf (mulf (broadcastInDim S4x8192x1536 ![0, 1, 2] bcast_S1x1x1536_S4x8192x1536_0_1_2 (broadcastInDim S1x1x1536 ![2] bcast_S1536_S1x1x1536_2 (shapeCast _ (extractStridedSlice S1x1536 ![0, 0] (shapeCast _ cw shapeCasts_S1x4x1536_S4x1536) slices_S4x1536_S1x1536_0_0) shapeCasts_S1x1536_S1536))) (extractStridedSlice S4x8192x1536 ![0, 0, 0] u slices_S4x8195x1536_S4x8192x1536_0_0_0)) (mulf (broadcastInDim S4x8192x1536 ![0, 1, 2] bcast_S1x1x1536_S4x8192x1536_0_1_2 (broadcastInDim S1x1x1536 ![2] bcast_S1536_S1x1x1536_2 (shapeCast _ (extractStridedSlice S1x1536 ![1, 0] (shapeCast _ cw shapeCasts_S1x4x1536_S4x1536) slices_S4x1536_S1x1536_1_0) shapeCasts_S1x1536_S1536))) (extractStridedSlice S4x8192x1536 ![0, 1, 0] u slices_S4x8195x1536_S4x8192x1536_0_1_0))) (mulf (broadcastInDim S4x8192x1536 ![0, 1, 2] bcast_S1x1x1536_S4x8192x1536_0_1_2 (broadcastInDim S1x1x1536 ![2] bcast_S1536_S1x1x1536_2 (shapeCast _ (extractStridedSlice S1x1536 ![2, 0] (shapeCast _ cw shapeCasts_S1x4x1536_S4x1536) slices_S4x1536_S1x1536_2_0) shapeCasts_S1x1536_S1536))) (extractStridedSlice S4x8192x1536 ![0, 2, 0] u slices_S4x8195x1536_S4x8192x1536_0_2_0))) (mulf (broadcastInDim S4x8192x1536 ![0, 1, 2] bcast_S1x1x1536_S4x8192x1536_0_1_2 (broadcastInDim S1x1x1536 ![2] bcast_S1536_S1x1x1536_2 (shapeCast _ (extractStridedSlice S1x1536 ![3, 0] (shapeCast _ cw shapeCasts_S1x4x1536_S4x1536) slices_S4x1536_S1x1536_3_0) shapeCasts_S1x1536_S1536))) (extractStridedSlice S4x8192x1536 ![0, 3, 0] u slices_S4x8195x1536_S4x8192x1536_0_3_0))) (broadcastInDim S4x8192x1536 ![0, 1, 2] bcast_S1x1x1536_S4x8192x1536_0_1_2 (broadcastInDim S1x1x1536 ![2] bcast_S1536_S1x1x1536_2 (shapeCast _ cb shapeCasts_S1x1536_S1536)))

/-- The gated convolution. -/
def refX (v : FVec Ideal S4x8192x1536 .f32) : FVec Ideal S32768x1536 .f32 :=
  shapeCast _ (mulf v (Host.divf (broadcastInDim S4x8192x1536 ![] bcast_S_S4x8192x1536 (constant S_ .f32 0x3F800000#32)) (addf (broadcastInDim S4x8192x1536 ![] bcast_S_S4x8192x1536 (constant S_ .f32 0x3F800000#32)) (Host.exp (Host.negf v))))) shapeCasts_S4x8192x1536_S32768x1536

/-- The step sizes before their bias, padded to a whole lane group. -/
def refD (y : FVec Ideal S4x8192x4112 .f32) : FVec Ideal S32768x128 .f32 :=
  shapeCast _ (pad S4x8192x128 ![0, 0, 0] ![0, 0, 112] ![0, 0, 0] (extractStridedSlice S4x8192x16 ![0, 0, 4096] y slices_S4x8192x4112_S4x8192x16_0_0_4096) (sitofp .f32 (constantI S_ 32 0#32)) pads_S4x8192x16_S4x8192x128_000_000_01120 h_S_) shapeCasts_S4x8192x128_S32768x128

/-- The gate with the logistic written as a factor is the gate written as a quotient. -/
theorem silu_eq (a : EReal) : a * Ideal.div 1 (1 + Ideal.exp (-a)) = silu a := by
  have h := gated_eq a 1
  rw [mul_one] at h
  rw [h, Cert.FfnIdeal.Value.gated, mul_one, silu]

/-- The padding value. -/
theorem pad_zero : (FloatOps.sitofp (F := Ideal) FTy.f32 (0#32 : BitVec 32) : EReal) = 0 := by
  show (((0#32 : BitVec 32).toInt : ℝ) : EReal) = 0
  simp

theorem refP_at (x : FVec Ideal S4x8192x1024 .f32) (g : FVec Ideal S1x1024 .f32) (w : FVec Ideal S1x1024x4112 .f32)
    (i : Fin 4) (s : Fin 8192) (j : Fin 4112) :
    refP x g w (ix3 i s j) = proj (fun k => x (ix3 i s k)) (fun k => g (ix2 0 k)) (fun n => w (ix3 0 n j)) := by
  pointwise [refP, proj, normed, rscale]

theorem refQ_at (y : FVec Ideal S4x8192x4112 .f32) (r : Fin 32768) (k : Fin 512) :
    refQ y (ix2 r k) = y (ix3 ⟨r.val / 8192, by omega⟩ ⟨r.val % 8192, by omega⟩ ⟨k.val, by omega⟩) * Ideal.ofBits .f32 0x3E8293EE#32 := by
  pointwise [refQ]

theorem refK_at (y : FVec Ideal S4x8192x4112 .f32) (r : Fin 32768) (k : Fin 512) :
    refK y (ix2 r k) = y (ix3 ⟨r.val / 8192, by omega⟩ ⟨r.val % 8192, by omega⟩ ⟨512 + k.val, by omega⟩) := by
  pointwise [refK]

theorem refV_at (y : FVec Ideal S4x8192x4112 .f32) (r : Fin 32768) (k : Fin 512) :
    refV y (ix2 r k) = y (ix3 ⟨r.val / 8192, by omega⟩ ⟨r.val % 8192, by omega⟩ ⟨1024 + k.val, by omega⟩) := by
  pointwise [refV]

theorem refG_at (y : FVec Ideal S4x8192x4112 .f32) (r : Fin 32768) (k : Fin 1024) :
    refG y (ix2 r k) = silu (y (ix3 ⟨r.val / 8192, by omega⟩ ⟨r.val % 8192, by omega⟩ ⟨1536 + k.val, by omega⟩)) := by
  rw [← silu_eq]
  pointwise [refG]

theorem refX_at (v : FVec Ideal S4x8192x1536 .f32) (r : Fin 32768) (k : Fin 1536) :
    refX v (ix2 r k) = silu (v (ix3 ⟨r.val / 8192, by omega⟩ ⟨r.val % 8192, by omega⟩ k)) := by
  rw [← silu_eq]
  pointwise [refX]

theorem refC_at (u : FVec Ideal S4x8195x1536 .f32) (cw : FVec Ideal S1x4x1536 .f32) (cb : FVec Ideal S1x1536 .f32) (i : Fin 4) (s : Fin 8192) (k : Fin 1536) :
    refC u cw cb (ix3 i s k) = cw (ix3 0 0 k) * u (ix3 i ⟨s.val, by omega⟩ k) + cw (ix3 0 1 k) * u (ix3 i ⟨1 + s.val, by omega⟩ k)
      + cw (ix3 0 2 k) * u (ix3 i ⟨2 + s.val, by omega⟩ k) + cw (ix3 0 3 k) * u (ix3 i ⟨3 + s.val, by omega⟩ k) + cb (ix2 0 k) := by
  pointwise [refC]

theorem refU_at (y : FVec Ideal S4x8192x4112 .f32) (i : Fin 4) (s : Fin 8195) (k : Fin 1536) :
    refU y (ix3 i s k) = if h : 3 ≤ s.val ∧ s.val - 3 < 8192 then y (ix3 i ⟨s.val - 3, by omega⟩ ⟨2560 + k.val, by omega⟩) else 0 := by
  pointwise [refU]
  simp only [pad_zero]

theorem refD_at (y : FVec Ideal S4x8192x4112 .f32) (r : Fin 32768) (k : Fin 128) :
    refD y (ix2 r k) = if h : k.val < 16 then y (ix3 ⟨r.val / 8192, by omega⟩ ⟨r.val % 8192, by omega⟩ ⟨4096 + k.val, by omega⟩) else 0 := by
  pointwise [refD]
  simp only [pad_zero]
  have h₁ : r.val / 8192 < 4 := by omega
  have h₂ : r.val % 8192 < 8192 := by omega
  simp only [h₁, h₂, true_and]

end Cert.InprojReferenceIdeal.Value
-- ==== Proof.InprojBlock.lean ====
module
public import proofs.«01_k».proof.Proof.InprojRow
public import proofs.«01_k».proof.Proof.Gen.InprojIdeal.Value
public import Idealize.ShloMosaic.Lib.Pipeline.ValueKit
set_option maxRecDepth 16384
@[expose] public section
noncomputable section
open Idealize.ShloMosaic Idealize.ShloMosaic.TcCoe Idealize.SL.Sem
namespace Cert.InprojIdeal.Value
open Cert.InprojIdeal Cert.InprojIdeal.Gen
open Cert.FfnIdeal.Value (normed rscale)

/-- Row `r` of one tile's block: the entry of the joint projection that column `j` of the weights gives. -/
abbrev ent (x0 : Vec Ideal S512x1024 .f32) (x1 : Vec Ideal S1x1024 .f32) (x2 : Vec Ideal S1024x4224 .bf16) (r : Fin 512) (j : Fin 4224) : EReal :=
  proj (fun k => x0 (ix2 r k)) (fun k => x1 (ix2 0 k)) (fun n => x2 (ix2 n j))

theorem q_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : cond0_0 i)
    (x0 : Vec Ideal S512x1024 .f32) (x1 : Vec Ideal S1x1024 .f32) (x2 : Vec Ideal S1024x4224 .bf16) (x3 : Vec Ideal S4x1536 .f32) (x4 : Vec Ideal S1x1536 .f32) (r : Fin 512) (k : Fin 512) :
    (show EReal from out0_A_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 (ix2 r k)) = ent x0 x1 x2 r ⟨k.val, by omega⟩ * Ideal.ofBits .f32 0x3E8293EE#32 := by
  unfold out0_A_5
  frame_out
  pointwise [k0_pay6, k0_pay2, ent, proj, normed, rscale, silu]

theorem k_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : cond0_0 i)
    (x0 : Vec Ideal S512x1024 .f32) (x1 : Vec Ideal S1x1024 .f32) (x2 : Vec Ideal S1024x4224 .bf16) (x3 : Vec Ideal S4x1536 .f32) (x4 : Vec Ideal S1x1536 .f32) (r : Fin 512) (k : Fin 512) :
    (show EReal from out0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 (ix2 r k)) = ent x0 x1 x2 r ⟨512 + k.val, by omega⟩ := by
  unfold out0_A_6
  frame_out
  pointwise [k0_pay7, k0_pay2, ent, proj, normed, rscale, silu]

theorem v_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : cond0_0 i)
    (x0 : Vec Ideal S512x1024 .f32) (x1 : Vec Ideal S1x1024 .f32) (x2 : Vec Ideal S1024x4224 .bf16) (x3 : Vec Ideal S4x1536 .f32) (x4 : Vec Ideal S1x1536 .f32) (r : Fin 512) (k : Fin 512) :
    (show EReal from out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 (ix2 r k)) = ent x0 x1 x2 r ⟨1024 + k.val, by omega⟩ := by
  unfold out0_A_7
  frame_out
  pointwise [k0_pay12, k0_pay2, ent, proj, normed, rscale, silu]

theorem z_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : cond0_0 i)
    (x0 : Vec Ideal S512x1024 .f32) (x1 : Vec Ideal S1x1024 .f32) (x2 : Vec Ideal S1024x4224 .bf16) (x3 : Vec Ideal S4x1536 .f32) (x4 : Vec Ideal S1x1536 .f32) (r : Fin 512) (k : Fin 1024) :
    (show EReal from out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 (ix2 r k)) = silu (ent x0 x1 x2 r ⟨1536 + k.val, by omega⟩) := by
  unfold out0_A_8
  frame_out
  refine canon_two _ _ _ _ (fun r k => silu (ent x0 x1 x2 r ⟨1536 + k.val, by omega⟩)) ?_ ?_ r k
  · intro r k
    have e : 2048 + k.val = 1536 + (512 + k.val) := by omega
    pointwise [k0_pay20, k0_pay2, ent, proj, normed, rscale, silu]
    simp only [e]
  · intro r k
    pointwise [k0_pay14, k0_pay13, k0_pay2, ent, proj, normed, rscale, silu]

theorem dt_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : cond0_0 i)
    (x0 : Vec Ideal S512x1024 .f32) (x1 : Vec Ideal S1x1024 .f32) (x2 : Vec Ideal S1024x4224 .bf16) (x3 : Vec Ideal S4x1536 .f32) (x4 : Vec Ideal S1x1536 .f32) (r : Fin 512) (k : Fin 128) :
    (show EReal from out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 (ix2 r k)) = ent x0 x1 x2 r ⟨4096 + k.val, by omega⟩ := by
  unfold out0_A_10
  frame_out
  pointwise [k0_pay21, k0_pay2, ent, proj, normed, rscale, silu]

theorem q_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : ¬cond0_0 i)
    (x0 : Vec Ideal S512x1024 .f32) (x1 : Vec Ideal S1x1024 .f32) (x2 : Vec Ideal S1024x4224 .bf16) (x3 : Vec Ideal S4x1536 .f32) (x4 : Vec Ideal S1x1536 .f32) (xs0 : Vec Ideal S520x1536 .f32) (r : Fin 512) (k : Fin 512) :
    (show EReal from out0_B_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 (ix2 r k)) = ent x0 x1 x2 r ⟨k.val, by omega⟩ * Ideal.ofBits .f32 0x3E8293EE#32 := by
  unfold out0_B_5
  frame_out
  pointwise [k0_pay6, k0_pay2, ent, proj, normed, rscale, silu]

theorem k_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : ¬cond0_0 i)
    (x0 : Vec Ideal S512x1024 .f32) (x1 : Vec Ideal S1x1024 .f32) (x2 : Vec Ideal S1024x4224 .bf16) (x3 : Vec Ideal S4x1536 .f32) (x4 : Vec Ideal S1x1536 .f32) (xs0 : Vec Ideal S520x1536 .f32) (r : Fin 512) (k : Fin 512) :
    (show EReal from out0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 (ix2 r k)) = ent x0 x1 x2 r ⟨512 + k.val, by omega⟩ := by
  unfold out0_B_6
  frame_out
  pointwise [k0_pay7, k0_pay2, ent, proj, normed, rscale, silu]

theorem v_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : ¬cond0_0 i)
    (x0 : Vec Ideal S512x1024 .f32) (x1 : Vec Ideal S1x1024 .f32) (x2 : Vec Ideal S1024x4224 .bf16) (x3 : Vec Ideal S4x1536 .f32) (x4 : Vec Ideal S1x1536 .f32) (xs0 : Vec Ideal S520x1536 .f32) (r : Fin 512) (k : Fin 512) :
    (show EReal from out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 (ix2 r k)) = ent x0 x1 x2 r ⟨1024 + k.val, by omega⟩ := by
  unfold out0_B_7
  frame_out
  pointwise [k0_pay12, k0_pay2, ent, proj, normed, rscale, silu]

theorem z_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : ¬cond0_0 i)
    (x0 : Vec Ideal S512x1024 .f32) (x1 : Vec Ideal S1x1024 .f32) (x2 : Vec Ideal S1024x4224 .bf16) (x3 : Vec Ideal S4x1536 .f32) (x4 : Vec Ideal S1x1536 .f32) (xs0 : Vec Ideal S520x1536 .f32) (r : Fin 512) (k : Fin 1024) :
    (show EReal from out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 (ix2 r k)) = silu (ent x0 x1 x2 r ⟨1536 + k.val, by omega⟩) := by
  unfold out0_B_8
  frame_out
  refine canon_two _ _ _ _ (fun r k => silu (ent x0 x1 x2 r ⟨1536 + k.val, by omega⟩)) ?_ ?_ r k
  · intro r k
    have e : 2048 + k.val = 1536 + (512 + k.val) := by omega
    pointwise [k0_pay20, k0_pay2, ent, proj, normed, rscale, silu]
    simp only [e]
  · intro r k
    pointwise [k0_pay14, k0_pay13, k0_pay2, ent, proj, normed, rscale, silu]

theorem dt_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : ¬cond0_0 i)
    (x0 : Vec Ideal S512x1024 .f32) (x1 : Vec Ideal S1x1024 .f32) (x2 : Vec Ideal S1024x4224 .bf16) (x3 : Vec Ideal S4x1536 .f32) (x4 : Vec Ideal S1x1536 .f32) (xs0 : Vec Ideal S520x1536 .f32) (r : Fin 512) (k : Fin 128) :
    (show EReal from out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 (ix2 r k)) = ent x0 x1 x2 r ⟨4096 + k.val, by omega⟩ := by
  unfold out0_B_10
  frame_out
  pointwise [k0_pay21, k0_pay2, ent, proj, normed, rscale, silu]

/-- Row `r` of one tile's block: a convolved and gated entry, the eight rows before the tile given. -/
def mixed (x0 : Vec Ideal S512x1024 .f32) (x1 : Vec Ideal S1x1024 .f32) (x2 : Vec Ideal S1024x4224 .bf16) (x3 : Vec Ideal S4x1536 .f32)
    (x4 : Vec Ideal S1x1536 .f32) (low : Fin 8 → EReal) (r : Fin 512) (k : Fin 1536) : EReal :=
  silu (conv (x3 (ix2 0 k)) (x3 (ix2 1 k)) (x3 (ix2 2 k)) (x3 (ix2 3 k)) (x4 (ix2 0 k))
    (ext low (fun r => ent x0 x1 x2 r ⟨2560 + k.val, by omega⟩)) r)

theorem xbc_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : cond0_0 i)
    (x0 : Vec Ideal S512x1024 .f32) (x1 : Vec Ideal S1x1024 .f32) (x2 : Vec Ideal S1024x4224 .bf16) (x3 : Vec Ideal S4x1536 .f32) (x4 : Vec Ideal S1x1536 .f32) (r : Fin 512) (k : Fin 1536) :
    (show EReal from out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 (ix2 r k))
      = mixed x0 x1 x2 x3 x4 (fun _ => 0) r k := by
  unfold out0_A_9
  frame_out
  refine canon_three _ _ _ _ _ _ (fun r k => mixed x0 x1 x2 x3 x4 (fun _ => 0) r k) ?_ ?_ ?_ r k
  · intro r k
    refine (pay19_at _ _ _ _ _ _ r k).trans ?_
    unfold mixed
    congr 1
    congr 1
    · pointwise
    · pointwise
    · pointwise
    · pointwise
    · pointwise
    · funext i
      refine (ext_at arg12.view _ 1024 (by omega) _ _ _ _ k i _ (Rect.emb_eq_of_coords _ _ _ ?_) ?_).trans
        (congrArg (fun u => ext _ u i) (funext fun r => ((pay15_at _ _ _ r k).trans ?_)))
      · intro a
        match a with
        | ⟨0, _⟩ => show i.val = 0 + 1 * i.val; omega
        | ⟨1, _⟩ => show 1024 + k.val = 1024 + 1 * k.val; omega
      · intro j
        refine (View.read_writes_cons_miss_of_axis _ _ _ _ _ 1 512 512 rfl rfl rfl (Or.inr (by show 512 + 512 ≤ 1024 + k.val; omega))).trans ?_
        refine (View.read_writes_cons_miss_of_axis _ _ _ _ _ 1 512 512 rfl rfl rfl (Or.inr (by show 512 + 512 ≤ 1024 + k.val; omega))).trans ?_
        refine (View.read_writes_cons_miss_of_axis _ _ _ _ _ 1 0 512 rfl rfl rfl (Or.inr (by show 0 + 512 ≤ 1024 + k.val; omega))).trans ?_
        refine (View.read_writes_cons_miss_of_axis _ _ _ _ _ 1 0 512 rfl rfl rfl (Or.inr (by show 0 + 512 ≤ 1024 + k.val; omega))).trans ?_
        refine (View.read_writes_cons_hit_of_coords _ _ _ _ _ (ix2 j ⟨1024 + k.val, by omega⟩) _ ?_).trans ?_
        · intro a
          match a with
          | ⟨0, _⟩ => show j.val = 0 + 1 * j.val; omega
          | ⟨1, _⟩ => show 1024 + k.val = 0 + 1 * (1024 + k.val); omega
        · pointwise [k0_pay1]
      · refine congrArg (proj _ _) (funext fun n => ?_)
        pointwise
        exact congrArg (fun j => x2 (ix2 n j)) (Fin.ext (by show 3584 + k.val = 2560 + (1024 + k.val); omega))
  · intro r k
    refine (pay11_at _ _ _ _ _ _ r k).trans ?_
    unfold mixed
    congr 1
    congr 1
    · pointwise
    · pointwise
    · pointwise
    · pointwise
    · pointwise
    · funext i
      refine (ext_at arg12.view _ 512 (by omega) _ _ _ _ k i _ (Rect.emb_eq_of_coords _ _ _ ?_) ?_).trans
        (congrArg (fun u => ext _ u i) (funext fun r => ((pay8_at _ _ _ r k).trans ?_)))
      · intro a
        match a with
        | ⟨0, _⟩ => show i.val = 0 + 1 * i.val; omega
        | ⟨1, _⟩ => show 512 + k.val = 512 + 1 * k.val; omega
      · intro j
        refine (View.read_writes_cons_miss_of_axis _ _ _ _ _ 1 0 512 rfl rfl rfl (Or.inr (by show 0 + 512 ≤ 512 + k.val; omega))).trans ?_
        refine (View.read_writes_cons_miss_of_axis _ _ _ _ _ 1 0 512 rfl rfl rfl (Or.inr (by show 0 + 512 ≤ 512 + k.val; omega))).trans ?_
        refine (View.read_writes_cons_hit_of_coords _ _ _ _ _ (ix2 j ⟨512 + k.val, by omega⟩) _ ?_).trans ?_
        · intro a
          match a with
          | ⟨0, _⟩ => show j.val = 0 + 1 * j.val; omega
          | ⟨1, _⟩ => show 512 + k.val = 0 + 1 * (512 + k.val); omega
        · pointwise [k0_pay1]
      · refine congrArg (proj _ _) (funext fun n => ?_)
        pointwise
        exact congrArg (fun j => x2 (ix2 n j)) (Fin.ext (by show 3072 + k.val = 2560 + (512 + k.val); omega))
  · intro r k
    refine (pay5_at _ _ _ _ _ _ r k).trans ?_
    unfold mixed
    congr 1
    congr 1
    · pointwise
    · pointwise
    · pointwise
    · pointwise
    · pointwise
    · funext i
      refine (ext_at arg12.view _ 0 (by omega) _ _ _ _ k i _ (Rect.emb_eq_of_coords _ _ _ ?_) ?_).trans
        (congrArg (fun u => ext _ u i) (funext fun r => ((pay3_at _ _ _ r k).trans ?_)))
      · intro a
        match a with
        | ⟨0, _⟩ => show i.val = 0 + 1 * i.val; omega
        | ⟨1, _⟩ => show 0 + k.val = 0 + 1 * k.val; omega
      · intro j
        refine (View.read_writes_cons_hit_of_coords _ _ _ _ _ (ix2 j ⟨0 + k.val, by omega⟩) _ ?_).trans ?_
        · intro a
          match a with
          | ⟨0, _⟩ => show j.val = 0 + 1 * j.val; omega
          | ⟨1, _⟩ => show 0 + k.val = 0 + 1 * (0 + k.val); omega
        · pointwise [k0_pay1]
      · refine congrArg (proj _ _) (funext fun n => ?_)
        pointwise

theorem xbc_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : ¬cond0_0 i)
    (x0 : Vec Ideal S512x1024 .f32) (x1 : Vec Ideal S1x1024 .f32) (x2 : Vec Ideal S1024x4224 .bf16) (x3 : Vec Ideal S4x1536 .f32) (x4 : Vec Ideal S1x1536 .f32) (xs0 : Vec Ideal S520x1536 .f32) (r : Fin 512) (k : Fin 1536) :
    (show EReal from out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 (ix2 r k))
      = mixed x0 x1 x2 x3 x4 (fun i => xs0 (ix2 ⟨i.val, by omega⟩ k)) r k := by
  unfold out0_B_9
  frame_out
  refine canon_three _ _ _ _ _ _ (fun r k => mixed x0 x1 x2 x3 x4 (fun i => xs0 (ix2 ⟨i.val, by omega⟩ k)) r k) ?_ ?_ ?_ r k
  · intro r k
    refine (pay19_at _ _ _ _ _ _ r k).trans ?_
    unfold mixed
    congr 1
    congr 1
    · pointwise
    · pointwise
    · pointwise
    · pointwise
    · pointwise
    · funext i
      refine (ext_at arg12.view _ 1024 (by omega) _ _ _ _ k i _ (Rect.emb_eq_of_coords _ _ _ ?_) ?_).trans
        (congrArg (fun u => ext _ u i) (funext fun r => ((pay15_at _ _ _ r k).trans ?_)))
      · intro a
        match a with
        | ⟨0, _⟩ => show i.val = 0 + 1 * i.val; omega
        | ⟨1, _⟩ => show 1024 + k.val = 1024 + 1 * k.val; omega
      · intro j
        refine (View.read_writes_cons_miss_of_axis _ _ _ _ _ 1 512 512 rfl rfl rfl (Or.inr (by show 512 + 512 ≤ 1024 + k.val; omega))).trans ?_
        refine (View.read_writes_cons_miss_of_axis _ _ _ _ _ 1 512 512 rfl rfl rfl (Or.inr (by show 512 + 512 ≤ 1024 + k.val; omega))).trans ?_
        refine (View.read_writes_cons_miss_of_axis _ _ _ _ _ 1 0 512 rfl rfl rfl (Or.inr (by show 0 + 512 ≤ 1024 + k.val; omega))).trans ?_
        refine (View.read_writes_cons_miss_of_axis _ _ _ _ _ 1 0 512 rfl rfl rfl (Or.inr (by show 0 + 512 ≤ 1024 + k.val; omega))).trans ?_
        exact congrFun (harg12.read_unread xs0) _
      · refine congrArg (proj _ _) (funext fun n => ?_)
        pointwise
        exact congrArg (fun j => x2 (ix2 n j)) (Fin.ext (by show 3584 + k.val = 2560 + (1024 + k.val); omega))
  · intro r k
    refine (pay11_at _ _ _ _ _ _ r k).trans ?_
    unfold mixed
    congr 1
    congr 1
    · pointwise
    · pointwise
    · pointwise
    · pointwise
    · pointwise
    · funext i
      refine (ext_at arg12.view _ 512 (by omega) _ _ _ _ k i _ (Rect.emb_eq_of_coords _ _ _ ?_) ?_).trans
        (congrArg (fun u => ext _ u i) (funext fun r => ((pay8_at _ _ _ r k).trans ?_)))
      · intro a
        match a with
        | ⟨0, _⟩ => show i.val = 0 + 1 * i.val; omega
        | ⟨1, _⟩ => show 512 + k.val = 512 + 1 * k.val; omega
      · intro j
        refine (View.read_writes_cons_miss_of_axis _ _ _ _ _ 1 0 512 rfl rfl rfl (Or.inr (by show 0 + 512 ≤ 512 + k.val; omega))).trans ?_
        refine (View.read_writes_cons_miss_of_axis _ _ _ _ _ 1 0 512 rfl rfl rfl (Or.inr (by show 0 + 512 ≤ 512 + k.val; omega))).trans ?_
        exact congrFun (harg12.read_unread xs0) _
      · refine congrArg (proj _ _) (funext fun n => ?_)
        pointwise
        exact congrArg (fun j => x2 (ix2 n j)) (Fin.ext (by show 3072 + k.val = 2560 + (512 + k.val); omega))
  · intro r k
    refine (pay5_at _ _ _ _ _ _ r k).trans ?_
    unfold mixed
    congr 1
    congr 1
    · pointwise
    · pointwise
    · pointwise
    · pointwise
    · pointwise
    · funext i
      refine (ext_at arg12.view _ 0 (by omega) _ _ _ _ k i _ (Rect.emb_eq_of_coords _ _ _ ?_) ?_).trans
        (congrArg (fun u => ext _ u i) (funext fun r => ((pay3_at _ _ _ r k).trans ?_)))
      · intro a
        match a with
        | ⟨0, _⟩ => show i.val = 0 + 1 * i.val; omega
        | ⟨1, _⟩ => show 0 + k.val = 0 + 1 * k.val; omega
      · intro j
        exact congrFun (harg12.read_unread xs0) _
      · refine congrArg (proj _ _) (funext fun n => ?_)
        pointwise

/-- The rows a tile hands on to the next one. -/
theorem kept_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : cond0_0 i)
    (x0 : Vec Ideal S512x1024 .f32) (x1 : Vec Ideal S1x1024 .f32) (x2 : Vec Ideal S1024x4224 .bf16) (x3 : Vec Ideal S4x1536 .f32) (x4 : Vec Ideal S1x1536 .f32) (r : Fin 8) (k : Fin 1536) :
    (show EReal from sout0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 (ix2 ⟨r.val, by omega⟩ k))
      = ent x0 x1 x2 ⟨504 + r.val, by omega⟩ ⟨2560 + k.val, by omega⟩ := by
  unfold sout0_A_0
  frame_out
  refine canon_low _ _ _ _ _ _ _ _ _ _ _ _ _ (fun r k => ent x0 x1 x2 ⟨504 + r.val, by omega⟩ ⟨2560 + k.val, by omega⟩) ?_ ?_ ?_ r k
  · intro r k
    refine (congrFun (pay18_id _) _).trans ?_
    refine (halo_at arg12.view 1024 _ _ _ _ r k).trans ((pay15_at _ _ _ _ k).trans ?_)
    refine congrArg (proj _ _) (funext fun n => ?_)
    pointwise
    exact congrArg (fun j => x2 (ix2 n j)) (Fin.ext (by show 3584 + k.val = 2560 + (1024 + k.val); omega))
  · intro r k
    refine (congrFun (pay10_id _) _).trans ?_
    refine (halo_at arg12.view 512 _ _ _ _ r k).trans ((pay8_at _ _ _ _ k).trans ?_)
    refine congrArg (proj _ _) (funext fun n => ?_)
    pointwise
    exact congrArg (fun j => x2 (ix2 n j)) (Fin.ext (by show 3072 + k.val = 2560 + (512 + k.val); omega))
  · intro r k
    refine (congrFun (pay4_id _) _).trans ?_
    refine (halo_at arg12.view 0 _ _ _ _ r k).trans ((pay3_at _ _ _ _ k).trans ?_)
    refine congrArg (proj _ _) (funext fun n => ?_)
    pointwise

/-- The rows a tile hands on to the next one. -/
theorem kept_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4224 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1536 .f32) (harg10 : arg10.IsWhole) (arg11 : Memref sig .tc .vmem S512x128 .f32) (harg11 : arg11.IsWhole) (arg12 : Memref sig .tc .vmem S520x1536 .f32) (harg12 : arg12.IsWhole) (hc0 : ¬cond0_0 i)
    (x0 : Vec Ideal S512x1024 .f32) (x1 : Vec Ideal S1x1024 .f32) (x2 : Vec Ideal S1024x4224 .bf16) (x3 : Vec Ideal S4x1536 .f32) (x4 : Vec Ideal S1x1536 .f32) (xs0 : Vec Ideal S520x1536 .f32) (r : Fin 8) (k : Fin 1536) :
    (show EReal from sout0_B_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 xs0 (ix2 ⟨r.val, by omega⟩ k))
      = ent x0 x1 x2 ⟨504 + r.val, by omega⟩ ⟨2560 + k.val, by omega⟩ := by
  unfold sout0_B_0
  frame_out
  refine canon_low _ _ _ _ _ _ _ _ _ _ _ _ _ (fun r k => ent x0 x1 x2 ⟨504 + r.val, by omega⟩ ⟨2560 + k.val, by omega⟩) ?_ ?_ ?_ r k
  · intro r k
    refine (congrFun (pay18_id _) _).trans ?_
    refine (halo_at arg12.view 1024 _ _ _ _ r k).trans ((pay15_at _ _ _ _ k).trans ?_)
    refine congrArg (proj _ _) (funext fun n => ?_)
    pointwise
    exact congrArg (fun j => x2 (ix2 n j)) (Fin.ext (by show 3584 + k.val = 2560 + (1024 + k.val); omega))
  · intro r k
    refine (congrFun (pay10_id _) _).trans ?_
    refine (halo_at arg12.view 512 _ _ _ _ r k).trans ((pay8_at _ _ _ _ k).trans ?_)
    refine congrArg (proj _ _) (funext fun n => ?_)
    pointwise
    exact congrArg (fun j => x2 (ix2 n j)) (Fin.ext (by show 3072 + k.val = 2560 + (512 + k.val); omega))
  · intro r k
    refine (congrFun (pay4_id _) _).trans ?_
    refine (halo_at arg12.view 0 _ _ _ _ r k).trans ((pay3_at _ _ _ _ k).trans ?_)
    refine congrArg (proj _ _) (funext fun n => ?_)
    pointwise

end Cert.InprojIdeal.Value
-- ==== Proof.InprojValue.lean ====
module
public import proofs.«01_k».proof.Proof.InprojReference
public import proofs.«01_k».proof.Proof.InprojBlock
public import proofs.«01_k».proof.Proof.Gen.InprojIdeal.Value
public import Idealize.ShloMosaic.Lib.Pipeline.ValueKit
set_option maxRecDepth 16384
@[expose] public section

/-! # The input projection's result arrays are the reference's -/

noncomputable section
open Idealize.ShloMosaic Idealize.ShloMosaic.TcCoe Idealize.SL.Sem
open Idealize.ShloMosaic.Pipeline (Dat)
namespace Cert.InprojIdeal.Value
open Cert.InprojIdeal Cert.InprojIdeal.Gen
open Cert.InprojReferenceIdeal.Value (refP refQ refK refV refG refU refC refX refD refP_at refQ_at refK_at refV_at refG_at refU_at refC_at refX_at refD_at)

variable (m : (ℓ : Loc nD τ sig) → Buf (Elt Ideal) ℓ)

/-- The reference's joint projection of the kernel's arguments. -/
def yP (c : Dev nD) : FVec Ideal Cert.InprojReferenceIdeal.S4x8192x4112 .f32 :=
  refP (m ((c : Thread nD τ).loc main_arg0)) (m ((c : Thread nD τ).loc main_arg1)) (m ((c : Thread nD τ).loc main_arg2))

/-- The reference's convolved part. -/
def yX (c : Dev nD) : FVec Ideal S32768x1536 .f32 :=
  refX (refC (refU (yP m c)) (m ((c : Thread nD τ).loc main_arg3)) (m ((c : Thread nD τ).loc main_arg4)))

/-- Every window's block index at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] ∧ t.val < 64 :=
  (by decide +kernel : ∀ t : Fin grid0.N, _)

/-- The packed weights. -/
def packed (w : FVec Ideal S1x1024x4112 .f32) : FVec Ideal S1024x4224 .bf16 :=
  truncf .bf16 (concatenate S1024x4224 1 [⟨S1024x4096, extractStridedSlice S1024x4096 ![0, 0] (shapeCast S1024x4112 w shapeCasts_S1x1024x4112_S1024x4112) slices_S1024x4112_S1024x4096_0_0⟩,
    ⟨S1024x128, pad S1024x128 ![0, 0] ![0, 112] ![0, 0] (extractStridedSlice S1024x16 ![0, 4096] (shapeCast S1024x4112 w shapeCasts_S1x1024x4112_S1024x4112) slices_S1024x4112_S1024x16_0_4096)
      (sitofp .f32 (constantI S_ 32 0#32)) pads_S1024x16_S1024x128_000_01120 h_S_⟩] concatenates_S1024x4096_S1024x128_S1024x4224_d1) bitsLt_bf16_f32

theorem host5 (c : Dev nD) : V m c main_v5 = packed (m ((c : Thread nD τ).loc main_arg2)) := by
  unfold V
  simp only [hostOps0, hostOps0_1, hostOps0_2, List.flatten_cons, List.flatten_nil, List.append_nil, List.cons_append, List.nil_append]
  after_results
  try rfl

theorem host6 (c : Dev nD) : V m c main_v6 = shapeCast S32768x1024 (show FVec Ideal S4x8192x1024 .f32 from m ((c : Thread nD τ).loc main_arg0)) shapeCasts_S4x8192x1024_S32768x1024 := by
  unfold V
  simp only [hostOps0, hostOps0_1, hostOps0_2, List.flatten_cons, List.flatten_nil, List.append_nil, List.cons_append, List.nil_append]
  after_results
  try rfl

theorem host8 (c : Dev nD) : V m c main_v8 = broadcastInDim S1x1024 ![1] bcast_S1024_S1x1024_1 (shapeCast S1024 (show FVec Ideal S1x1024 .f32 from m ((c : Thread nD τ).loc main_arg1)) shapeCasts_S1x1024_S1024) := by
  unfold V
  simp only [hostOps0, hostOps0_1, hostOps0_2, List.flatten_cons, List.flatten_nil, List.append_nil, List.cons_append, List.nil_append]
  after_results
  try rfl

theorem host11 (c : Dev nD) : V m c main_v11 = broadcastInDim S1x1536 ![1] bcast_S1536_S1x1536_1 (shapeCast S1536 (show FVec Ideal S1x1536 .f32 from m ((c : Thread nD τ).loc main_arg4)) shapeCasts_S1x1536_S1536) := by
  unfold V
  simp only [hostOps0, hostOps0_1, hostOps0_2, List.flatten_cons, List.flatten_nil, List.append_nil, List.cons_append, List.nil_append]
  after_results
  try rfl

theorem host9 (c : Dev nD) : V m c main_v9 = shapeCast S4x1536 (show FVec Ideal S1x4x1536 .f32 from m ((c : Thread nD τ).loc main_arg3)) shapeCasts_S1x4x1536_S4x1536 := by
  unfold V
  simp only [hostOps0, hostOps0_1, hostOps0_2, List.flatten_cons, List.flatten_nil, List.append_nil, List.cons_append, List.nil_append]
  after_results
  try rfl

theorem packed_at (w : FVec Ideal S1x1024x4112 .f32) (n : Fin 1024) (j : Fin 4224) :
    packed w (ix2 n j) = if h : j.val < 4112 then w (ix3 0 n ⟨j.val, h⟩) else 0 := by
  pointwise [packed]
  by_cases h₁ : j.val < 4096
  · rw [dif_pos h₁, dif_pos (show j.val < 4112 by omega)]
  · rw [dif_neg h₁]
    by_cases h₂ : j.val < 4112
    · refine (dif_pos (show j.val - 4096 < 16 by omega)).trans (Eq.trans ?_ (dif_pos h₂).symm)
      exact congrArg (fun j => w (ix3 0 n j)) (Fin.ext (by show 4096 + (j.val - 4096) = j.val; omega))
    · refine (dif_neg (show ¬ j.val - 4096 < 16 by omega)).trans ?_
      rw [dif_neg h₂]
      exact Cert.InprojReferenceIdeal.Value.pad_zero

theorem row0 (c : Dev nD) (t : Fin cfg0.N) (r : Fin 512) (k : Fin 1024) (h : t.val * 512 + r.val < 32768) :
    (show EReal from iblk m c 0 t (ix2 r k)) = (show FVec Ideal S4x8192x1024 .f32 from m ((c : Thread nD τ).loc main_arg0))
      (ix3 ⟨(t.val * 512 + r.val) / 8192, by omega⟩ ⟨(t.val * 512 + r.val) % 8192, by omega⟩ k) := by
  blk_simp [iblk, idx t]
  refine (congrFun (host6 m c) _).trans ?_
  pointwise []
  blk_ext [idx t]

theorem read0 (c : Dev nD) (t : Fin cfg0.N) (r : Fin 512) (k : Fin 1024) (b : Fin 4) (s : Fin 8192) (h : t.val * 512 + r.val = b.val * 8192 + s.val) :
    (show EReal from iblk m c 0 t (ix2 r k)) = (show FVec Ideal S4x8192x1024 .f32 from m ((c : Thread nD τ).loc main_arg0)) (ix3 b s k) := by
  refine (row0 m c t r k (by omega)).trans ?_
  refine congrArg₂ (fun b s => (show FVec Ideal S4x8192x1024 .f32 from m ((c : Thread nD τ).loc main_arg0)) (ix3 b s k)) (Fin.ext ?_) (Fin.ext ?_)
  · show (t.val * 512 + r.val) / 8192 = b.val
    omega
  · show (t.val * 512 + r.val) % 8192 = s.val
    omega

theorem read1 (c : Dev nD) (t : Fin cfg0.N) (k : Fin 1024) :
    (show EReal from iblk m c 1 t (ix2 0 k)) = (show FVec Ideal S1x1024 .f32 from m ((c : Thread nD τ).loc main_arg1)) (ix2 0 k) := by
  blk_simp [iblk, idx t]
  refine (congrFun (host8 m c) _).trans ?_
  pointwise []
  blk_ext [idx t]

theorem read2 (c : Dev nD) (t : Fin cfg0.N) (n : Fin 1024) (j : Fin 4224) :
    (show EReal from iblk m c 2 t (ix2 n j)) = if h : j.val < 4112 then
      (show FVec Ideal S1x1024x4112 .f32 from m ((c : Thread nD τ).loc main_arg2)) (ix3 0 n ⟨j.val, h⟩) else 0 := by
  refine Eq.trans ?_ (packed_at (m ((c : Thread nD τ).loc main_arg2)) n j)
  blk_simp [iblk, idx t]
  refine (congrFun (host5 m c) _).trans ?_
  blk_ext [idx t]

theorem read3 (c : Dev nD) (t : Fin cfg0.N) (i : Fin 4) (k : Fin 1536) :
    (show EReal from iblk m c 3 t (ix2 i k)) = (show FVec Ideal S1x4x1536 .f32 from m ((c : Thread nD τ).loc main_arg3)) (ix3 0 i k) := by
  blk_simp [iblk, idx t]
  refine (congrFun (host9 m c) _).trans ?_
  pointwise []
  blk_ext [idx t]

theorem read4 (c : Dev nD) (t : Fin cfg0.N) (k : Fin 1536) :
    (show EReal from iblk m c 4 t (ix2 0 k)) = (show FVec Ideal S1x1536 .f32 from m ((c : Thread nD τ).loc main_arg4)) (ix2 0 k) := by
  blk_simp [iblk, idx t]
  refine (congrFun (host11 m c) _).trans ?_
  pointwise []
  blk_ext [idx t]

/-- An entry of a tile's projection is the reference's; -/
theorem ent_eq (c : Dev nD) (t : Fin cfg0.N) (r : Fin 512) (j : Fin 4224) (b : Fin 4) (s : Fin 8192) (h : t.val * 512 + r.val = b.val * 8192 + s.val)
    (j' : Fin 4112) (hj : j.val = j'.val) :
    ent (iblk m c 0 t) (iblk m c 1 t) (iblk m c 2 t) r j = yP m c (ix3 b s j') := by
  rw [yP, refP_at, ent]
  congr 1
  · funext k; exact read0 m c t r k b s h
  · funext k; exact read1 m c t k
  · funext n
    refine (read2 m c t n j).trans ?_
    rw [dif_pos (by omega)]
    exact congrArg (fun j => (show FVec Ideal S1x1024x4112 .f32 from m ((c : Thread nD τ).loc main_arg2)) (ix3 0 n j)) (Fin.ext hj)

/-- past the weights' columns it is zero. -/
theorem ent_zero (c : Dev nD) (t : Fin cfg0.N) (r : Fin 512) (j : Fin 4224) (hj : 4112 ≤ j.val) :
    ent (iblk m c 0 t) (iblk m c 1 t) (iblk m c 2 t) r j = 0 := by
  refine Finset.sum_eq_zero fun n _ => ?_
  exact (congrArg (fun z : EReal => FfnIdeal.Value.normed _ _ n * z) ((read2 m c t n j).trans (dif_neg (by omega)))).trans (mul_zero _)

/-- The last rows of the tile before, as this tile finds them. -/
theorem carried (c : Dev nD) (t : Fin cfg0.N) (i : Fin 8) (k : Fin 1536) :
    (show EReal from (outsAt0 m c t.val t.isLt).2.2.2.2.2.2 (ix2 ⟨i.val, by omega⟩ k))
      = ent (iblk m c 0 t) (iblk m c 1 t) (iblk m c 2 t) ⟨504 + i.val, by omega⟩ ⟨2560 + k.val, by omega⟩ := by
  by_cases h : t.val % 16 = 0
  · rw [outsAt0_A m c t h]
    dsimp only
    exact kept_A _ _ _ _ _ _ _ _ _ _ _ _ _ _ _ _ _ _ _ _ _ _ _ _ _ _ _ _ _ _ _ _ i k
  · rw [outsAt0_B m c t h]
    dsimp only
    exact kept_B _ _ _ _ _ _ _ _ _ _ _ _ _ _ _ _ _ _ _ _ _ _ _ _ _ _ _ _ _ _ _ _ _ i k

/-- The rows the convolution reads are the reference's padded rows. -/
theorem ext_eq (c : Dev nD) (t : Fin cfg0.N) (b : Fin 4) (k : Fin 1536) (low : Fin 8 → EReal) (hb : t.val / 16 = b.val)
    (hlow : ∀ i : Fin 8, 5 ≤ i.val → low i = refU (yP m c) (ix3 b ⟨t.val % 16 * 512 + (i.val - 5), by omega⟩ k))
    (q : Fin 520) (hq : 5 ≤ q.val) (s : Fin 8195) (hs : s.val = t.val % 16 * 512 + (q.val - 5)) :
    ext low (fun r => ent (iblk m c 0 t) (iblk m c 1 t) (iblk m c 2 t) r ⟨2560 + k.val, by omega⟩) q = refU (yP m c) (ix3 b s k) := by
  unfold ext
  split
  · rename_i h
    rw [hlow _ hq]
    congr 2
    exact Fin.ext hs.symm
  · rename_i h
    rw [refU_at, dif_pos (by omega)]
    exact ent_eq m c t _ _ _ _ (by simp only; omega) _ rfl

/-- A block of the convolved part. -/
theorem mixed_eq (c : Dev nD) (t : Fin cfg0.N) (low : Fin 8 → EReal) (r : Fin 512) (k : Fin 1536) (b : Fin 4) (hb : t.val / 16 = b.val)
    (hlow : ∀ i : Fin 8, 5 ≤ i.val → low i = refU (yP m c) (ix3 b ⟨t.val % 16 * 512 + (i.val - 5), by omega⟩ k)) (h : t.val * 512 + r.val < 32768) :
    mixed (iblk m c 0 t) (iblk m c 1 t) (iblk m c 2 t) (iblk m c 3 t) (iblk m c 4 t) low r k = yX m c (ix2 ⟨t.val * 512 + r.val, h⟩ k) := by
  have hb' : b = ⟨(t.val * 512 + r.val) / 8192, by omega⟩ := Fin.ext (by simp only; omega)
  rw [yX, refX_at, refC_at, mixed, conv]
  rw [ext_eq m c t b k low hb hlow ⟨r.val + 5, by omega⟩ (by simp only; omega) ⟨(t.val * 512 + r.val) % 8192, by omega⟩ (by simp only; omega),
    ext_eq m c t b k low hb hlow ⟨r.val + 6, by omega⟩ (by simp only; omega) ⟨1 + (t.val * 512 + r.val) % 8192, by omega⟩ (by simp only; omega),
    ext_eq m c t b k low hb hlow ⟨r.val + 7, by omega⟩ (by simp only; omega) ⟨2 + (t.val * 512 + r.val) % 8192, by omega⟩ (by simp only; omega),
    ext_eq m c t b k low hb hlow ⟨r.val + 8, by omega⟩ (by simp only; omega) ⟨3 + (t.val * 512 + r.val) % 8192, by omega⟩ (by simp only; omega), ← hb']
  have e₀ : (iblk m c 3 t (ix2 0 k) : EReal) = _ := read3 m c t 0 k
  have e₁ : (iblk m c 3 t (ix2 1 k) : EReal) = _ := read3 m c t 1 k
  have e₂ : (iblk m c 3 t (ix2 2 k) : EReal) = _ := read3 m c t 2 k
  have e₃ : (iblk m c 3 t (ix2 3 k) : EReal) = _ := read3 m c t 3 k
  have e₄ : (iblk m c 4 t (ix2 0 k) : EReal) = _ := read4 m c t k
  rw [e₀, e₁, e₂, e₃, e₄]

theorem point5 (c : Dev nD) (t : Fin cfg0.N) (r : Fin 512) (k : Fin 512) (h : t.val * 512 + r.val < 32768) :
    (show EReal from (outsAt0 m c t.val t.isLt).1 (ix2 r k)) = refQ (yP m c) (ix2 ⟨t.val * 512 + r.val, h⟩ k) := by
  have e : (show EReal from (outsAt0 m c t.val t.isLt).1 (ix2 r k)) = ent (iblk m c 0 t) (iblk m c 1 t) (iblk m c 2 t) r ⟨k.val, by omega⟩ * Ideal.ofBits .f32 0x3E8293EE#32 := by
    by_cases h0 : t.val % 16 = 0
    · rw [outsAt0_A m c t h0]
      dsimp only
      exact q_A _ _ _ _ _ _ _ _ _ _ _ _ _ _ _ _ _ _ _ _ _ _ _ _ _ _ _ _ _ _ _ _ r k
    · rw [outsAt0_B m c t h0]
      dsimp only
      exact q_B _ _ _ _ _ _ _ _ _ _ _ _ _ _ _ _ _ _ _ _ _ _ _ _ _ _ _ _ _ _ _ _ _ r k
  rw [e, refQ_at]
  rw [ent_eq m c t r _ ⟨(t.val * 512 + r.val) / 8192, by omega⟩ ⟨(t.val * 512 + r.val) % 8192, by omega⟩ (by simp only; omega) ⟨k.val, by omega⟩ rfl]

theorem point6 (c : Dev nD) (t : Fin cfg0.N) (r : Fin 512) (k : Fin 512) (h : t.val * 512 + r.val < 32768) :
    (show EReal from (outsAt0 m c t.val t.isLt).2.1 (ix2 r k)) = refK (yP m c) (ix2 ⟨t.val * 512 + r.val, h⟩ k) := by
  have e : (show EReal from (outsAt0 m c t.val t.isLt).2.1 (ix2 r k)) = ent (iblk m c 0 t) (iblk m c 1 t) (iblk m c 2 t) r ⟨512 + k.val, by omega⟩ := by
    by_cases h0 : t.val % 16 = 0
    · rw [outsAt0_A m c t h0]
      dsimp only
      exact k_A _ _ _ _ _ _ _ _ _ _ _ _ _ _ _ _ _ _ _ _ _ _ _ _ _ _ _ _ _ _ _ _ r k
    · rw [outsAt0_B m c t h0]
      dsimp only
      exact k_B _ _ _ _ _ _ _ _ _ _ _ _ _ _ _ _ _ _ _ _ _ _ _ _ _ _ _ _ _ _ _ _ _ r k
  rw [e, refK_at]
  rw [ent_eq m c t r _ ⟨(t.val * 512 + r.val) / 8192, by omega⟩ ⟨(t.val * 512 + r.val) % 8192, by omega⟩ (by simp only; omega) ⟨512 + k.val, by omega⟩ rfl]

theorem point7 (c : Dev nD) (t : Fin cfg0.N) (r : Fin 512) (k : Fin 512) (h : t.val * 512 + r.val < 32768) :
    (show EReal from (outsAt0 m c t.val t.isLt).2.2.1 (ix2 r k)) = refV (yP m c) (ix2 ⟨t.val * 512 + r.val, h⟩ k) := by
  have e : (show EReal from (outsAt0 m c t.val t.isLt).2.2.1 (ix2 r k)) = ent (iblk m c 0 t) (iblk m c 1 t) (iblk m c 2 t) r ⟨1024 + k.val, by omega⟩ := by
    by_cases h0 : t.val % 16 = 0
    · rw [outsAt0_A m c t h0]
      dsimp only
      exact v_A _ _ _ _ _ _ _ _ _ _ _ _ _ _ _ _ _ _ _ _ _ _ _ _ _ _ _ _ _ _ _ _ r k
    · rw [outsAt0_B m c t h0]
      dsimp only
      exact v_B _ _ _ _ _ _ _ _ _ _ _ _ _ _ _ _ _ _ _ _ _ _ _ _ _ _ _ _ _ _ _ _ _ r k
  rw [e, refV_at]
  rw [ent_eq m c t r _ ⟨(t.val * 512 + r.val) / 8192, by omega⟩ ⟨(t.val * 512 + r.val) % 8192, by omega⟩ (by simp only; omega) ⟨1024 + k.val, by omega⟩ rfl]

theorem point8 (c : Dev nD) (t : Fin cfg0.N) (r : Fin 512) (k : Fin 1024) (h : t.val * 512 + r.val < 32768) :
    (show EReal from (outsAt0 m c t.val t.isLt).2.2.2.1 (ix2 r k)) = refG (yP m c) (ix2 ⟨t.val * 512 + r.val, h⟩ k) := by
  have e : (show EReal from (outsAt0 m c t.val t.isLt).2.2.2.1 (ix2 r k)) = silu (ent (iblk m c 0 t) (iblk m c 1 t) (iblk m c 2 t) r ⟨1536 + k.val, by omega⟩) := by
    by_cases h0 : t.val % 16 = 0
    · rw [outsAt0_A m c t h0]
      dsimp only
      exact z_A _ _ _ _ _ _ _ _ _ _ _ _ _ _ _ _ _ _ _ _ _ _ _ _ _ _ _ _ _ _ _ _ r k
    · rw [outsAt0_B m c t h0]
      dsimp only
      exact z_B _ _ _ _ _ _ _ _ _ _ _ _ _ _ _ _ _ _ _ _ _ _ _ _ _ _ _ _ _ _ _ _ _ r k
  rw [e, refG_at]
  rw [ent_eq m c t r _ ⟨(t.val * 512 + r.val) / 8192, by omega⟩ ⟨(t.val * 512 + r.val) % 8192, by omega⟩ (by simp only; omega) ⟨1536 + k.val, by omega⟩ rfl]

theorem point10 (c : Dev nD) (t : Fin cfg0.N) (r : Fin 512) (k : Fin 128) (h : t.val * 512 + r.val < 32768) :
    (show EReal from (outsAt0 m c t.val t.isLt).2.2.2.2.2.1 (ix2 r k)) = refD (yP m c) (ix2 ⟨t.val * 512 + r.val, h⟩ k) := by
  have e : (show EReal from (outsAt0 m c t.val t.isLt).2.2.2.2.2.1 (ix2 r k)) = ent (iblk m c 0 t) (iblk m c 1 t) (iblk m c 2 t) r ⟨4096 + k.val, by omega⟩ := by
    by_cases h0 : t.val % 16 = 0
    · rw [outsAt0_A m c t h0]
      dsimp only
      exact dt_A _ _ _ _ _ _ _ _ _ _ _ _ _ _ _ _ _ _ _ _ _ _ _ _ _ _ _ _ _ _ _ _ r k
    · rw [outsAt0_B m c t h0]
      dsimp only
      exact dt_B _ _ _ _ _ _ _ _ _ _ _ _ _ _ _ _ _ _ _ _ _ _ _ _ _ _ _ _ _ _ _ _ _ r k
  rw [e, refD_at]
  by_cases hk : k.val < 16
  · rw [dif_pos hk]
    exact ent_eq m c t r _ ⟨(t.val * 512 + r.val) / 8192, by omega⟩ ⟨(t.val * 512 + r.val) % 8192, by omega⟩ (by simp only; omega) ⟨4096 + k.val, by omega⟩ rfl
  · rw [dif_neg hk]
    exact ent_zero m c t r _ (by simp only; omega)

theorem point9 (c : Dev nD) (t : Fin cfg0.N) (r : Fin 512) (k : Fin 1536) (h : t.val * 512 + r.val < 32768) :
    (show EReal from (outsAt0 m c t.val t.isLt).2.2.2.2.1 (ix2 r k)) = yX m c (ix2 ⟨t.val * 512 + r.val, h⟩ k) := by
  have hN : t.val < 64 := (idx t).2.2.2.2.2.2.2.2.2.2.2
  by_cases h0 : t.val % 16 = 0
  · rw [outsAt0_A m c t h0]
    dsimp only
    refine (xbc_A _ _ _ _ _ _ _ _ _ _ _ _ _ _ _ _ _ _ _ _ _ _ _ _ _ _ _ _ _ _ _ _ r k).trans (mixed_eq m c t _ r k ⟨t.val / 16, by omega⟩ rfl ?_ h)
    intro i hi
    rw [refU_at, dif_neg (by simp only; omega)]
  · rw [outsAt0_B m c t h0]
    dsimp only
    refine (xbc_B _ _ _ _ _ _ _ _ _ _ _ _ _ _ _ _ _ _ _ _ _ _ _ _ _ _ _ _ _ _ _ _ _ r k).trans (mixed_eq m c t _ r k ⟨t.val / 16, by omega⟩ rfl ?_ h)
    intro i hi
    rw [refU_at, dif_pos (by simp only; omega)]
    refine (carried m c ⟨t.val - 1, Nat.lt_of_le_of_lt (Nat.sub_le _ _) t.isLt⟩ i k).trans ?_
    exact ent_eq m c _ _ _ _ _ (by simp only; omega) _ rfl

theorem array5 (c : Dev nD) : (dats m 0 c).arrAt 5 (cfgs 0).N = refQ (yP m c) := by
  refine (dats m 0 c).arrAt_eq_of_covers 5 _ (by decide +kernel) fun t _ y => ?_
  obtain ⟨r, k, rfl⟩ : ∃ (r : Fin 512) (k : Fin 512), y = ix2 r k := ⟨y 0, y 1, eq_ix2 y⟩
  have h : t.val * 512 + r.val < 32768 := by have := (idx t).2.2.2.2.2.2.2.2.2.2.2; omega
  blk_simp
  rw [after0_5]
  refine (point5 m c t r k h).trans ?_
  blk_ext [idx t]

theorem array6 (c : Dev nD) : (dats m 0 c).arrAt 6 (cfgs 0).N = refK (yP m c) := by
  refine (dats m 0 c).arrAt_eq_of_covers 6 _ (by decide +kernel) fun t _ y => ?_
  obtain ⟨r, k, rfl⟩ : ∃ (r : Fin 512) (k : Fin 512), y = ix2 r k := ⟨y 0, y 1, eq_ix2 y⟩
  have h : t.val * 512 + r.val < 32768 := by have := (idx t).2.2.2.2.2.2.2.2.2.2.2; omega
  blk_simp
  rw [after0_6]
  refine (point6 m c t r k h).trans ?_
  blk_ext [idx t]

theorem array7 (c : Dev nD) : (dats m 0 c).arrAt 7 (cfgs 0).N = refV (yP m c) := by
  refine (dats m 0 c).arrAt_eq_of_covers 7 _ (by decide +kernel) fun t _ y => ?_
  obtain ⟨r, k, rfl⟩ : ∃ (r : Fin 512) (k : Fin 512), y = ix2 r k := ⟨y 0, y 1, eq_ix2 y⟩
  have h : t.val * 512 + r.val < 32768 := by have := (idx t).2.2.2.2.2.2.2.2.2.2.2; omega
  blk_simp
  rw [after0_7]
  refine (point7 m c t r k h).trans ?_
  blk_ext [idx t]

theorem array8 (c : Dev nD) : (dats m 0 c).arrAt 8 (cfgs 0).N = refG (yP m c) := by
  refine (dats m 0 c).arrAt_eq_of_covers 8 _ (by decide +kernel) fun t _ y => ?_
  obtain ⟨r, k, rfl⟩ : ∃ (r : Fin 512) (k : Fin 1024), y = ix2 r k := ⟨y 0, y 1, eq_ix2 y⟩
  have h : t.val * 512 + r.val < 32768 := by have := (idx t).2.2.2.2.2.2.2.2.2.2.2; omega
  blk_simp
  rw [after0_8]
  refine (point8 m c t r k h).trans ?_
  blk_ext [idx t]

theorem array9 (c : Dev nD) : (dats m 0 c).arrAt 9 (cfgs 0).N = yX m c := by
  refine (dats m 0 c).arrAt_eq_of_covers 9 _ (by decide +kernel) fun t _ y => ?_
  obtain ⟨r, k, rfl⟩ : ∃ (r : Fin 512) (k : Fin 1536), y = ix2 r k := ⟨y 0, y 1, eq_ix2 y⟩
  have h : t.val * 512 + r.val < 32768 := by have := (idx t).2.2.2.2.2.2.2.2.2.2.2; omega
  blk_simp
  rw [after0_9]
  refine (point9 m c t r k h).trans ?_
  blk_ext [idx t]

theorem array10 (c : Dev nD) : (dats m 0 c).arrAt 10 (cfgs 0).N = refD (yP m c) := by
  refine (dats m 0 c).arrAt_eq_of_covers 10 _ (by decide +kernel) fun t _ y => ?_
  obtain ⟨r, k, rfl⟩ : ∃ (r : Fin 512) (k : Fin 128), y = ix2 r k := ⟨y 0, y 1, eq_ix2 y⟩
  have h : t.val * 512 + r.val < 32768 := by have := (idx t).2.2.2.2.2.2.2.2.2.2.2; omega
  blk_simp
  rw [after0_10]
  refine (point10 m c t r k h).trans ?_
  blk_ext [idx t]

end Cert.InprojIdeal.Value
-- ==== Proof.InprojClaim.lean ====
module
public import proofs.«01_k».proof.Defs
public import proofs.«01_k».proof.Proof.InprojValue
public import Idealize.ShloMosaic.Lib.Claim
@[expose] public section

/-! # The input projection against its reference -/

noncomputable section
open Idealize.ShloMosaic Idealize.SL.Sem
namespace Cert.Proof
open Cert.InprojReferenceIdeal.Value (refP refQ refK refV refG refU refC refX refD)

/-- The kernel's run and the reference's end with the same six arrays. -/
theorem inproj_algebraic : Cert.algebraic_InprojIdeal_InprojReferenceIdeal := by
  intro m g m' g' _ hagree
  refine ⟨fun c => refQ (Cert.InprojIdeal.Value.yP m c), fun c => refK (Cert.InprojIdeal.Value.yP m c), fun c => refV (Cert.InprojIdeal.Value.yP m c),
    fun c => refG (Cert.InprojIdeal.Value.yP m c), fun c => Cert.InprojIdeal.Value.yX m c, fun c => refD (Cert.InprojIdeal.Value.yP m c), ?_, ?_⟩
  · refine (θ_run Cert.InprojIdeal.defs _ _).mono (fun r h c => ?_) (Cert.InprojIdeal.Value.run_blocks m g)
    obtain ⟨a5, a6, a7, a8, a9, a10, b⟩ := h c
    exact ⟨a5.trans (Cert.InprojIdeal.Value.array5 m c), a6.trans (Cert.InprojIdeal.Value.array6 m c), a7.trans (Cert.InprojIdeal.Value.array7 m c),
      a8.trans (Cert.InprojIdeal.Value.array8 m c), a9.trans (Cert.InprojIdeal.Value.array9 m c), a10.trans (Cert.InprojIdeal.Value.array10 m c), b⟩
  · refine (θ_run Cert.InprojReferenceIdeal.defs _ _).mono (fun r h c => ?_) (Cert.InprojReferenceIdeal.Value.run m' g')
    obtain ⟨a5, a6, a7, a8, a9, a10, b⟩ := h c
    obtain ⟨h0, h1, h2, h3, h4⟩ := hagree c
    have hP : refP (m' ((c.tc : Thread Cert.InprojReferenceIdeal.nD Cert.InprojReferenceIdeal.τ).loc Cert.InprojReferenceIdeal.main_arg0))
        (m' ((c.tc : Thread Cert.InprojReferenceIdeal.nD Cert.InprojReferenceIdeal.τ).loc Cert.InprojReferenceIdeal.main_arg1))
        (m' ((c.tc : Thread Cert.InprojReferenceIdeal.nD Cert.InprojReferenceIdeal.τ).loc Cert.InprojReferenceIdeal.main_arg2))
        = Cert.InprojIdeal.Value.yP m c := by
      rw [h0, h1, h2]
      rfl
    have hX : refX (refC (refU (Cert.InprojIdeal.Value.yP m c))
        (m' ((c.tc : Thread Cert.InprojReferenceIdeal.nD Cert.InprojReferenceIdeal.τ).loc Cert.InprojReferenceIdeal.main_arg3))
        (m' ((c.tc : Thread Cert.InprojReferenceIdeal.nD Cert.InprojReferenceIdeal.τ).loc Cert.InprojReferenceIdeal.main_arg4)))
        = Cert.InprojIdeal.Value.yX m c := by
      rw [h3, h4]
      rfl
    exact ⟨a5.trans (congrArg refQ hP), a6.trans (congrArg refK hP), a7.trans (congrArg refV hP), a8.trans (congrArg refG hP),
      a9.trans ((congrArg (fun y => refX (refC (refU y) _ _)) hP).trans hX), a10.trans (congrArg refD hP), b⟩

/-- The reference runs, its arguments end unchanged, and it declares no counter. -/
theorem inproj_reference_frame : Cert.quiescent_InprojReferenceIdeal := fun m g _ =>
  (θ_run Cert.InprojReferenceIdeal.defs _ _).mono
    (fun r h => ⟨fun c => (h c).2.2.2.2.2.2, Idealize.ShloMosaic.sem_eq_zero_of_no_sems (by decide) r.2⟩)
    (Cert.InprojReferenceIdeal.Value.run m g)

end Cert.Proof
-- ==== Proof.SsdTile.lean ====
module
public import proofs.«01_k».proof.Proof.InprojRow
public import proofs.«01_k».proof.Proof.Gen.SsdIdeal.Value
public import Idealize.ShloMosaic.Lib.Pipeline.ValueKit
set_option maxRecDepth 16384
@[expose] public section

/-! # The scan kernel, tile by tile

The entries of the values one grid point computes for a tile of 128 columns (two heads). -/

noncomputable section
open Idealize.ShloMosaic Idealize.ShloMosaic.TcCoe Idealize.SL.Sem
namespace Cert.SsdIdeal.Value
open Cert.SsdIdeal Cert.SsdIdeal.Gen

/-- A square tile of a block: one row per token of the chunk. -/
abbrev Tile := Vec Ideal S128x128 .f32

/-- One entry of the chunk's output before the gate: the chunk's own tokens up to row `r`, the carried state's part, and the skip.
`A` holds the running sums of the decay exponents, `D` the step sizes, `CB` the products of the two projections, one column `h` per head. -/
def ycell (A D CB : Fin 128 → Fin 128 → EReal) (yv : EReal) (xs : Fin 128 → EReal) (dk : EReal) (h r : Fin 128) : EReal :=
  (∑ s : Fin 128, (CB r s * (Ideal.exp (if s.val ≤ r.val then A r h - A s h else ⊥))) * (xs s * D s h)) + yv * Ideal.exp (A r h) + xs r * dk

/-- One entry of the state a chunk leaves: the state before it, decayed over the whole chunk, plus what the chunk's tokens add. -/
def stcell (A D B : Fin 128 → Fin 128 → EReal) (sv : EReal) (xs : Fin 128 → EReal) (h n : Fin 128) : EReal :=
  sv * Ideal.exp (A 127 h) + ∑ s : Fin 128, B s n * ((xs s * D s h) * Ideal.exp (A 127 h - A s h))

theorem slt_mask {α : Type} (l : Fin 128) (a b : α) : Scalar.select (IntOp.cmpi .slt (BitVec.ofNat 32 l.val) 64#32) a b = if l.val < 64 then a else b := by
  have e : ∀ l : Fin 128, IntOp.cmpi .slt (BitVec.ofNat 32 l.val) 64#32 = if l.val < 64 then 1#1 else 0#1 := by decide +kernel
  rw [e l]; split <;> rfl

theorem sge_mask {α : Type} (r s : Fin 128) (a b : α) : Scalar.select (IntOp.cmpi .sge (BitVec.ofNat 32 r.val) (BitVec.ofNat 32 s.val)) a b = if s.val ≤ r.val then a else b := by
  have e : ∀ r s : Fin 128, IntOp.cmpi .sge (BitVec.ofNat 32 r.val) (BitVec.ofNat 32 s.val) = if s.val ≤ r.val then 1#1 else 0#1 := by decide +kernel
  rw [e r s]; split <;> rfl

theorem word_bot : Ideal.ofBits .f32 0xFF800000#32 = ⊥ := by
  simp [Ideal.ofBits, Ideal.ieee]

theorem tile0 (v39 D : Tile) (b c : Vec Ideal S128x128 .bf16) (Y : Vec Ideal S128x512 .f32) (x1 : Vec Ideal S128x1536 .f32) (kk : Vec Ideal S1x128 .f32) (r l : Fin 128) (h : Fin 128) (hh : h.val = 0 + if l.val < 64 then 0 else 1) :
    (show EReal from k0_pay34 (F := Ideal) (k0_pay3 x1) k0_pay21 (k0_pay22 b c) Y (k0_pay28 v39 k0_pay18) (k0_pay31 (k0_pay3 x1) D) (k0_pay32 (k0_pay3 x1) b c D v39 k0_pay17 k0_pay18) (k0_pay33 v39 k0_pay17 k0_pay18) kk (ix2 r l))
    = ycell (fun i j => k0_pay19 (F := Ideal) v39 k0_pay18 (ix2 i j)) (fun i j => D (ix2 i j)) (fun i j => (k0_pay22 (F := Ideal) b c) (ix2 i j)) (Y (ix2 r ⟨0 + l.val, by omega⟩)) (fun s => x1 (ix2 s ⟨0 + l.val, by omega⟩)) (kk (ix2 0 l)) h r := by
  pointwise [k0_pay34, k0_pay33, k0_pay32, k0_pay31, k0_pay30, k0_pay28, k0_pay27, k0_pay26, k0_pay25, k0_pay3, k0_pay20, k0_pay17, k0_pay21, ycell]
  simp only [slt_mask, sge_mask, word_bot]
  by_cases hl : l.val < 64
  · obtain rfl : h = 0 := Fin.ext (by rw [hh, if_pos hl]; rfl)
    simp only [hl, if_true]
  · obtain rfl : h = 1 := Fin.ext (by rw [hh, if_neg hl]; rfl)
    simp only [hl, if_false]

theorem tile1 (v39 D : Tile) (CB : Tile) (Y : Vec Ideal S128x512 .f32) (x1 : Vec Ideal S128x1536 .f32) (kk : Vec Ideal S1x128 .f32) (r l : Fin 128) (h : Fin 128) (hh : h.val = 2 + if l.val < 64 then 0 else 1) :
    (show EReal from k0_pay46 (F := Ideal) (k0_pay4 x1) k0_pay17 k0_pay21 CB Y (k0_pay40 (k0_pay19 v39 k0_pay18) k0_pay21) (k0_pay43 (k0_pay4 x1) D k0_pay21) (k0_pay44 (k0_pay4 x1) D k0_pay17 (k0_pay19 v39 k0_pay18) (k0_pay20 v39 k0_pay18) k0_pay21 CB) (k0_pay45 (k0_pay19 v39 k0_pay18) (k0_pay20 v39 k0_pay18)) kk (ix2 r l))
    = ycell (fun i j => k0_pay19 (F := Ideal) v39 k0_pay18 (ix2 i j)) (fun i j => D (ix2 i j)) (fun i j => CB (ix2 i j)) (Y (ix2 r ⟨128 + l.val, by omega⟩)) (fun s => x1 (ix2 s ⟨128 + l.val, by omega⟩)) (kk (ix2 0 l)) h r := by
  pointwise [k0_pay46, k0_pay45, k0_pay44, k0_pay43, k0_pay42, k0_pay40, k0_pay39, k0_pay38, k0_pay37, k0_pay4, k0_pay20, k0_pay17, k0_pay21, ycell]
  simp only [slt_mask, sge_mask, word_bot]
  by_cases hl : l.val < 64
  · obtain rfl : h = 2 := Fin.ext (by rw [hh, if_pos hl]; rfl)
    simp only [hl, if_true]
  · obtain rfl : h = 3 := Fin.ext (by rw [hh, if_neg hl]; rfl)
    simp only [hl, if_false]

theorem tile2 (v39 D : Tile) (CB : Tile) (Y : Vec Ideal S128x512 .f32) (x1 : Vec Ideal S128x1536 .f32) (kk : Vec Ideal S1x128 .f32) (r l : Fin 128) (h : Fin 128) (hh : h.val = 4 + if l.val < 64 then 0 else 1) :
    (show EReal from k0_pay57 (F := Ideal) (k0_pay5 x1) k0_pay17 (k0_pay20 v39 k0_pay18) k0_pay21 CB Y (k0_pay50 (k0_pay19 v39 k0_pay18)) (k0_pay52 (k0_pay19 v39 k0_pay18) k0_pay21) (k0_pay55 (k0_pay5 x1) D k0_pay21) (k0_pay56 (k0_pay5 x1) D k0_pay17 (k0_pay19 v39 k0_pay18) (k0_pay20 v39 k0_pay18) k0_pay21 CB) kk (ix2 r l))
    = ycell (fun i j => k0_pay19 (F := Ideal) v39 k0_pay18 (ix2 i j)) (fun i j => D (ix2 i j)) (fun i j => CB (ix2 i j)) (Y (ix2 r ⟨256 + l.val, by omega⟩)) (fun s => x1 (ix2 s ⟨256 + l.val, by omega⟩)) (kk (ix2 0 l)) h r := by
  pointwise [k0_pay57, k0_pay56, k0_pay55, k0_pay54, k0_pay52, k0_pay51, k0_pay50, k0_pay49, k0_pay5, k0_pay20, k0_pay17, k0_pay21, ycell]
  simp only [slt_mask, sge_mask, word_bot]
  by_cases hl : l.val < 64
  · obtain rfl : h = 4 := Fin.ext (by rw [hh, if_pos hl]; rfl)
    simp only [hl, if_true]
  · obtain rfl : h = 5 := Fin.ext (by rw [hh, if_neg hl]; rfl)
    simp only [hl, if_false]

theorem tile3 (v39 D : Tile) (CB : Tile) (Y : Vec Ideal S128x512 .f32) (x1 : Vec Ideal S128x1536 .f32) (kk : Vec Ideal S1x128 .f32) (r l : Fin 128) (h : Fin 128) (hh : h.val = 6 + if l.val < 64 then 0 else 1) :
    (show EReal from k0_pay68 (F := Ideal) (k0_pay6 x1) k0_pay17 (k0_pay20 v39 k0_pay18) k0_pay21 CB Y (k0_pay61 (k0_pay19 v39 k0_pay18)) (k0_pay63 (k0_pay19 v39 k0_pay18) k0_pay21) (k0_pay66 (k0_pay6 x1) D k0_pay21) (k0_pay67 k0_pay17 (k0_pay19 v39 k0_pay18) (k0_pay20 v39 k0_pay18) CB) kk (ix2 r l))
    = ycell (fun i j => k0_pay19 (F := Ideal) v39 k0_pay18 (ix2 i j)) (fun i j => D (ix2 i j)) (fun i j => CB (ix2 i j)) (Y (ix2 r ⟨384 + l.val, by omega⟩)) (fun s => x1 (ix2 s ⟨384 + l.val, by omega⟩)) (kk (ix2 0 l)) h r := by
  pointwise [k0_pay68, k0_pay67, k0_pay66, k0_pay65, k0_pay63, k0_pay62, k0_pay61, k0_pay60, k0_pay6, k0_pay20, k0_pay17, k0_pay21, ycell]
  simp only [slt_mask, sge_mask, word_bot]
  by_cases hl : l.val < 64
  · obtain rfl : h = 6 := Fin.ext (by rw [hh, if_pos hl]; rfl)
    simp only [hl, if_true]
  · obtain rfl : h = 7 := Fin.ext (by rw [hh, if_neg hl]; rfl)
    simp only [hl, if_false]

theorem tile4 (v39 D : Tile) (CB : Tile) (Y : Vec Ideal S128x512 .f32) (x1 : Vec Ideal S128x1536 .f32) (kk : Vec Ideal S1x128 .f32) (r l : Fin 128) (h : Fin 128) (hh : h.val = 8 + if l.val < 64 then 0 else 1) :
    (show EReal from k0_pay78 (F := Ideal) (k0_pay7 x1) D k0_pay17 (k0_pay20 v39 k0_pay18) k0_pay21 CB Y (k0_pay73 (k0_pay19 v39 k0_pay18)) (k0_pay74 (k0_pay19 v39 k0_pay18)) kk (ix2 r l))
    = ycell (fun i j => k0_pay19 (F := Ideal) v39 k0_pay18 (ix2 i j)) (fun i j => D (ix2 i j)) (fun i j => CB (ix2 i j)) (Y (ix2 r ⟨0 + l.val, by omega⟩)) (fun s => x1 (ix2 s ⟨512 + l.val, by omega⟩)) (kk (ix2 0 l)) h r := by
  pointwise [k0_pay78, k0_pay77, k0_pay76, k0_pay75, k0_pay74, k0_pay73, k0_pay7, k0_pay20, k0_pay17, k0_pay21, ycell]
  simp only [slt_mask, sge_mask, word_bot]
  by_cases hl : l.val < 64
  · obtain rfl : h = 8 := Fin.ext (by rw [hh, if_pos hl]; rfl)
    simp only [hl, if_true]
  · obtain rfl : h = 9 := Fin.ext (by rw [hh, if_neg hl]; rfl)
    simp only [hl, if_false]

theorem tile5 (v39 D : Tile) (CB : Tile) (Y : Vec Ideal S128x512 .f32) (x1 : Vec Ideal S128x1536 .f32) (kk : Vec Ideal S1x128 .f32) (r l : Fin 128) (h : Fin 128) (hh : h.val = 10 + if l.val < 64 then 0 else 1) :
    (show EReal from k0_pay86 (F := Ideal) (k0_pay8 x1) D k0_pay17 (k0_pay19 v39 k0_pay18) (k0_pay20 v39 k0_pay18) k0_pay21 CB Y (k0_pay81 (k0_pay19 v39 k0_pay18)) kk (ix2 r l))
    = ycell (fun i j => k0_pay19 (F := Ideal) v39 k0_pay18 (ix2 i j)) (fun i j => D (ix2 i j)) (fun i j => CB (ix2 i j)) (Y (ix2 r ⟨128 + l.val, by omega⟩)) (fun s => x1 (ix2 s ⟨640 + l.val, by omega⟩)) (kk (ix2 0 l)) h r := by
  pointwise [k0_pay86, k0_pay85, k0_pay84, k0_pay83, k0_pay82, k0_pay81, k0_pay8, k0_pay20, k0_pay17, k0_pay21, ycell]
  simp only [slt_mask, sge_mask, word_bot]
  by_cases hl : l.val < 64
  · obtain rfl : h = 10 := Fin.ext (by rw [hh, if_pos hl]; rfl)
    simp only [hl, if_true]
  · obtain rfl : h = 11 := Fin.ext (by rw [hh, if_neg hl]; rfl)
    simp only [hl, if_false]

theorem tile6 (v39 D : Tile) (CB : Tile) (Y : Vec Ideal S128x512 .f32) (x1 : Vec Ideal S128x1536 .f32) (kk : Vec Ideal S1x128 .f32) (r l : Fin 128) (h : Fin 128) (hh : h.val = 12 + if l.val < 64 then 0 else 1) :
    (show EReal from k0_pay95 (F := Ideal) (k0_pay9 x1) D k0_pay17 (k0_pay19 v39 k0_pay18) (k0_pay20 v39 k0_pay18) k0_pay21 CB Y kk (ix2 r l))
    = ycell (fun i j => k0_pay19 (F := Ideal) v39 k0_pay18 (ix2 i j)) (fun i j => D (ix2 i j)) (fun i j => CB (ix2 i j)) (Y (ix2 r ⟨256 + l.val, by omega⟩)) (fun s => x1 (ix2 s ⟨768 + l.val, by omega⟩)) (kk (ix2 0 l)) h r := by
  pointwise [k0_pay95, k0_pay94, k0_pay92, k0_pay91, k0_pay90, k0_pay89, k0_pay9, k0_pay20, k0_pay17, k0_pay21, ycell]
  simp only [slt_mask, sge_mask, word_bot]
  by_cases hl : l.val < 64
  · obtain rfl : h = 12 := Fin.ext (by rw [hh, if_pos hl]; rfl)
    simp only [hl, if_true]
  · obtain rfl : h = 13 := Fin.ext (by rw [hh, if_neg hl]; rfl)
    simp only [hl, if_false]

theorem tile7 (v39 D : Tile) (CB : Tile) (Y : Vec Ideal S128x512 .f32) (x1 : Vec Ideal S128x1536 .f32) (kk : Vec Ideal S1x128 .f32) (r l : Fin 128) (h : Fin 128) (hh : h.val = 14 + if l.val < 64 then 0 else 1) :
    (show EReal from k0_pay104 (F := Ideal) (k0_pay10 x1) D k0_pay17 (k0_pay19 v39 k0_pay18) (k0_pay20 v39 k0_pay18) k0_pay21 CB Y (ix2 r l)) + x1 (ix2 r ⟨896 + l.val, by omega⟩) * kk (ix2 0 l)
    = ycell (fun i j => k0_pay19 (F := Ideal) v39 k0_pay18 (ix2 i j)) (fun i j => D (ix2 i j)) (fun i j => CB (ix2 i j)) (Y (ix2 r ⟨384 + l.val, by omega⟩)) (fun s => x1 (ix2 s ⟨896 + l.val, by omega⟩)) (kk (ix2 0 l)) h r := by
  pointwise [k0_pay104, k0_pay103, k0_pay101, k0_pay100, k0_pay99, k0_pay98, k0_pay10, k0_pay20, k0_pay17, k0_pay21, ycell]
  simp only [slt_mask, sge_mask, word_bot]
  by_cases hl : l.val < 64
  · obtain rfl : h = 14 := Fin.ext (by rw [hh, if_pos hl]; rfl)
    simp only [hl, if_true]
  · obtain rfl : h = 15 := Fin.ext (by rw [hh, if_neg hl]; rfl)
    simp only [hl, if_false]

theorem join69_0 (b : Vec Ideal S128x128 .bf16) (sv : Vec Ideal S128x512 .f32) (x0 : Vec Ideal S128x128 .bf16) (d0 : Vec Ideal S1x128 .f32) (x1 : Vec Ideal S128x128 .bf16) (d1 : Vec Ideal S1x128 .f32) (x2 : Vec Ideal S128x128 .bf16) (d2 : Vec Ideal S1x128 .f32) (w3 y3 x3 : Tile) (n l : Fin 128) :
    (show EReal from k0_pay69 (F := Ideal) b sv x0 d0 x1 d1 x2 d2 w3 y3 x3 (ix3 0 n ⟨0 + l.val, by omega⟩)) = sv (ix2 n ⟨0 + l.val, by omega⟩) * d0 (ix2 0 l) + ∑ s : Fin 128, b (ix2 s n) * x0 (ix2 s l) := by
  pointwise [k0_pay69]

theorem join69_1 (b : Vec Ideal S128x128 .bf16) (sv : Vec Ideal S128x512 .f32) (x0 : Vec Ideal S128x128 .bf16) (d0 : Vec Ideal S1x128 .f32) (x1 : Vec Ideal S128x128 .bf16) (d1 : Vec Ideal S1x128 .f32) (x2 : Vec Ideal S128x128 .bf16) (d2 : Vec Ideal S1x128 .f32) (w3 y3 x3 : Tile) (n l : Fin 128) :
    (show EReal from k0_pay69 (F := Ideal) b sv x0 d0 x1 d1 x2 d2 w3 y3 x3 (ix3 0 n ⟨128 + l.val, by omega⟩)) = sv (ix2 n ⟨128 + l.val, by omega⟩) * d1 (ix2 0 l) + ∑ s : Fin 128, b (ix2 s n) * x1 (ix2 s l) := by
  pointwise [k0_pay69]

theorem join69_2 (b : Vec Ideal S128x128 .bf16) (sv : Vec Ideal S128x512 .f32) (x0 : Vec Ideal S128x128 .bf16) (d0 : Vec Ideal S1x128 .f32) (x1 : Vec Ideal S128x128 .bf16) (d1 : Vec Ideal S1x128 .f32) (x2 : Vec Ideal S128x128 .bf16) (d2 : Vec Ideal S1x128 .f32) (w3 y3 x3 : Tile) (n l : Fin 128) :
    (show EReal from k0_pay69 (F := Ideal) b sv x0 d0 x1 d1 x2 d2 w3 y3 x3 (ix3 0 n ⟨256 + l.val, by omega⟩)) = sv (ix2 n ⟨256 + l.val, by omega⟩) * d2 (ix2 0 l) + ∑ s : Fin 128, b (ix2 s n) * x2 (ix2 s l) := by
  pointwise [k0_pay69]
  have c1 : ¬ (256 + l.val < 128) := by omega
  have c2 : ¬ (256 + l.val - 128 < 128) := by omega
  have e : 256 + l.val - 128 - 128 = l.val := by omega
  simp only [c1, c2, e, l.isLt, ↓reduceDIte, Fin.eta]

theorem join69_3 (b : Vec Ideal S128x128 .bf16) (sv : Vec Ideal S128x512 .f32) (x0 : Vec Ideal S128x128 .bf16) (d0 : Vec Ideal S1x128 .f32) (x1 : Vec Ideal S128x128 .bf16) (d1 : Vec Ideal S1x128 .f32) (x2 : Vec Ideal S128x128 .bf16) (d2 : Vec Ideal S1x128 .f32) (w3 y3 x3 : Tile) (n l : Fin 128) :
    (show EReal from k0_pay69 (F := Ideal) b sv x0 d0 x1 d1 x2 d2 w3 y3 x3 (ix3 0 n ⟨384 + l.val, by omega⟩)) = sv (ix2 n ⟨384 + l.val, by omega⟩) * w3 (ix2 127 l) + ∑ s : Fin 128, b (ix2 s n) * (x3 (ix2 s l) * y3 (ix2 s l)) := by
  pointwise [k0_pay69]
  have c1 : ¬ (384 + l.val < 128) := by omega
  have c2 : ¬ (384 + l.val - 128 < 128) := by omega
  have c3 : ¬ (384 + l.val - 128 - 128 < 128) := by omega
  have e : 384 + l.val - 128 - 128 - 128 = l.val := by omega
  simp only [c1, c2, c3, e, ↓reduceDIte, Fin.eta]

theorem join106_0 (b : Vec Ideal S128x128 .bf16) (sv : Vec Ideal S128x512 .f32) (x0 : Vec Ideal S128x128 .bf16) (d0 : Vec Ideal S1x128 .f32) (x1 : Vec Ideal S128x128 .bf16) (d1 : Vec Ideal S1x128 .f32) (x2 : Vec Ideal S128x128 .bf16) (d2 : Vec Ideal S1x128 .f32) (w3 y3 x3 : Tile) (n l : Fin 128) :
    (show EReal from k0_pay106 (F := Ideal) b sv x0 d0 x1 d1 x2 d2 w3 y3 x3 (ix3 0 n ⟨0 + l.val, by omega⟩)) = sv (ix2 n ⟨0 + l.val, by omega⟩) * d0 (ix2 0 l) + ∑ s : Fin 128, b (ix2 s n) * x0 (ix2 s l) := by
  pointwise [k0_pay106]

theorem join106_1 (b : Vec Ideal S128x128 .bf16) (sv : Vec Ideal S128x512 .f32) (x0 : Vec Ideal S128x128 .bf16) (d0 : Vec Ideal S1x128 .f32) (x1 : Vec Ideal S128x128 .bf16) (d1 : Vec Ideal S1x128 .f32) (x2 : Vec Ideal S128x128 .bf16) (d2 : Vec Ideal S1x128 .f32) (w3 y3 x3 : Tile) (n l : Fin 128) :
    (show EReal from k0_pay106 (F := Ideal) b sv x0 d0 x1 d1 x2 d2 w3 y3 x3 (ix3 0 n ⟨128 + l.val, by omega⟩)) = sv (ix2 n ⟨128 + l.val, by omega⟩) * d1 (ix2 0 l) + ∑ s : Fin 128, b (ix2 s n) * x1 (ix2 s l) := by
  pointwise [k0_pay106]

theorem join106_2 (b : Vec Ideal S128x128 .bf16) (sv : Vec Ideal S128x512 .f32) (x0 : Vec Ideal S128x128 .bf16) (d0 : Vec Ideal S1x128 .f32) (x1 : Vec Ideal S128x128 .bf16) (d1 : Vec Ideal S1x128 .f32) (x2 : Vec Ideal S128x128 .bf16) (d2 : Vec Ideal S1x128 .f32) (w3 y3 x3 : Tile) (n l : Fin 128) :
    (show EReal from k0_pay106 (F := Ideal) b sv x0 d0 x1 d1 x2 d2 w3 y3 x3 (ix3 0 n ⟨256 + l.val, by omega⟩)) = sv (ix2 n ⟨256 + l.val, by omega⟩) * d2 (ix2 0 l) + ∑ s : Fin 128, b (ix2 s n) * x2 (ix2 s l) := by
  pointwise [k0_pay106]
  have c1 : ¬ (256 + l.val < 128) := by omega
  have c2 : ¬ (256 + l.val - 128 < 128) := by omega
  have e : 256 + l.val - 128 - 128 = l.val := by omega
  simp only [c1, c2, e, l.isLt, ↓reduceDIte, Fin.eta]

theorem join106_3 (b : Vec Ideal S128x128 .bf16) (sv : Vec Ideal S128x512 .f32) (x0 : Vec Ideal S128x128 .bf16) (d0 : Vec Ideal S1x128 .f32) (x1 : Vec Ideal S128x128 .bf16) (d1 : Vec Ideal S1x128 .f32) (x2 : Vec Ideal S128x128 .bf16) (d2 : Vec Ideal S1x128 .f32) (w3 y3 x3 : Tile) (n l : Fin 128) :
    (show EReal from k0_pay106 (F := Ideal) b sv x0 d0 x1 d1 x2 d2 w3 y3 x3 (ix3 0 n ⟨384 + l.val, by omega⟩)) = sv (ix2 n ⟨384 + l.val, by omega⟩) * w3 (ix2 127 l) + ∑ s : Fin 128, b (ix2 s n) * (x3 (ix2 s l) * y3 (ix2 s l)) := by
  pointwise [k0_pay106]
  have c1 : ¬ (384 + l.val < 128) := by omega
  have c2 : ¬ (384 + l.val - 128 < 128) := by omega
  have c3 : ¬ (384 + l.val - 128 - 128 < 128) := by omega
  have e : 384 + l.val - 128 - 128 - 128 = l.val := by omega
  simp only [c1, c2, c3, e, ↓reduceDIte, Fin.eta]

theorem xdec0 (v39 D : Tile) (x1 : Vec Ideal S128x1536 .f32) (s l : Fin 128) (h : Fin 128) (hh : h.val = 0 + if l.val < 64 then 0 else 1) :
    (show EReal from (k0_pay35 (F := Ideal) (k0_pay29 v39 k0_pay18) (k0_pay30 (k0_pay3 x1) D)) (ix2 s l)) = (x1 (ix2 s ⟨0 + l.val, by omega⟩) * D (ix2 s h)) * Ideal.exp (k0_pay19 (F := Ideal) v39 k0_pay18 (ix2 127 h) - k0_pay19 (F := Ideal) v39 k0_pay18 (ix2 s h)) := by
  pointwise [k0_pay23, k0_pay35, k0_pay29, k0_pay30, k0_pay36, k0_pay28, k0_pay27, k0_pay26, k0_pay25, k0_pay47, k0_pay41, k0_pay40, k0_pay39, k0_pay38, k0_pay37, k0_pay42, k0_pay48, k0_pay3, k0_pay4, k0_pay5, k0_pay6, k0_pay58, k0_pay53, k0_pay54, k0_pay52, k0_pay51, k0_pay49, k0_pay50, k0_pay59, k0_pay63, k0_pay62, k0_pay64, k0_pay60, k0_pay61, k0_pay65, k0_pay21]
  simp only [slt_mask]
  by_cases hl : l.val < 64
  · obtain rfl : h = 0 := Fin.ext (by rw [hh, if_pos hl]; rfl)
    simp only [hl, if_true]
  · obtain rfl : h = 1 := Fin.ext (by rw [hh, if_neg hl]; rfl)
    simp only [hl, if_false]

theorem cdec0 (v39 D : Tile) (l : Fin 128) (h : Fin 128) (hh : h.val = 0 + if l.val < 64 then 0 else 1) :
    (show EReal from (k0_pay36 (F := Ideal) (k0_pay28 v39 k0_pay18)) (ix2 0 l)) = Ideal.exp (k0_pay19 (F := Ideal) v39 k0_pay18 (ix2 127 h)) := by
  pointwise [k0_pay23, k0_pay35, k0_pay29, k0_pay30, k0_pay36, k0_pay28, k0_pay27, k0_pay26, k0_pay25, k0_pay47, k0_pay41, k0_pay40, k0_pay39, k0_pay38, k0_pay37, k0_pay42, k0_pay48, k0_pay3, k0_pay4, k0_pay5, k0_pay6, k0_pay58, k0_pay53, k0_pay54, k0_pay52, k0_pay51, k0_pay49, k0_pay50, k0_pay59, k0_pay63, k0_pay62, k0_pay64, k0_pay60, k0_pay61, k0_pay65, k0_pay21]
  simp only [slt_mask]
  by_cases hl : l.val < 64
  · obtain rfl : h = 0 := Fin.ext (by rw [hh, if_pos hl]; rfl)
    simp only [hl, if_true]
  · obtain rfl : h = 1 := Fin.ext (by rw [hh, if_neg hl]; rfl)
    simp only [hl, if_false]

theorem state0 (v39 D : Tile) (b : Vec Ideal S128x128 .bf16) (st : Vec Ideal S1x128x512 .f32) (x1 : Vec Ideal S128x1536 .f32) (n l : Fin 128) (h : Fin 128) (hh : h.val = 0 + if l.val < 64 then 0 else 1) :
    (show EReal from k0_pay69 (F := Ideal) b (k0_pay23 st) (k0_pay35 (k0_pay29 v39 k0_pay18) (k0_pay30 (k0_pay3 x1) D)) (k0_pay36 (k0_pay28 v39 k0_pay18)) (k0_pay47 (k0_pay41 (k0_pay19 v39 k0_pay18) k0_pay21) (k0_pay42 (k0_pay4 x1) D k0_pay21)) (k0_pay48 (k0_pay40 (k0_pay19 v39 k0_pay18) k0_pay21)) (k0_pay58 (k0_pay53 (k0_pay19 v39 k0_pay18) k0_pay21) (k0_pay54 (k0_pay5 x1) D k0_pay21)) (k0_pay59 (k0_pay52 (k0_pay19 v39 k0_pay18) k0_pay21)) (k0_pay63 (k0_pay19 v39 k0_pay18) k0_pay21) (k0_pay64 (k0_pay19 v39 k0_pay18) k0_pay21) (k0_pay65 (k0_pay6 x1) D k0_pay21) (ix3 0 n ⟨0 + l.val, by omega⟩))
    = stcell (fun i j => k0_pay19 (F := Ideal) v39 k0_pay18 (ix2 i j)) (fun i j => D (ix2 i j)) (fun i j => b (ix2 i j)) (st (ix3 0 n ⟨0 + l.val, by omega⟩)) (fun s => x1 (ix2 s ⟨0 + l.val, by omega⟩)) h n := by
  refine (join69_0 _ _ _ _ _ _ _ _ _ _ _ n l).trans ?_
  refine congrArg₂ (fun a c : EReal => a + c) (congrArg₂ (fun a c : EReal => a * c) ?_ (cdec0 v39 D l h hh)) (Finset.sum_congr rfl fun s _ => congrArg (fun c : EReal => (show EReal from b (ix2 s n)) * c) (xdec0 v39 D x1 s l h hh))
  pointwise [k0_pay23, k0_pay71]

theorem xdec1 (v39 D : Tile) (x1 : Vec Ideal S128x1536 .f32) (s l : Fin 128) (h : Fin 128) (hh : h.val = 2 + if l.val < 64 then 0 else 1) :
    (show EReal from (k0_pay47 (F := Ideal) (k0_pay41 (k0_pay19 v39 k0_pay18) k0_pay21) (k0_pay42 (k0_pay4 x1) D k0_pay21)) (ix2 s l)) = (x1 (ix2 s ⟨128 + l.val, by omega⟩) * D (ix2 s h)) * Ideal.exp (k0_pay19 (F := Ideal) v39 k0_pay18 (ix2 127 h) - k0_pay19 (F := Ideal) v39 k0_pay18 (ix2 s h)) := by
  pointwise [k0_pay23, k0_pay35, k0_pay29, k0_pay30, k0_pay36, k0_pay28, k0_pay27, k0_pay26, k0_pay25, k0_pay47, k0_pay41, k0_pay40, k0_pay39, k0_pay38, k0_pay37, k0_pay42, k0_pay48, k0_pay3, k0_pay4, k0_pay5, k0_pay6, k0_pay58, k0_pay53, k0_pay54, k0_pay52, k0_pay51, k0_pay49, k0_pay50, k0_pay59, k0_pay63, k0_pay62, k0_pay64, k0_pay60, k0_pay61, k0_pay65, k0_pay21]
  simp only [slt_mask]
  by_cases hl : l.val < 64
  · obtain rfl : h = 2 := Fin.ext (by rw [hh, if_pos hl]; rfl)
    simp only [hl, if_true]
  · obtain rfl : h = 3 := Fin.ext (by rw [hh, if_neg hl]; rfl)
    simp only [hl, if_false]

theorem cdec1 (v39 D : Tile) (l : Fin 128) (h : Fin 128) (hh : h.val = 2 + if l.val < 64 then 0 else 1) :
    (show EReal from (k0_pay48 (F := Ideal) (k0_pay40 (k0_pay19 v39 k0_pay18) k0_pay21)) (ix2 0 l)) = Ideal.exp (k0_pay19 (F := Ideal) v39 k0_pay18 (ix2 127 h)) := by
  pointwise [k0_pay23, k0_pay35, k0_pay29, k0_pay30, k0_pay36, k0_pay28, k0_pay27, k0_pay26, k0_pay25, k0_pay47, k0_pay41, k0_pay40, k0_pay39, k0_pay38, k0_pay37, k0_pay42, k0_pay48, k0_pay3, k0_pay4, k0_pay5, k0_pay6, k0_pay58, k0_pay53, k0_pay54, k0_pay52, k0_pay51, k0_pay49, k0_pay50, k0_pay59, k0_pay63, k0_pay62, k0_pay64, k0_pay60, k0_pay61, k0_pay65, k0_pay21]
  simp only [slt_mask]
  by_cases hl : l.val < 64
  · obtain rfl : h = 2 := Fin.ext (by rw [hh, if_pos hl]; rfl)
    simp only [hl, if_true]
  · obtain rfl : h = 3 := Fin.ext (by rw [hh, if_neg hl]; rfl)
    simp only [hl, if_false]

theorem state1 (v39 D : Tile) (b : Vec Ideal S128x128 .bf16) (st : Vec Ideal S1x128x512 .f32) (x1 : Vec Ideal S128x1536 .f32) (n l : Fin 128) (h : Fin 128) (hh : h.val = 2 + if l.val < 64 then 0 else 1) :
    (show EReal from k0_pay69 (F := Ideal) b (k0_pay23 st) (k0_pay35 (k0_pay29 v39 k0_pay18) (k0_pay30 (k0_pay3 x1) D)) (k0_pay36 (k0_pay28 v39 k0_pay18)) (k0_pay47 (k0_pay41 (k0_pay19 v39 k0_pay18) k0_pay21) (k0_pay42 (k0_pay4 x1) D k0_pay21)) (k0_pay48 (k0_pay40 (k0_pay19 v39 k0_pay18) k0_pay21)) (k0_pay58 (k0_pay53 (k0_pay19 v39 k0_pay18) k0_pay21) (k0_pay54 (k0_pay5 x1) D k0_pay21)) (k0_pay59 (k0_pay52 (k0_pay19 v39 k0_pay18) k0_pay21)) (k0_pay63 (k0_pay19 v39 k0_pay18) k0_pay21) (k0_pay64 (k0_pay19 v39 k0_pay18) k0_pay21) (k0_pay65 (k0_pay6 x1) D k0_pay21) (ix3 0 n ⟨128 + l.val, by omega⟩))
    = stcell (fun i j => k0_pay19 (F := Ideal) v39 k0_pay18 (ix2 i j)) (fun i j => D (ix2 i j)) (fun i j => b (ix2 i j)) (st (ix3 0 n ⟨128 + l.val, by omega⟩)) (fun s => x1 (ix2 s ⟨128 + l.val, by omega⟩)) h n := by
  refine (join69_1 _ _ _ _ _ _ _ _ _ _ _ n l).trans ?_
  refine congrArg₂ (fun a c : EReal => a + c) (congrArg₂ (fun a c : EReal => a * c) ?_ (cdec1 v39 D l h hh)) (Finset.sum_congr rfl fun s _ => congrArg (fun c : EReal => (show EReal from b (ix2 s n)) * c) (xdec1 v39 D x1 s l h hh))
  pointwise [k0_pay23, k0_pay71]

theorem xdec2 (v39 D : Tile) (x1 : Vec Ideal S128x1536 .f32) (s l : Fin 128) (h : Fin 128) (hh : h.val = 4 + if l.val < 64 then 0 else 1) :
    (show EReal from (k0_pay58 (F := Ideal) (k0_pay53 (k0_pay19 v39 k0_pay18) k0_pay21) (k0_pay54 (k0_pay5 x1) D k0_pay21)) (ix2 s l)) = (x1 (ix2 s ⟨256 + l.val, by omega⟩) * D (ix2 s h)) * Ideal.exp (k0_pay19 (F := Ideal) v39 k0_pay18 (ix2 127 h) - k0_pay19 (F := Ideal) v39 k0_pay18 (ix2 s h)) := by
  pointwise [k0_pay23, k0_pay35, k0_pay29, k0_pay30, k0_pay36, k0_pay28, k0_pay27, k0_pay26, k0_pay25, k0_pay47, k0_pay41, k0_pay40, k0_pay39, k0_pay38, k0_pay37, k0_pay42, k0_pay48, k0_pay3, k0_pay4, k0_pay5, k0_pay6, k0_pay58, k0_pay53, k0_pay54, k0_pay52, k0_pay51, k0_pay49, k0_pay50, k0_pay59, k0_pay63, k0_pay62, k0_pay64, k0_pay60, k0_pay61, k0_pay65, k0_pay21]
  simp only [slt_mask]
  by_cases hl : l.val < 64
  · obtain rfl : h = 4 := Fin.ext (by rw [hh, if_pos hl]; rfl)
    simp only [hl, if_true]
  · obtain rfl : h = 5 := Fin.ext (by rw [hh, if_neg hl]; rfl)
    simp only [hl, if_false]

theorem cdec2 (v39 D : Tile) (l : Fin 128) (h : Fin 128) (hh : h.val = 4 + if l.val < 64 then 0 else 1) :
    (show EReal from (k0_pay59 (F := Ideal) (k0_pay52 (k0_pay19 v39 k0_pay18) k0_pay21)) (ix2 0 l)) = Ideal.exp (k0_pay19 (F := Ideal) v39 k0_pay18 (ix2 127 h)) := by
  pointwise [k0_pay23, k0_pay35, k0_pay29, k0_pay30, k0_pay36, k0_pay28, k0_pay27, k0_pay26, k0_pay25, k0_pay47, k0_pay41, k0_pay40, k0_pay39, k0_pay38, k0_pay37, k0_pay42, k0_pay48, k0_pay3, k0_pay4, k0_pay5, k0_pay6, k0_pay58, k0_pay53, k0_pay54, k0_pay52, k0_pay51, k0_pay49, k0_pay50, k0_pay59, k0_pay63, k0_pay62, k0_pay64, k0_pay60, k0_pay61, k0_pay65, k0_pay21]
  simp only [slt_mask]
  by_cases hl : l.val < 64
  · obtain rfl : h = 4 := Fin.ext (by rw [hh, if_pos hl]; rfl)
    simp only [hl, if_true]
  · obtain rfl : h = 5 := Fin.ext (by rw [hh, if_neg hl]; rfl)
    simp only [hl, if_false]

theorem state2 (v39 D : Tile) (b : Vec Ideal S128x128 .bf16) (st : Vec Ideal S1x128x512 .f32) (x1 : Vec Ideal S128x1536 .f32) (n l : Fin 128) (h : Fin 128) (hh : h.val = 4 + if l.val < 64 then 0 else 1) :
    (show EReal from k0_pay69 (F := Ideal) b (k0_pay23 st) (k0_pay35 (k0_pay29 v39 k0_pay18) (k0_pay30 (k0_pay3 x1) D)) (k0_pay36 (k0_pay28 v39 k0_pay18)) (k0_pay47 (k0_pay41 (k0_pay19 v39 k0_pay18) k0_pay21) (k0_pay42 (k0_pay4 x1) D k0_pay21)) (k0_pay48 (k0_pay40 (k0_pay19 v39 k0_pay18) k0_pay21)) (k0_pay58 (k0_pay53 (k0_pay19 v39 k0_pay18) k0_pay21) (k0_pay54 (k0_pay5 x1) D k0_pay21)) (k0_pay59 (k0_pay52 (k0_pay19 v39 k0_pay18) k0_pay21)) (k0_pay63 (k0_pay19 v39 k0_pay18) k0_pay21) (k0_pay64 (k0_pay19 v39 k0_pay18) k0_pay21) (k0_pay65 (k0_pay6 x1) D k0_pay21) (ix3 0 n ⟨256 + l.val, by omega⟩))
    = stcell (fun i j => k0_pay19 (F := Ideal) v39 k0_pay18 (ix2 i j)) (fun i j => D (ix2 i j)) (fun i j => b (ix2 i j)) (st (ix3 0 n ⟨256 + l.val, by omega⟩)) (fun s => x1 (ix2 s ⟨256 + l.val, by omega⟩)) h n := by
  refine (join69_2 _ _ _ _ _ _ _ _ _ _ _ n l).trans ?_
  refine congrArg₂ (fun a c : EReal => a + c) (congrArg₂ (fun a c : EReal => a * c) ?_ (cdec2 v39 D l h hh)) (Finset.sum_congr rfl fun s _ => congrArg (fun c : EReal => (show EReal from b (ix2 s n)) * c) (xdec2 v39 D x1 s l h hh))
  pointwise [k0_pay23, k0_pay71]

theorem xdec3 (v39 D : Tile) (x1 : Vec Ideal S128x1536 .f32) (s l : Fin 128) (h : Fin 128) (hh : h.val = 6 + if l.val < 64 then 0 else 1) :
    (show EReal from ((show EReal from (k0_pay65 (F := Ideal) (k0_pay6 x1) D k0_pay21) (ix2 s l)) * (show EReal from (k0_pay64 (F := Ideal) (k0_pay19 v39 k0_pay18) k0_pay21) (ix2 s l)))) = (x1 (ix2 s ⟨384 + l.val, by omega⟩) * D (ix2 s h)) * Ideal.exp (k0_pay19 (F := Ideal) v39 k0_pay18 (ix2 127 h) - k0_pay19 (F := Ideal) v39 k0_pay18 (ix2 s h)) := by
  pointwise [k0_pay23, k0_pay35, k0_pay29, k0_pay30, k0_pay36, k0_pay28, k0_pay27, k0_pay26, k0_pay25, k0_pay47, k0_pay41, k0_pay40, k0_pay39, k0_pay38, k0_pay37, k0_pay42, k0_pay48, k0_pay3, k0_pay4, k0_pay5, k0_pay6, k0_pay58, k0_pay53, k0_pay54, k0_pay52, k0_pay51, k0_pay49, k0_pay50, k0_pay59, k0_pay63, k0_pay62, k0_pay64, k0_pay60, k0_pay61, k0_pay65, k0_pay21]
  simp only [slt_mask]
  by_cases hl : l.val < 64
  · obtain rfl : h = 6 := Fin.ext (by rw [hh, if_pos hl]; rfl)
    simp only [hl, if_true]
  · obtain rfl : h = 7 := Fin.ext (by rw [hh, if_neg hl]; rfl)
    simp only [hl, if_false]

theorem cdec3 (v39 D : Tile) (l : Fin 128) (h : Fin 128) (hh : h.val = 6 + if l.val < 64 then 0 else 1) :
    (show EReal from (k0_pay63 (F := Ideal) (k0_pay19 v39 k0_pay18) k0_pay21) (ix2 127 l)) = Ideal.exp (k0_pay19 (F := Ideal) v39 k0_pay18 (ix2 127 h)) := by
  pointwise [k0_pay23, k0_pay35, k0_pay29, k0_pay30, k0_pay36, k0_pay28, k0_pay27, k0_pay26, k0_pay25, k0_pay47, k0_pay41, k0_pay40, k0_pay39, k0_pay38, k0_pay37, k0_pay42, k0_pay48, k0_pay3, k0_pay4, k0_pay5, k0_pay6, k0_pay58, k0_pay53, k0_pay54, k0_pay52, k0_pay51, k0_pay49, k0_pay50, k0_pay59, k0_pay63, k0_pay62, k0_pay64, k0_pay60, k0_pay61, k0_pay65, k0_pay21]
  simp only [slt_mask]
  by_cases hl : l.val < 64
  · obtain rfl : h = 6 := Fin.ext (by rw [hh, if_pos hl]; rfl)
    simp only [hl, if_true]
  · obtain rfl : h = 7 := Fin.ext (by rw [hh, if_neg hl]; rfl)
    simp only [hl, if_false]

theorem state3 (v39 D : Tile) (b : Vec Ideal S128x128 .bf16) (st : Vec Ideal S1x128x512 .f32) (x1 : Vec Ideal S128x1536 .f32) (n l : Fin 128) (h : Fin 128) (hh : h.val = 6 + if l.val < 64 then 0 else 1) :
    (show EReal from k0_pay69 (F := Ideal) b (k0_pay23 st) (k0_pay35 (k0_pay29 v39 k0_pay18) (k0_pay30 (k0_pay3 x1) D)) (k0_pay36 (k0_pay28 v39 k0_pay18)) (k0_pay47 (k0_pay41 (k0_pay19 v39 k0_pay18) k0_pay21) (k0_pay42 (k0_pay4 x1) D k0_pay21)) (k0_pay48 (k0_pay40 (k0_pay19 v39 k0_pay18) k0_pay21)) (k0_pay58 (k0_pay53 (k0_pay19 v39 k0_pay18) k0_pay21) (k0_pay54 (k0_pay5 x1) D k0_pay21)) (k0_pay59 (k0_pay52 (k0_pay19 v39 k0_pay18) k0_pay21)) (k0_pay63 (k0_pay19 v39 k0_pay18) k0_pay21) (k0_pay64 (k0_pay19 v39 k0_pay18) k0_pay21) (k0_pay65 (k0_pay6 x1) D k0_pay21) (ix3 0 n ⟨384 + l.val, by omega⟩))
    = stcell (fun i j => k0_pay19 (F := Ideal) v39 k0_pay18 (ix2 i j)) (fun i j => D (ix2 i j)) (fun i j => b (ix2 i j)) (st (ix3 0 n ⟨384 + l.val, by omega⟩)) (fun s => x1 (ix2 s ⟨384 + l.val, by omega⟩)) h n := by
  refine (join69_3 _ _ _ _ _ _ _ _ _ _ _ n l).trans ?_
  refine congrArg₂ (fun a c : EReal => a + c) (congrArg₂ (fun a c : EReal => a * c) ?_ (cdec3 v39 D l h hh)) (Finset.sum_congr rfl fun s _ => congrArg (fun c : EReal => (show EReal from b (ix2 s n)) * c) (xdec3 v39 D x1 s l h hh))
  pointwise [k0_pay23, k0_pay71]

theorem xdec4 (v39 D : Tile) (x1 : Vec Ideal S128x1536 .f32) (s l : Fin 128) (h : Fin 128) (hh : h.val = 8 + if l.val < 64 then 0 else 1) :
    (show EReal from (k0_pay79 (F := Ideal) (k0_pay7 x1) D k0_pay21 (k0_pay73 (k0_pay19 v39 k0_pay18)) (k0_pay74 (k0_pay19 v39 k0_pay18))) (ix2 s l)) = (x1 (ix2 s ⟨512 + l.val, by omega⟩) * D (ix2 s h)) * Ideal.exp (k0_pay19 (F := Ideal) v39 k0_pay18 (ix2 127 h) - k0_pay19 (F := Ideal) v39 k0_pay18 (ix2 s h)) := by
  pointwise [k0_pay71, k0_pay79, k0_pay77, k0_pay80, k0_pay73, k0_pay74, k0_pay75, k0_pay76, k0_pay87, k0_pay88, k0_pay81, k0_pay82, k0_pay83, k0_pay84, k0_pay85, k0_pay96, k0_pay93, k0_pay92, k0_pay91, k0_pay89, k0_pay90, k0_pay94, k0_pay97, k0_pay101, k0_pay100, k0_pay98, k0_pay99, k0_pay102, k0_pay103, k0_pay7, k0_pay8, k0_pay9, k0_pay10, k0_pay21]
  simp only [slt_mask]
  by_cases hl : l.val < 64
  · obtain rfl : h = 8 := Fin.ext (by rw [hh, if_pos hl]; rfl)
    simp only [hl, if_true]
  · obtain rfl : h = 9 := Fin.ext (by rw [hh, if_neg hl]; rfl)
    simp only [hl, if_false]

theorem cdec4 (v39 D : Tile) (l : Fin 128) (h : Fin 128) (hh : h.val = 8 + if l.val < 64 then 0 else 1) :
    (show EReal from (k0_pay80 (F := Ideal) k0_pay21 (k0_pay73 (k0_pay19 v39 k0_pay18)) (k0_pay74 (k0_pay19 v39 k0_pay18))) (ix2 0 l)) = Ideal.exp (k0_pay19 (F := Ideal) v39 k0_pay18 (ix2 127 h)) := by
  pointwise [k0_pay71, k0_pay79, k0_pay77, k0_pay80, k0_pay73, k0_pay74, k0_pay75, k0_pay76, k0_pay87, k0_pay88, k0_pay81, k0_pay82, k0_pay83, k0_pay84, k0_pay85, k0_pay96, k0_pay93, k0_pay92, k0_pay91, k0_pay89, k0_pay90, k0_pay94, k0_pay97, k0_pay101, k0_pay100, k0_pay98, k0_pay99, k0_pay102, k0_pay103, k0_pay7, k0_pay8, k0_pay9, k0_pay10, k0_pay21]
  simp only [slt_mask]
  by_cases hl : l.val < 64
  · obtain rfl : h = 8 := Fin.ext (by rw [hh, if_pos hl]; rfl)
    simp only [hl, if_true]
  · obtain rfl : h = 9 := Fin.ext (by rw [hh, if_neg hl]; rfl)
    simp only [hl, if_false]

theorem state4 (v39 D : Tile) (b : Vec Ideal S128x128 .bf16) (st : Vec Ideal S1x128x512 .f32) (x1 : Vec Ideal S128x1536 .f32) (n l : Fin 128) (h : Fin 128) (hh : h.val = 8 + if l.val < 64 then 0 else 1) :
    (show EReal from k0_pay106 (F := Ideal) b (k0_pay71 st) (k0_pay79 (k0_pay7 x1) D k0_pay21 (k0_pay73 (k0_pay19 v39 k0_pay18)) (k0_pay74 (k0_pay19 v39 k0_pay18))) (k0_pay80 k0_pay21 (k0_pay73 (k0_pay19 v39 k0_pay18)) (k0_pay74 (k0_pay19 v39 k0_pay18))) (k0_pay87 (k0_pay8 x1) D (k0_pay19 v39 k0_pay18) k0_pay21 (k0_pay81 (k0_pay19 v39 k0_pay18))) (k0_pay88 (k0_pay19 v39 k0_pay18) k0_pay21 (k0_pay81 (k0_pay19 v39 k0_pay18))) (k0_pay96 (k0_pay93 (k0_pay19 v39 k0_pay18) k0_pay21) (k0_pay94 (k0_pay9 x1) D k0_pay21)) (k0_pay97 (k0_pay92 (k0_pay19 v39 k0_pay18) k0_pay21)) (k0_pay101 (k0_pay19 v39 k0_pay18) k0_pay21) (k0_pay102 (k0_pay19 v39 k0_pay18) k0_pay21) (k0_pay103 (k0_pay10 x1) D k0_pay21) (ix3 0 n ⟨0 + l.val, by omega⟩))
    = stcell (fun i j => k0_pay19 (F := Ideal) v39 k0_pay18 (ix2 i j)) (fun i j => D (ix2 i j)) (fun i j => b (ix2 i j)) (st (ix3 0 n ⟨0 + l.val, by omega⟩)) (fun s => x1 (ix2 s ⟨512 + l.val, by omega⟩)) h n := by
  refine (join106_0 _ _ _ _ _ _ _ _ _ _ _ n l).trans ?_
  refine congrArg₂ (fun a c : EReal => a + c) (congrArg₂ (fun a c : EReal => a * c) ?_ (cdec4 v39 D l h hh)) (Finset.sum_congr rfl fun s _ => congrArg (fun c : EReal => (show EReal from b (ix2 s n)) * c) (xdec4 v39 D x1 s l h hh))
  pointwise [k0_pay23, k0_pay71]

theorem xdec5 (v39 D : Tile) (x1 : Vec Ideal S128x1536 .f32) (s l : Fin 128) (h : Fin 128) (hh : h.val = 10 + if l.val < 64 then 0 else 1) :
    (show EReal from (k0_pay87 (F := Ideal) (k0_pay8 x1) D (k0_pay19 v39 k0_pay18) k0_pay21 (k0_pay81 (k0_pay19 v39 k0_pay18))) (ix2 s l)) = (x1 (ix2 s ⟨640 + l.val, by omega⟩) * D (ix2 s h)) * Ideal.exp (k0_pay19 (F := Ideal) v39 k0_pay18 (ix2 127 h) - k0_pay19 (F := Ideal) v39 k0_pay18 (ix2 s h)) := by
  pointwise [k0_pay71, k0_pay79, k0_pay77, k0_pay80, k0_pay73, k0_pay74, k0_pay75, k0_pay76, k0_pay87, k0_pay88, k0_pay81, k0_pay82, k0_pay83, k0_pay84, k0_pay85, k0_pay96, k0_pay93, k0_pay92, k0_pay91, k0_pay89, k0_pay90, k0_pay94, k0_pay97, k0_pay101, k0_pay100, k0_pay98, k0_pay99, k0_pay102, k0_pay103, k0_pay7, k0_pay8, k0_pay9, k0_pay10, k0_pay21]
  simp only [slt_mask]
  by_cases hl : l.val < 64
  · obtain rfl : h = 10 := Fin.ext (by rw [hh, if_pos hl]; rfl)
    simp only [hl, if_true]
  · obtain rfl : h = 11 := Fin.ext (by rw [hh, if_neg hl]; rfl)
    simp only [hl, if_false]

theorem cdec5 (v39 D : Tile) (l : Fin 128) (h : Fin 128) (hh : h.val = 10 + if l.val < 64 then 0 else 1) :
    (show EReal from (k0_pay88 (F := Ideal) (k0_pay19 v39 k0_pay18) k0_pay21 (k0_pay81 (k0_pay19 v39 k0_pay18))) (ix2 0 l)) = Ideal.exp (k0_pay19 (F := Ideal) v39 k0_pay18 (ix2 127 h)) := by
  pointwise [k0_pay71, k0_pay79, k0_pay77, k0_pay80, k0_pay73, k0_pay74, k0_pay75, k0_pay76, k0_pay87, k0_pay88, k0_pay81, k0_pay82, k0_pay83, k0_pay84, k0_pay85, k0_pay96, k0_pay93, k0_pay92, k0_pay91, k0_pay89, k0_pay90, k0_pay94, k0_pay97, k0_pay101, k0_pay100, k0_pay98, k0_pay99, k0_pay102, k0_pay103, k0_pay7, k0_pay8, k0_pay9, k0_pay10, k0_pay21]
  simp only [slt_mask]
  by_cases hl : l.val < 64
  · obtain rfl : h = 10 := Fin.ext (by rw [hh, if_pos hl]; rfl)
    simp only [hl, if_true]
  · obtain rfl : h = 11 := Fin.ext (by rw [hh, if_neg hl]; rfl)
    simp only [hl, if_false]

theorem state5 (v39 D : Tile) (b : Vec Ideal S128x128 .bf16) (st : Vec Ideal S1x128x512 .f32) (x1 : Vec Ideal S128x1536 .f32) (n l : Fin 128) (h : Fin 128) (hh : h.val = 10 + if l.val < 64 then 0 else 1) :
    (show EReal from k0_pay106 (F := Ideal) b (k0_pay71 st) (k0_pay79 (k0_pay7 x1) D k0_pay21 (k0_pay73 (k0_pay19 v39 k0_pay18)) (k0_pay74 (k0_pay19 v39 k0_pay18))) (k0_pay80 k0_pay21 (k0_pay73 (k0_pay19 v39 k0_pay18)) (k0_pay74 (k0_pay19 v39 k0_pay18))) (k0_pay87 (k0_pay8 x1) D (k0_pay19 v39 k0_pay18) k0_pay21 (k0_pay81 (k0_pay19 v39 k0_pay18))) (k0_pay88 (k0_pay19 v39 k0_pay18) k0_pay21 (k0_pay81 (k0_pay19 v39 k0_pay18))) (k0_pay96 (k0_pay93 (k0_pay19 v39 k0_pay18) k0_pay21) (k0_pay94 (k0_pay9 x1) D k0_pay21)) (k0_pay97 (k0_pay92 (k0_pay19 v39 k0_pay18) k0_pay21)) (k0_pay101 (k0_pay19 v39 k0_pay18) k0_pay21) (k0_pay102 (k0_pay19 v39 k0_pay18) k0_pay21) (k0_pay103 (k0_pay10 x1) D k0_pay21) (ix3 0 n ⟨128 + l.val, by omega⟩))
    = stcell (fun i j => k0_pay19 (F := Ideal) v39 k0_pay18 (ix2 i j)) (fun i j => D (ix2 i j)) (fun i j => b (ix2 i j)) (st (ix3 0 n ⟨128 + l.val, by omega⟩)) (fun s => x1 (ix2 s ⟨640 + l.val, by omega⟩)) h n := by
  refine (join106_1 _ _ _ _ _ _ _ _ _ _ _ n l).trans ?_
  refine congrArg₂ (fun a c : EReal => a + c) (congrArg₂ (fun a c : EReal => a * c) ?_ (cdec5 v39 D l h hh)) (Finset.sum_congr rfl fun s _ => congrArg (fun c : EReal => (show EReal from b (ix2 s n)) * c) (xdec5 v39 D x1 s l h hh))
  pointwise [k0_pay23, k0_pay71]

theorem xdec6 (v39 D : Tile) (x1 : Vec Ideal S128x1536 .f32) (s l : Fin 128) (h : Fin 128) (hh : h.val = 12 + if l.val < 64 then 0 else 1) :
    (show EReal from (k0_pay96 (F := Ideal) (k0_pay93 (k0_pay19 v39 k0_pay18) k0_pay21) (k0_pay94 (k0_pay9 x1) D k0_pay21)) (ix2 s l)) = (x1 (ix2 s ⟨768 + l.val, by omega⟩) * D (ix2 s h)) * Ideal.exp (k0_pay19 (F := Ideal) v39 k0_pay18 (ix2 127 h) - k0_pay19 (F := Ideal) v39 k0_pay18 (ix2 s h)) := by
  pointwise [k0_pay71, k0_pay79, k0_pay77, k0_pay80, k0_pay73, k0_pay74, k0_pay75, k0_pay76, k0_pay87, k0_pay88, k0_pay81, k0_pay82, k0_pay83, k0_pay84, k0_pay85, k0_pay96, k0_pay93, k0_pay92, k0_pay91, k0_pay89, k0_pay90, k0_pay94, k0_pay97, k0_pay101, k0_pay100, k0_pay98, k0_pay99, k0_pay102, k0_pay103, k0_pay7, k0_pay8, k0_pay9, k0_pay10, k0_pay21]
  simp only [slt_mask]
  by_cases hl : l.val < 64
  · obtain rfl : h = 12 := Fin.ext (by rw [hh, if_pos hl]; rfl)
    simp only [hl, if_true]
  · obtain rfl : h = 13 := Fin.ext (by rw [hh, if_neg hl]; rfl)
    simp only [hl, if_false]

theorem cdec6 (v39 D : Tile) (l : Fin 128) (h : Fin 128) (hh : h.val = 12 + if l.val < 64 then 0 else 1) :
    (show EReal from (k0_pay97 (F := Ideal) (k0_pay92 (k0_pay19 v39 k0_pay18) k0_pay21)) (ix2 0 l)) = Ideal.exp (k0_pay19 (F := Ideal) v39 k0_pay18 (ix2 127 h)) := by
  pointwise [k0_pay71, k0_pay79, k0_pay77, k0_pay80, k0_pay73, k0_pay74, k0_pay75, k0_pay76, k0_pay87, k0_pay88, k0_pay81, k0_pay82, k0_pay83, k0_pay84, k0_pay85, k0_pay96, k0_pay93, k0_pay92, k0_pay91, k0_pay89, k0_pay90, k0_pay94, k0_pay97, k0_pay101, k0_pay100, k0_pay98, k0_pay99, k0_pay102, k0_pay103, k0_pay7, k0_pay8, k0_pay9, k0_pay10, k0_pay21]
  simp only [slt_mask]
  by_cases hl : l.val < 64
  · obtain rfl : h = 12 := Fin.ext (by rw [hh, if_pos hl]; rfl)
    simp only [hl, if_true]
  · obtain rfl : h = 13 := Fin.ext (by rw [hh, if_neg hl]; rfl)
    simp only [hl, if_false]

theorem state6 (v39 D : Tile) (b : Vec Ideal S128x128 .bf16) (st : Vec Ideal S1x128x512 .f32) (x1 : Vec Ideal S128x1536 .f32) (n l : Fin 128) (h : Fin 128) (hh : h.val = 12 + if l.val < 64 then 0 else 1) :
    (show EReal from k0_pay106 (F := Ideal) b (k0_pay71 st) (k0_pay79 (k0_pay7 x1) D k0_pay21 (k0_pay73 (k0_pay19 v39 k0_pay18)) (k0_pay74 (k0_pay19 v39 k0_pay18))) (k0_pay80 k0_pay21 (k0_pay73 (k0_pay19 v39 k0_pay18)) (k0_pay74 (k0_pay19 v39 k0_pay18))) (k0_pay87 (k0_pay8 x1) D (k0_pay19 v39 k0_pay18) k0_pay21 (k0_pay81 (k0_pay19 v39 k0_pay18))) (k0_pay88 (k0_pay19 v39 k0_pay18) k0_pay21 (k0_pay81 (k0_pay19 v39 k0_pay18))) (k0_pay96 (k0_pay93 (k0_pay19 v39 k0_pay18) k0_pay21) (k0_pay94 (k0_pay9 x1) D k0_pay21)) (k0_pay97 (k0_pay92 (k0_pay19 v39 k0_pay18) k0_pay21)) (k0_pay101 (k0_pay19 v39 k0_pay18) k0_pay21) (k0_pay102 (k0_pay19 v39 k0_pay18) k0_pay21) (k0_pay103 (k0_pay10 x1) D k0_pay21) (ix3 0 n ⟨256 + l.val, by omega⟩))
    = stcell (fun i j => k0_pay19 (F := Ideal) v39 k0_pay18 (ix2 i j)) (fun i j => D (ix2 i j)) (fun i j => b (ix2 i j)) (st (ix3 0 n ⟨256 + l.val, by omega⟩)) (fun s => x1 (ix2 s ⟨768 + l.val, by omega⟩)) h n := by
  refine (join106_2 _ _ _ _ _ _ _ _ _ _ _ n l).trans ?_
  refine congrArg₂ (fun a c : EReal => a + c) (congrArg₂ (fun a c : EReal => a * c) ?_ (cdec6 v39 D l h hh)) (Finset.sum_congr rfl fun s _ => congrArg (fun c : EReal => (show EReal from b (ix2 s n)) * c) (xdec6 v39 D x1 s l h hh))
  pointwise [k0_pay23, k0_pay71]

theorem xdec7 (v39 D : Tile) (x1 : Vec Ideal S128x1536 .f32) (s l : Fin 128) (h : Fin 128) (hh : h.val = 14 + if l.val < 64 then 0 else 1) :
    (show EReal from ((show EReal from (k0_pay103 (F := Ideal) (k0_pay10 x1) D k0_pay21) (ix2 s l)) * (show EReal from (k0_pay102 (F := Ideal) (k0_pay19 v39 k0_pay18) k0_pay21) (ix2 s l)))) = (x1 (ix2 s ⟨896 + l.val, by omega⟩) * D (ix2 s h)) * Ideal.exp (k0_pay19 (F := Ideal) v39 k0_pay18 (ix2 127 h) - k0_pay19 (F := Ideal) v39 k0_pay18 (ix2 s h)) := by
  pointwise [k0_pay71, k0_pay79, k0_pay77, k0_pay80, k0_pay73, k0_pay74, k0_pay75, k0_pay76, k0_pay87, k0_pay88, k0_pay81, k0_pay82, k0_pay83, k0_pay84, k0_pay85, k0_pay96, k0_pay93, k0_pay92, k0_pay91, k0_pay89, k0_pay90, k0_pay94, k0_pay97, k0_pay101, k0_pay100, k0_pay98, k0_pay99, k0_pay102, k0_pay103, k0_pay7, k0_pay8, k0_pay9, k0_pay10, k0_pay21]
  simp only [slt_mask]
  by_cases hl : l.val < 64
  · obtain rfl : h = 14 := Fin.ext (by rw [hh, if_pos hl]; rfl)
    simp only [hl, if_true]
  · obtain rfl : h = 15 := Fin.ext (by rw [hh, if_neg hl]; rfl)
    simp only [hl, if_false]

theorem cdec7 (v39 D : Tile) (l : Fin 128) (h : Fin 128) (hh : h.val = 14 + if l.val < 64 then 0 else 1) :
    (show EReal from (k0_pay101 (F := Ideal) (k0_pay19 v39 k0_pay18) k0_pay21) (ix2 127 l)) = Ideal.exp (k0_pay19 (F := Ideal) v39 k0_pay18 (ix2 127 h)) := by
  pointwise [k0_pay71, k0_pay79, k0_pay77, k0_pay80, k0_pay73, k0_pay74, k0_pay75, k0_pay76, k0_pay87, k0_pay88, k0_pay81, k0_pay82, k0_pay83, k0_pay84, k0_pay85, k0_pay96, k0_pay93, k0_pay92, k0_pay91, k0_pay89, k0_pay90, k0_pay94, k0_pay97, k0_pay101, k0_pay100, k0_pay98, k0_pay99, k0_pay102, k0_pay103, k0_pay7, k0_pay8, k0_pay9, k0_pay10, k0_pay21]
  simp only [slt_mask]
  by_cases hl : l.val < 64
  · obtain rfl : h = 14 := Fin.ext (by rw [hh, if_pos hl]; rfl)
    simp only [hl, if_true]
  · obtain rfl : h = 15 := Fin.ext (by rw [hh, if_neg hl]; rfl)
    simp only [hl, if_false]

theorem state7 (v39 D : Tile) (b : Vec Ideal S128x128 .bf16) (st : Vec Ideal S1x128x512 .f32) (x1 : Vec Ideal S128x1536 .f32) (n l : Fin 128) (h : Fin 128) (hh : h.val = 14 + if l.val < 64 then 0 else 1) :
    (show EReal from k0_pay106 (F := Ideal) b (k0_pay71 st) (k0_pay79 (k0_pay7 x1) D k0_pay21 (k0_pay73 (k0_pay19 v39 k0_pay18)) (k0_pay74 (k0_pay19 v39 k0_pay18))) (k0_pay80 k0_pay21 (k0_pay73 (k0_pay19 v39 k0_pay18)) (k0_pay74 (k0_pay19 v39 k0_pay18))) (k0_pay87 (k0_pay8 x1) D (k0_pay19 v39 k0_pay18) k0_pay21 (k0_pay81 (k0_pay19 v39 k0_pay18))) (k0_pay88 (k0_pay19 v39 k0_pay18) k0_pay21 (k0_pay81 (k0_pay19 v39 k0_pay18))) (k0_pay96 (k0_pay93 (k0_pay19 v39 k0_pay18) k0_pay21) (k0_pay94 (k0_pay9 x1) D k0_pay21)) (k0_pay97 (k0_pay92 (k0_pay19 v39 k0_pay18) k0_pay21)) (k0_pay101 (k0_pay19 v39 k0_pay18) k0_pay21) (k0_pay102 (k0_pay19 v39 k0_pay18) k0_pay21) (k0_pay103 (k0_pay10 x1) D k0_pay21) (ix3 0 n ⟨384 + l.val, by omega⟩))
    = stcell (fun i j => k0_pay19 (F := Ideal) v39 k0_pay18 (ix2 i j)) (fun i j => D (ix2 i j)) (fun i j => b (ix2 i j)) (st (ix3 0 n ⟨384 + l.val, by omega⟩)) (fun s => x1 (ix2 s ⟨896 + l.val, by omega⟩)) h n := by
  refine (join106_3 _ _ _ _ _ _ _ _ _ _ _ n l).trans ?_
  refine congrArg₂ (fun a c : EReal => a + c) (congrArg₂ (fun a c : EReal => a * c) ?_ (cdec7 v39 D l h hh)) (Finset.sum_congr rfl fun s _ => congrArg (fun c : EReal => (show EReal from b (ix2 s n)) * c) (xdec7 v39 D x1 s l h hh))
  pointwise [k0_pay23, k0_pay71]

end Cert.SsdIdeal.Value
-- ==== Proof.SsdRow.lean ====
module
public import proofs.«01_k».proof.Proof.SsdTile
public import proofs.«01_k».proof.Proof.Gen.SsdIdeal.Value
public import Idealize.ShloMosaic.Lib.Pipeline.ValueKit
set_option maxRecDepth 16384
@[expose] public section

/-! # The scan kernel: step sizes, running sums and the normalised rows -/

noncomputable section
open Idealize.ShloMosaic Idealize.ShloMosaic.TcCoe Idealize.SL.Sem
namespace Cert.SsdIdeal.Value
open Cert.SsdIdeal Cert.SsdIdeal.Gen

/-- The step size: softplus of the projected step plus its bias. -/
def softp (x : EReal) : EReal := max x 0 + Ideal.log1p (Ideal.exp (0 - max x (-x)))

theorem dt_at (x2 : Tile) (x3 : Vec Ideal S1x128 .f32) (r h : Fin 128) :
    (show EReal from k0_pay15 (F := Ideal) x2 x3 (ix2 r h)) = softp (x2 (ix2 r h) + x3 (ix2 0 h)) := by
  pointwise [k0_pay15, softp]
  rfl

theorem da_at (x2 : Tile) (x3 x4 : Vec Ideal S1x128 .f32) (r h : Fin 128) :
    (show EReal from k0_pay16 (F := Ideal) x2 x3 x4 (ix2 r h)) = softp (x2 (ix2 r h) + x3 (ix2 0 h)) * -(Ideal.exp (x4 (ix2 0 h))) := by
  pointwise [k0_pay16, k0_pay15, softp]
  rw [zero_sub (Ideal.exp (x4 (ix2 0 h)))]
  rfl

theorem mask_val (r j : Fin 128) : (show EReal from FloatOps.sitofp (F := Ideal) .f32 (BitVec.setWidth 32 (IntOp.cmpi .sge (BitVec.ofNat 32 r.val) (BitVec.ofNat 32 j.val)))) = if j.val ≤ r.val then 1 else 0 := by
  have e : ∀ r s : Fin 128, (BitVec.setWidth 32 (IntOp.cmpi .sge (BitVec.ofNat 32 r.val) (BitVec.ofNat 32 s.val))).toInt = if s.val ≤ r.val then 1 else 0 := by decide +kernel
  show ((((BitVec.setWidth 32 (IntOp.cmpi .sge (BitVec.ofNat 32 r.val) (BitVec.ofNat 32 j.val))).toInt : ℝ)) : EReal) = _
  rw [e r j]; split <;> simp

theorem acs_at (v39 : Tile) (r h : Fin 128) :
    (show EReal from k0_pay19 (F := Ideal) v39 k0_pay18 (ix2 r h)) = ∑ j : Fin 128, if j.val ≤ r.val then v39 (ix2 j h) else 0 := by
  pointwise [k0_pay19, k0_pay18, k0_pay17]
  refine Finset.sum_congr rfl fun j _ => ?_
  refine (congrArg (fun z : EReal => z * (show EReal from v39 (ix2 j h))) (mask_val r j)).trans ?_
  show (if j.val ≤ r.val then (1 : EReal) else 0) * (show EReal from v39 (ix2 j h)) = if j.val ≤ r.val then (show EReal from v39 (ix2 j h)) else 0
  split
  · exact one_mul _
  · exact zero_mul _

theorem cb0_at (b c : Vec Ideal S128x128 .bf16) (r s : Fin 128) :
    (show EReal from k0_pay22 (F := Ideal) b c (ix2 r s)) = ∑ n : Fin 128, c (ix2 r n) * b (ix2 s n) := by
  pointwise [k0_pay22]

theorem cb1_at (b c : Vec Ideal S128x128 .bf16) (r s : Fin 128) :
    (show EReal from k0_pay70 (F := Ideal) b c (ix2 r s)) = ∑ n : Fin 128, c (ix2 r n) * b (ix2 s n) := by
  pointwise [k0_pay70]

theorem yoff0_at (c : Vec Ideal S128x128 .bf16) (st : Vec Ideal S1x128x512 .f32) (r : Fin 128) (k : Fin 512) :
    (show EReal from k0_pay24 (F := Ideal) c st (ix2 r k)) = ∑ n : Fin 128, c (ix2 r n) * st (ix3 0 n k) := by
  pointwise [k0_pay24, k0_pay23]

theorem yoff1_at (c : Vec Ideal S128x128 .bf16) (st : Vec Ideal S1x128x512 .f32) (r : Fin 128) (k : Fin 512) :
    (show EReal from k0_pay72 (F := Ideal) c st (ix2 r k)) = ∑ n : Fin 128, c (ix2 r n) * st (ix3 0 n k) := by
  pointwise [k0_pay72, k0_pay71]

theorem b0_at (x1 : Vec Ideal S128x1536 .f32) (r n : Fin 128) : (show EReal from k0_pay11 (F := Ideal) x1 (ix2 r n)) = x1 (ix2 r ⟨1024 + n.val, by omega⟩) := by
  pointwise [k0_pay11]
theorem b1_at (x1 : Vec Ideal S128x1536 .f32) (r n : Fin 128) : (show EReal from k0_pay12 (F := Ideal) x1 (ix2 r n)) = x1 (ix2 r ⟨1152 + n.val, by omega⟩) := by
  pointwise [k0_pay12]
theorem c0_at (x1 : Vec Ideal S128x1536 .f32) (r n : Fin 128) : (show EReal from k0_pay13 (F := Ideal) x1 (ix2 r n)) = x1 (ix2 r ⟨1280 + n.val, by omega⟩) := by
  pointwise [k0_pay13]
theorem c1_at (x1 : Vec Ideal S128x1536 .f32) (r n : Fin 128) : (show EReal from k0_pay14 (F := Ideal) x1 (ix2 r n)) = x1 (ix2 r ⟨1408 + n.val, by omega⟩) := by
  pointwise [k0_pay14]

/-- A group's row of 512 entries scaled to unit mean square, times the gain. -/
def gnorm (z g : Fin 512 → EReal) (k : Fin 512) : EReal :=
  z k * Ideal.rsqrt (Ideal.div (∑ j, z j * z j) (Ideal.ofBits .f32 0x44000000#32) + Ideal.ofBits .f32 0x358637BD#32) * g k

theorem cat_at (v0 v1 v2 v3 : Tile) (Y : Fin 128 → Fin 512 → EReal)
    (h0 : ∀ r l : Fin 128, (show EReal from v0 (ix2 r l)) = Y r ⟨0 + l.val, by omega⟩)
    (h1 : ∀ r l : Fin 128, (show EReal from v1 (ix2 r l)) = Y r ⟨128 + l.val, by omega⟩)
    (h2 : ∀ r l : Fin 128, (show EReal from v2 (ix2 r l)) = Y r ⟨256 + l.val, by omega⟩)
    (h3 : ∀ r l : Fin 128, (show EReal from v3 (ix2 r l)) = Y r ⟨384 + l.val, by omega⟩) :
    concatenate S128x512 1 [⟨S128x128, v0⟩, ⟨S128x128, v1⟩, ⟨S128x128, v2⟩, ⟨S128x128, v3⟩] concatenates_S128x128_S128x128_S128x128_S128x128_S128x512_d1 = (fun i => Y (i 0) (i 1)) := by
  funext i
  obtain ⟨r, k, rfl⟩ : ∃ r k, i = ix2 r k := ⟨_, _, (ix2_eta i).symm⟩
  show _ = Y r k
  pointwise []
  by_cases c0 : k.val < 128
  · rw [dif_pos c0]
    exact (h0 r ⟨k.val, c0⟩).trans (congrArg (Y r) (Fin.ext (by simp)))
  rw [dif_neg c0]
  by_cases c1 : k.val - 128 < 128
  · rw [dif_pos c1]
    exact (h1 r ⟨k.val - 128, c1⟩).trans (congrArg (Y r) (Fin.ext (by simp; omega)))
  rw [dif_neg c1]
  by_cases c2 : k.val - 128 - 128 < 128
  · rw [dif_pos c2]
    exact (h2 r ⟨k.val - 128 - 128, c2⟩).trans (congrArg (Y r) (Fin.ext (by simp; omega)))
  rw [dif_neg c2]
  exact (h3 r ⟨k.val - 128 - 128 - 128, by omega⟩).trans (congrArg (Y r) (Fin.ext (by simp; omega)))

theorem gate_at (p : Vec Ideal S128x512 .f32) (Z : Fin 128 → Fin 512 → EReal) (hp : p = fun i => Z (i 0) (i 1)) (g : Vec Ideal S1x512 .f32) (r : Fin 128) (k : Fin 512) :
    (show EReal from k0_pay1 (F := Ideal) p (k0_pay109 g) (mulf p p) (ix2 r k)) = gnorm (fun k => Z r k) (fun k => g (ix2 0 k)) k := by
  subst hp
  pointwise [k0_pay1, k0_pay109, gnorm]

theorem grp0_at (v0 v1 v2 v3 : Tile) (Y : Fin 128 → Fin 512 → EReal)
    (h0 : ∀ r l : Fin 128, (show EReal from v0 (ix2 r l)) = Y r ⟨0 + l.val, by omega⟩)
    (h1 : ∀ r l : Fin 128, (show EReal from v1 (ix2 r l)) = Y r ⟨128 + l.val, by omega⟩)
    (h2 : ∀ r l : Fin 128, (show EReal from v2 (ix2 r l)) = Y r ⟨256 + l.val, by omega⟩)
    (h3 : ∀ r l : Fin 128, (show EReal from v3 (ix2 r l)) = Y r ⟨384 + l.val, by omega⟩)
    (z : Vec Ideal S128x512 .f32) (g : Vec Ideal S1x512 .f32) (r : Fin 128) (k : Fin 512) :
    (show EReal from k0_pay107 (F := Ideal) v0 v1 v2 v3 z g (ix2 r k)) = gnorm (fun k => Y r k * z (ix2 r k)) (fun k => g (ix2 0 k)) k := by
  refine gate_at (mulf (F := Ideal) (φ := .f32) (concatenate S128x512 1 [⟨S128x128, v0⟩, ⟨S128x128, v1⟩, ⟨S128x128, v2⟩, ⟨S128x128, v3⟩] concatenates_S128x128_S128x128_S128x128_S128x128_S128x512_d1) z) (fun r k => Y r k * z (ix2 r k)) ?_ g r k
  rw [cat_at v0 v1 v2 v3 Y h0 h1 h2 h3]
  funext i
  obtain ⟨r, k, rfl⟩ : ∃ r k, i = ix2 r k := ⟨_, _, (ix2_eta i).symm⟩
  pointwise []

theorem grp1_at (x v0 v1 v2 v3 : Tile) (kk : Vec Ideal S1x128 .f32) (Y : Fin 128 → Fin 512 → EReal)
    (h0 : ∀ r l : Fin 128, (show EReal from v0 (ix2 r l)) = Y r ⟨0 + l.val, by omega⟩)
    (h1 : ∀ r l : Fin 128, (show EReal from v1 (ix2 r l)) = Y r ⟨128 + l.val, by omega⟩)
    (h2 : ∀ r l : Fin 128, (show EReal from v2 (ix2 r l)) = Y r ⟨256 + l.val, by omega⟩)
    (h3 : ∀ r l : Fin 128, (show EReal from v3 (ix2 r l)) + x (ix2 r l) * kk (ix2 0 l) = Y r ⟨384 + l.val, by omega⟩)
    (z : Vec Ideal S128x512 .f32) (g : Vec Ideal S1x512 .f32) (r : Fin 128) (k : Fin 512) :
    (show EReal from k0_pay1 (F := Ideal) (k0_pay108 x v0 v1 v2 v3 (k0_pay105 kk) z) (k0_pay109 g) (k0_pay110 x v0 v1 v2 v3 (k0_pay105 kk) z) (ix2 r k)) = gnorm (fun k => Y r k * z (ix2 r k)) (fun k => g (ix2 0 k)) k := by
  refine gate_at (k0_pay108 (F := Ideal) x v0 v1 v2 v3 (k0_pay105 kk) z) (fun r k => Y r k * z (ix2 r k)) ?_ g r k
  show mulf (F := Ideal) (φ := .f32) (concatenate S128x512 1 [⟨S128x128, v0⟩, ⟨S128x128, v1⟩, ⟨S128x128, v2⟩, ⟨S128x128, addf (F := Ideal) (φ := .f32) v3 (mulf x (broadcastTo S128x128 (k0_pay105 kk) broadcasts_S1x128_S128x128))⟩] concatenates_S128x128_S128x128_S128x128_S128x128_S128x512_d1) z = _
  rw [cat_at v0 v1 v2 _ Y h0 h1 h2 (fun r l => by
    refine Eq.trans ?_ (h3 r l)
    pointwise [k0_pay105])]
  funext i
  obtain ⟨r, k, rfl⟩ : ∃ r k, i = ix2 r k := ⟨_, _, (ix2_eta i).symm⟩
  pointwise []

end Cert.SsdIdeal.Value
-- ==== Proof.SsdGroup.lean ====
module
public import proofs.«01_k».proof.Proof.SsdRow
public import proofs.«01_k».proof.Proof.Gen.SsdIdeal.Value
public import Idealize.ShloMosaic.Lib.Pipeline.ValueKit
set_option maxRecDepth 16384
@[expose] public section

/-! # The scan kernel, one group of columns -/

noncomputable section
open Idealize.ShloMosaic Idealize.ShloMosaic.TcCoe Idealize.SL.Sem
namespace Cert.SsdIdeal.Value
open Cert.SsdIdeal Cert.SsdIdeal.Gen

/-- A property of a group's columns, shown tile by tile. -/
theorem four_tiles {P : Fin 512 → Prop} (h0 : ∀ l : Fin 128, P ⟨0 + l.val, by omega⟩) (h1 : ∀ l : Fin 128, P ⟨128 + l.val, by omega⟩)
    (h2 : ∀ l : Fin 128, P ⟨256 + l.val, by omega⟩) (h3 : ∀ l : Fin 128, P ⟨384 + l.val, by omega⟩) (k : Fin 512) : P k := by
  by_cases c0 : k.val < 128
  · have e : (⟨0 + (k.val - 0), by omega⟩ : Fin 512) = k := Fin.ext (show 0 + (k.val - 0) = k.val by omega)
    exact e ▸ h0 ⟨k.val - 0, by omega⟩
  by_cases c1 : k.val < 256
  · have e : (⟨128 + (k.val - 128), by omega⟩ : Fin 512) = k := Fin.ext (show 128 + (k.val - 128) = k.val by omega)
    exact e ▸ h1 ⟨k.val - 128, by omega⟩
  by_cases c2 : k.val < 384
  · have e : (⟨256 + (k.val - 256), by omega⟩ : Fin 512) = k := Fin.ext (show 256 + (k.val - 256) = k.val by omega)
    exact e ▸ h2 ⟨k.val - 256, by omega⟩
  · have e : (⟨384 + (k.val - 384), by omega⟩ : Fin 512) = k := Fin.ext (show 384 + (k.val - 384) = k.val by omega)
    exact e ▸ h3 ⟨k.val - 384, by omega⟩

/-- The running sums of the decay exponents over the chunk's rows, one column per head. -/
def blkA (x2 : Tile) (x3 x4 : Vec Ideal S1x128 .f32) (r h : Fin 128) : EReal :=
  ∑ j : Fin 128, if j.val ≤ r.val then softp (x2 (ix2 j h) + x3 (ix2 0 h)) * -(Ideal.exp (x4 (ix2 0 h))) else 0
/-- The chunk's step sizes. -/
def blkD (x2 : Tile) (x3 : Vec Ideal S1x128 .f32) (r h : Fin 128) : EReal := softp (x2 (ix2 r h) + x3 (ix2 0 h))
/-- The two projections of a group's tokens. -/
def blkB (x1 : Vec Ideal S128x1536 .f32) (g : Fin 2) (r n : Fin 128) : EReal := x1 (ix2 r ⟨1024 + 128 * g.val + n.val, by omega⟩)
def blkC (x1 : Vec Ideal S128x1536 .f32) (g : Fin 2) (r n : Fin 128) : EReal := x1 (ix2 r ⟨1280 + 128 * g.val + n.val, by omega⟩)
/-- A column of the token values. -/
def blkX (x1 : Vec Ideal S128x1536 .f32) (g : Fin 2) (k : Fin 512) (s : Fin 128) : EReal := x1 (ix2 s ⟨512 * g.val + k.val, by omega⟩)
/-- The head of a group's column. -/
def headOf (g : Fin 2) (k : Fin 512) : Fin 128 := ⟨8 * g.val + k.val / 64, by omega⟩
/-- The chunk's output before the gate, from the carried state `S`. -/
def blkY (x1 : Vec Ideal S128x1536 .f32) (x2 : Tile) (x3 x4 : Vec Ideal S1x128 .f32) (x5 : Vec Ideal S1x1024 .f32) (S : Fin 2 → Fin 128 → Fin 512 → EReal) (g : Fin 2) (r : Fin 128) (k : Fin 512) : EReal :=
  ycell (blkA x2 x3 x4) (blkD x2 x3) (fun r s => ∑ n : Fin 128, blkC x1 g r n * blkB x1 g s n) (∑ n : Fin 128, blkC x1 g r n * S g n k) (blkX x1 g k) (x5 (ix2 0 ⟨512 * g.val + k.val, by omega⟩)) (headOf g k) r
/-- The chunk's output: gated and scaled group by group. -/
def blkO (x0 : Vec Ideal S128x1024 .f32) (x1 : Vec Ideal S128x1536 .f32) (x2 : Tile) (x3 x4 : Vec Ideal S1x128 .f32) (x5 x6 : Vec Ideal S1x1024 .f32) (S : Fin 2 → Fin 128 → Fin 512 → EReal) (g : Fin 2) (r : Fin 128) (k : Fin 512) : EReal :=
  gnorm (fun k => blkY x1 x2 x3 x4 x5 S g r k * x0 (ix2 r ⟨512 * g.val + k.val, by omega⟩)) (fun k => x6 (ix2 0 ⟨512 * g.val + k.val, by omega⟩)) k
/-- The state the chunk leaves. -/
def blkS (x1 : Vec Ideal S128x1536 .f32) (x2 : Tile) (x3 x4 : Vec Ideal S1x128 .f32) (S : Fin 2 → Fin 128 → Fin 512 → EReal) (g : Fin 2) (n : Fin 128) (k : Fin 512) : EReal :=
  stcell (blkA x2 x3 x4) (blkD x2 x3) (blkB x1 g) (S g n k) (blkX x1 g k) (headOf g k) n

theorem ycell_congr {A A' D D' CB CB' : Fin 128 → Fin 128 → EReal} {yv yv' dk dk' : EReal} {xs xs' : Fin 128 → EReal} {h h' : Fin 128} (r : Fin 128)
    (hA : A = A') (hD : D = D') (hC : CB = CB') (hy : yv = yv') (hx : xs = xs') (hd : dk = dk') (hh : h = h') : ycell A D CB yv xs dk h r = ycell A' D' CB' yv' xs' dk' h' r := by
  subst hA hD hC hy hx hd hh; rfl

theorem stcell_congr {A A' D D' B B' : Fin 128 → Fin 128 → EReal} {sv sv' : EReal} {xs xs' : Fin 128 → EReal} {h h' : Fin 128} (n : Fin 128)
    (hA : A = A') (hD : D = D') (hB : B = B') (hs : sv = sv') (hx : xs = xs') (hh : h = h') : stcell A D B sv xs h n = stcell A' D' B' sv' xs' h' n := by
  subst hA hD hB hs hx hh; rfl

theorem blkA_eq (x2 : Tile) (x3 x4 : Vec Ideal S1x128 .f32) : (fun i j => k0_pay19 (F := Ideal) (k0_pay16 x2 x3 x4) k0_pay18 (ix2 i j)) = blkA x2 x3 x4 := by
  funext r h
  refine (acs_at _ r h).trans (Finset.sum_congr rfl fun j _ => ?_)
  split
  · exact da_at x2 x3 x4 j h
  · rfl
theorem blkD_eq (x2 : Tile) (x3 : Vec Ideal S1x128 .f32) : (fun i j => k0_pay15 (F := Ideal) x2 x3 (ix2 i j)) = blkD x2 x3 := by
  funext r h
  exact dt_at x2 x3 r h
theorem blkB0_eq (x1 : Vec Ideal S128x1536 .f32) : (fun i j => k0_pay11 (F := Ideal) x1 (ix2 i j)) = blkB x1 0 := by
  funext r n
  exact b0_at x1 r n
theorem blkB1_eq (x1 : Vec Ideal S128x1536 .f32) : (fun i j => k0_pay12 (F := Ideal) x1 (ix2 i j)) = blkB x1 1 := by
  funext r n
  exact b1_at x1 r n
theorem blkC0_eq (x1 : Vec Ideal S128x1536 .f32) : (fun i j => k0_pay13 (F := Ideal) x1 (ix2 i j)) = blkC x1 0 := by
  funext r n
  exact c0_at x1 r n
theorem blkC1_eq (x1 : Vec Ideal S128x1536 .f32) : (fun i j => k0_pay14 (F := Ideal) x1 (ix2 i j)) = blkC x1 1 := by
  funext r n
  exact c1_at x1 r n
theorem blkCB0_eq (x1 : Vec Ideal S128x1536 .f32) : (fun i j => k0_pay22 (F := Ideal) (k0_pay11 x1) (k0_pay13 x1) (ix2 i j)) = fun r s => ∑ n : Fin 128, blkC x1 0 r n * blkB x1 0 s n := by
  funext r s
  exact (cb0_at _ _ r s).trans (Finset.sum_congr rfl fun n _ => congrArg₂ (fun a b : EReal => a * b) (c0_at x1 r n) (b0_at x1 s n))
theorem blkCB1_eq (x1 : Vec Ideal S128x1536 .f32) : (fun i j => k0_pay70 (F := Ideal) (k0_pay12 x1) (k0_pay14 x1) (ix2 i j)) = fun r s => ∑ n : Fin 128, blkC x1 1 r n * blkB x1 1 s n := by
  funext r s
  exact (cb1_at _ _ r s).trans (Finset.sum_congr rfl fun n _ => congrArg₂ (fun a b : EReal => a * b) (c1_at x1 r n) (b1_at x1 s n))
theorem yoffG0 (x1 : Vec Ideal S128x1536 .f32) (st : Vec Ideal S1x128x512 .f32) (S : Fin 2 → Fin 128 → Fin 512 → EReal) (hst : ∀ n k, st (ix3 0 n k) = S 0 n k) (r : Fin 128) (k : Fin 512) :
    (show EReal from k0_pay24 (F := Ideal) (k0_pay13 x1) st (ix2 r k)) = ∑ n : Fin 128, blkC x1 0 r n * S 0 n k :=
  (yoff0_at _ _ r k).trans (Finset.sum_congr rfl fun n _ => congrArg₂ (fun a b : EReal => a * b) (c0_at x1 r n) (hst n k))
theorem yoffG1 (x1 : Vec Ideal S128x1536 .f32) (st : Vec Ideal S1x128x512 .f32) (S : Fin 2 → Fin 128 → Fin 512 → EReal) (hst : ∀ n k, st (ix3 0 n k) = S 1 n k) (r : Fin 128) (k : Fin 512) :
    (show EReal from k0_pay72 (F := Ideal) (k0_pay14 x1) st (ix2 r k)) = ∑ n : Fin 128, blkC x1 1 r n * S 1 n k :=
  (yoff1_at _ _ r k).trans (Finset.sum_congr rfl fun n _ => congrArg₂ (fun a b : EReal => a * b) (c1_at x1 r n) (hst n k))

theorem ytile0 (x1 : Vec Ideal S128x1536 .f32) (x2 : Tile) (x3 x4 : Vec Ideal S1x128 .f32) (x5 : Vec Ideal S1x1024 .f32) (st : Vec Ideal S1x128x512 .f32) (S : Fin 2 → Fin 128 → Fin 512 → EReal) (hst : ∀ n k, st (ix3 0 n k) = S 0 n k) (r l : Fin 128) :
    (show EReal from k0_pay34 (F := Ideal) (k0_pay3 x1) k0_pay21 (k0_pay22 (k0_pay11 x1) (k0_pay13 x1)) (k0_pay24 (k0_pay13 x1) st) (k0_pay28 (k0_pay16 x2 x3 x4) k0_pay18) (k0_pay31 (k0_pay3 x1) (k0_pay15 x2 x3)) (k0_pay32 (k0_pay3 x1) (k0_pay11 x1) (k0_pay13 x1) (k0_pay15 x2 x3) (k0_pay16 x2 x3 x4) k0_pay17 k0_pay18) (k0_pay33 (k0_pay16 x2 x3 x4) k0_pay17 k0_pay18) (View.ld x5 (Rect.unit ![0, 0] ![1, 128] inb_S1x1024_S1x128_0_0)) (ix2 r l)) = blkY x1 x2 x3 x4 x5 S 0 r ⟨0 + l.val, by omega⟩ := by
  refine (tile0 (k0_pay16 x2 x3 x4) (k0_pay15 x2 x3) (k0_pay11 x1) (k0_pay13 x1) (k0_pay24 (k0_pay13 x1) st) x1 (View.ld x5 (Rect.unit ![0, 0] ![1, 128] inb_S1x1024_S1x128_0_0)) r l (headOf 0 ⟨0 + l.val, by omega⟩) ?_).trans ?_
  · show 8 * 0 + (0 + l.val) / 64 = 0 + if l.val < 64 then 0 else 1
    split <;> omega
  refine ycell_congr r (blkA_eq x2 x3 x4) (blkD_eq x2 x3) (blkCB0_eq x1) (yoffG0 x1 st S hst r _) ?_ ?_ rfl
  · funext s
    exact congrArg (fun j => x1 (ix2 s j)) (Fin.ext (show 0 + l.val = 512 * 0 + (0 + l.val) by omega))
  · refine Eq.trans (b := x5 (ix2 0 ⟨0 + l.val, by omega⟩)) (by pointwise []) ?_
    exact congrArg (fun j => x5 (ix2 0 j)) (Fin.ext (show 0 + l.val = 512 * 0 + (0 + l.val) by omega))

theorem ytile1 (x1 : Vec Ideal S128x1536 .f32) (x2 : Tile) (x3 x4 : Vec Ideal S1x128 .f32) (x5 : Vec Ideal S1x1024 .f32) (st : Vec Ideal S1x128x512 .f32) (S : Fin 2 → Fin 128 → Fin 512 → EReal) (hst : ∀ n k, st (ix3 0 n k) = S 0 n k) (r l : Fin 128) :
    (show EReal from k0_pay46 (F := Ideal) (k0_pay4 x1) k0_pay17 k0_pay21 (k0_pay22 (k0_pay11 x1) (k0_pay13 x1)) (k0_pay24 (k0_pay13 x1) st) (k0_pay40 (k0_pay19 (k0_pay16 x2 x3 x4) k0_pay18) k0_pay21) (k0_pay43 (k0_pay4 x1) (k0_pay15 x2 x3) k0_pay21) (k0_pay44 (k0_pay4 x1) (k0_pay15 x2 x3) k0_pay17 (k0_pay19 (k0_pay16 x2 x3 x4) k0_pay18) (k0_pay20 (k0_pay16 x2 x3 x4) k0_pay18) k0_pay21 (k0_pay22 (k0_pay11 x1) (k0_pay13 x1))) (k0_pay45 (k0_pay19 (k0_pay16 x2 x3 x4) k0_pay18) (k0_pay20 (k0_pay16 x2 x3 x4) k0_pay18)) (View.ld x5 (Rect.unit ![0, 128] ![1, 128] inb_S1x1024_S1x128_0_128)) (ix2 r l)) = blkY x1 x2 x3 x4 x5 S 0 r ⟨128 + l.val, by omega⟩ := by
  refine (tile1 (k0_pay16 x2 x3 x4) (k0_pay15 x2 x3) (k0_pay22 (k0_pay11 x1) (k0_pay13 x1)) (k0_pay24 (k0_pay13 x1) st) x1 (View.ld x5 (Rect.unit ![0, 128] ![1, 128] inb_S1x1024_S1x128_0_128)) r l (headOf 0 ⟨128 + l.val, by omega⟩) ?_).trans ?_
  · show 8 * 0 + (128 + l.val) / 64 = 2 + if l.val < 64 then 0 else 1
    split <;> omega
  refine ycell_congr r (blkA_eq x2 x3 x4) (blkD_eq x2 x3) (blkCB0_eq x1) (yoffG0 x1 st S hst r _) ?_ ?_ rfl
  · funext s
    exact congrArg (fun j => x1 (ix2 s j)) (Fin.ext (show 128 + l.val = 512 * 0 + (128 + l.val) by omega))
  · refine Eq.trans (b := x5 (ix2 0 ⟨128 + l.val, by omega⟩)) (by pointwise []) ?_
    exact congrArg (fun j => x5 (ix2 0 j)) (Fin.ext (show 128 + l.val = 512 * 0 + (128 + l.val) by omega))

theorem ytile2 (x1 : Vec Ideal S128x1536 .f32) (x2 : Tile) (x3 x4 : Vec Ideal S1x128 .f32) (x5 : Vec Ideal S1x1024 .f32) (st : Vec Ideal S1x128x512 .f32) (S : Fin 2 → Fin 128 → Fin 512 → EReal) (hst : ∀ n k, st (ix3 0 n k) = S 0 n k) (r l : Fin 128) :
    (show EReal from k0_pay57 (F := Ideal) (k0_pay5 x1) k0_pay17 (k0_pay20 (k0_pay16 x2 x3 x4) k0_pay18) k0_pay21 (k0_pay22 (k0_pay11 x1) (k0_pay13 x1)) (k0_pay24 (k0_pay13 x1) st) (k0_pay50 (k0_pay19 (k0_pay16 x2 x3 x4) k0_pay18)) (k0_pay52 (k0_pay19 (k0_pay16 x2 x3 x4) k0_pay18) k0_pay21) (k0_pay55 (k0_pay5 x1) (k0_pay15 x2 x3) k0_pay21) (k0_pay56 (k0_pay5 x1) (k0_pay15 x2 x3) k0_pay17 (k0_pay19 (k0_pay16 x2 x3 x4) k0_pay18) (k0_pay20 (k0_pay16 x2 x3 x4) k0_pay18) k0_pay21 (k0_pay22 (k0_pay11 x1) (k0_pay13 x1))) (View.ld x5 (Rect.unit ![0, 256] ![1, 128] inb_S1x1024_S1x128_0_256)) (ix2 r l)) = blkY x1 x2 x3 x4 x5 S 0 r ⟨256 + l.val, by omega⟩ := by
  refine (tile2 (k0_pay16 x2 x3 x4) (k0_pay15 x2 x3) (k0_pay22 (k0_pay11 x1) (k0_pay13 x1)) (k0_pay24 (k0_pay13 x1) st) x1 (View.ld x5 (Rect.unit ![0, 256] ![1, 128] inb_S1x1024_S1x128_0_256)) r l (headOf 0 ⟨256 + l.val, by omega⟩) ?_).trans ?_
  · show 8 * 0 + (256 + l.val) / 64 = 4 + if l.val < 64 then 0 else 1
    split <;> omega
  refine ycell_congr r (blkA_eq x2 x3 x4) (blkD_eq x2 x3) (blkCB0_eq x1) (yoffG0 x1 st S hst r _) ?_ ?_ rfl
  · funext s
    exact congrArg (fun j => x1 (ix2 s j)) (Fin.ext (show 256 + l.val = 512 * 0 + (256 + l.val) by omega))
  · refine Eq.trans (b := x5 (ix2 0 ⟨256 + l.val, by omega⟩)) (by pointwise []) ?_
    exact congrArg (fun j => x5 (ix2 0 j)) (Fin.ext (show 256 + l.val = 512 * 0 + (256 + l.val) by omega))

theorem ytile3 (x1 : Vec Ideal S128x1536 .f32) (x2 : Tile) (x3 x4 : Vec Ideal S1x128 .f32) (x5 : Vec Ideal S1x1024 .f32) (st : Vec Ideal S1x128x512 .f32) (S : Fin 2 → Fin 128 → Fin 512 → EReal) (hst : ∀ n k, st (ix3 0 n k) = S 0 n k) (r l : Fin 128) :
    (show EReal from k0_pay68 (F := Ideal) (k0_pay6 x1) k0_pay17 (k0_pay20 (k0_pay16 x2 x3 x4) k0_pay18) k0_pay21 (k0_pay22 (k0_pay11 x1) (k0_pay13 x1)) (k0_pay24 (k0_pay13 x1) st) (k0_pay61 (k0_pay19 (k0_pay16 x2 x3 x4) k0_pay18)) (k0_pay63 (k0_pay19 (k0_pay16 x2 x3 x4) k0_pay18) k0_pay21) (k0_pay66 (k0_pay6 x1) (k0_pay15 x2 x3) k0_pay21) (k0_pay67 k0_pay17 (k0_pay19 (k0_pay16 x2 x3 x4) k0_pay18) (k0_pay20 (k0_pay16 x2 x3 x4) k0_pay18) (k0_pay22 (k0_pay11 x1) (k0_pay13 x1))) (View.ld x5 (Rect.unit ![0, 384] ![1, 128] inb_S1x1024_S1x128_0_384)) (ix2 r l)) = blkY x1 x2 x3 x4 x5 S 0 r ⟨384 + l.val, by omega⟩ := by
  refine (tile3 (k0_pay16 x2 x3 x4) (k0_pay15 x2 x3) (k0_pay22 (k0_pay11 x1) (k0_pay13 x1)) (k0_pay24 (k0_pay13 x1) st) x1 (View.ld x5 (Rect.unit ![0, 384] ![1, 128] inb_S1x1024_S1x128_0_384)) r l (headOf 0 ⟨384 + l.val, by omega⟩) ?_).trans ?_
  · show 8 * 0 + (384 + l.val) / 64 = 6 + if l.val < 64 then 0 else 1
    split <;> omega
  refine ycell_congr r (blkA_eq x2 x3 x4) (blkD_eq x2 x3) (blkCB0_eq x1) (yoffG0 x1 st S hst r _) ?_ ?_ rfl
  · funext s
    exact congrArg (fun j => x1 (ix2 s j)) (Fin.ext (show 384 + l.val = 512 * 0 + (384 + l.val) by omega))
  · refine Eq.trans (b := x5 (ix2 0 ⟨384 + l.val, by omega⟩)) (by pointwise []) ?_
    exact congrArg (fun j => x5 (ix2 0 j)) (Fin.ext (show 384 + l.val = 512 * 0 + (384 + l.val) by omega))

theorem ytile4 (x1 : Vec Ideal S128x1536 .f32) (x2 : Tile) (x3 x4 : Vec Ideal S1x128 .f32) (x5 : Vec Ideal S1x1024 .f32) (st : Vec Ideal S1x128x512 .f32) (S : Fin 2 → Fin 128 → Fin 512 → EReal) (hst : ∀ n k, st (ix3 0 n k) = S 1 n k) (r l : Fin 128) :
    (show EReal from k0_pay78 (F := Ideal) (k0_pay7 x1) (k0_pay15 x2 x3) k0_pay17 (k0_pay20 (k0_pay16 x2 x3 x4) k0_pay18) k0_pay21 (k0_pay70 (k0_pay12 x1) (k0_pay14 x1)) (k0_pay72 (k0_pay14 x1) st) (k0_pay73 (k0_pay19 (k0_pay16 x2 x3 x4) k0_pay18)) (k0_pay74 (k0_pay19 (k0_pay16 x2 x3 x4) k0_pay18)) (View.ld x5 (Rect.unit ![0, 512] ![1, 128] inb_S1x1024_S1x128_0_512)) (ix2 r l)) = blkY x1 x2 x3 x4 x5 S 1 r ⟨0 + l.val, by omega⟩ := by
  refine (tile4 (k0_pay16 x2 x3 x4) (k0_pay15 x2 x3) (k0_pay70 (k0_pay12 x1) (k0_pay14 x1)) (k0_pay72 (k0_pay14 x1) st) x1 (View.ld x5 (Rect.unit ![0, 512] ![1, 128] inb_S1x1024_S1x128_0_512)) r l (headOf 1 ⟨0 + l.val, by omega⟩) ?_).trans ?_
  · show 8 * 1 + (0 + l.val) / 64 = 8 + if l.val < 64 then 0 else 1
    split <;> omega
  refine ycell_congr r (blkA_eq x2 x3 x4) (blkD_eq x2 x3) (blkCB1_eq x1) (yoffG1 x1 st S hst r _) ?_ ?_ rfl
  · funext s
    exact congrArg (fun j => x1 (ix2 s j)) (Fin.ext (show 512 + l.val = 512 * 1 + (0 + l.val) by omega))
  · refine Eq.trans (b := x5 (ix2 0 ⟨512 + l.val, by omega⟩)) (by pointwise []) ?_
    exact congrArg (fun j => x5 (ix2 0 j)) (Fin.ext (show 512 + l.val = 512 * 1 + (0 + l.val) by omega))

theorem ytile5 (x1 : Vec Ideal S128x1536 .f32) (x2 : Tile) (x3 x4 : Vec Ideal S1x128 .f32) (x5 : Vec Ideal S1x1024 .f32) (st : Vec Ideal S1x128x512 .f32) (S : Fin 2 → Fin 128 → Fin 512 → EReal) (hst : ∀ n k, st (ix3 0 n k) = S 1 n k) (r l : Fin 128) :
    (show EReal from k0_pay86 (F := Ideal) (k0_pay8 x1) (k0_pay15 x2 x3) k0_pay17 (k0_pay19 (k0_pay16 x2 x3 x4) k0_pay18) (k0_pay20 (k0_pay16 x2 x3 x4) k0_pay18) k0_pay21 (k0_pay70 (k0_pay12 x1) (k0_pay14 x1)) (k0_pay72 (k0_pay14 x1) st) (k0_pay81 (k0_pay19 (k0_pay16 x2 x3 x4) k0_pay18)) (View.ld x5 (Rect.unit ![0, 640] ![1, 128] inb_S1x1024_S1x128_0_640)) (ix2 r l)) = blkY x1 x2 x3 x4 x5 S 1 r ⟨128 + l.val, by omega⟩ := by
  refine (tile5 (k0_pay16 x2 x3 x4) (k0_pay15 x2 x3) (k0_pay70 (k0_pay12 x1) (k0_pay14 x1)) (k0_pay72 (k0_pay14 x1) st) x1 (View.ld x5 (Rect.unit ![0, 640] ![1, 128] inb_S1x1024_S1x128_0_640)) r l (headOf 1 ⟨128 + l.val, by omega⟩) ?_).trans ?_
  · show 8 * 1 + (128 + l.val) / 64 = 10 + if l.val < 64 then 0 else 1
    split <;> omega
  refine ycell_congr r (blkA_eq x2 x3 x4) (blkD_eq x2 x3) (blkCB1_eq x1) (yoffG1 x1 st S hst r _) ?_ ?_ rfl
  · funext s
    exact congrArg (fun j => x1 (ix2 s j)) (Fin.ext (show 640 + l.val = 512 * 1 + (128 + l.val) by omega))
  · refine Eq.trans (b := x5 (ix2 0 ⟨640 + l.val, by omega⟩)) (by pointwise []) ?_
    exact congrArg (fun j => x5 (ix2 0 j)) (Fin.ext (show 640 + l.val = 512 * 1 + (128 + l.val) by omega))

theorem ytile6 (x1 : Vec Ideal S128x1536 .f32) (x2 : Tile) (x3 x4 : Vec Ideal S1x128 .f32) (x5 : Vec Ideal S1x1024 .f32) (st : Vec Ideal S1x128x512 .f32) (S : Fin 2 → Fin 128 → Fin 512 → EReal) (hst : ∀ n k, st (ix3 0 n k) = S 1 n k) (r l : Fin 128) :
    (show EReal from k0_pay95 (F := Ideal) (k0_pay9 x1) (k0_pay15 x2 x3) k0_pay17 (k0_pay19 (k0_pay16 x2 x3 x4) k0_pay18) (k0_pay20 (k0_pay16 x2 x3 x4) k0_pay18) k0_pay21 (k0_pay70 (k0_pay12 x1) (k0_pay14 x1)) (k0_pay72 (k0_pay14 x1) st) (View.ld x5 (Rect.unit ![0, 768] ![1, 128] inb_S1x1024_S1x128_0_768)) (ix2 r l)) = blkY x1 x2 x3 x4 x5 S 1 r ⟨256 + l.val, by omega⟩ := by
  refine (tile6 (k0_pay16 x2 x3 x4) (k0_pay15 x2 x3) (k0_pay70 (k0_pay12 x1) (k0_pay14 x1)) (k0_pay72 (k0_pay14 x1) st) x1 (View.ld x5 (Rect.unit ![0, 768] ![1, 128] inb_S1x1024_S1x128_0_768)) r l (headOf 1 ⟨256 + l.val, by omega⟩) ?_).trans ?_
  · show 8 * 1 + (256 + l.val) / 64 = 12 + if l.val < 64 then 0 else 1
    split <;> omega
  refine ycell_congr r (blkA_eq x2 x3 x4) (blkD_eq x2 x3) (blkCB1_eq x1) (yoffG1 x1 st S hst r _) ?_ ?_ rfl
  · funext s
    exact congrArg (fun j => x1 (ix2 s j)) (Fin.ext (show 768 + l.val = 512 * 1 + (256 + l.val) by omega))
  · refine Eq.trans (b := x5 (ix2 0 ⟨768 + l.val, by omega⟩)) (by pointwise []) ?_
    exact congrArg (fun j => x5 (ix2 0 j)) (Fin.ext (show 768 + l.val = 512 * 1 + (256 + l.val) by omega))

theorem ytile7 (x1 : Vec Ideal S128x1536 .f32) (x2 : Tile) (x3 x4 : Vec Ideal S1x128 .f32) (x5 : Vec Ideal S1x1024 .f32) (st : Vec Ideal S1x128x512 .f32) (S : Fin 2 → Fin 128 → Fin 512 → EReal) (hst : ∀ n k, st (ix3 0 n k) = S 1 n k) (r l : Fin 128) :
    (show EReal from k0_pay104 (F := Ideal) (k0_pay10 x1) (k0_pay15 x2 x3) k0_pay17 (k0_pay19 (k0_pay16 x2 x3 x4) k0_pay18) (k0_pay20 (k0_pay16 x2 x3 x4) k0_pay18) k0_pay21 (k0_pay70 (k0_pay12 x1) (k0_pay14 x1)) (k0_pay72 (k0_pay14 x1) st) (ix2 r l)) + (show EReal from k0_pay10 (F := Ideal) x1 (ix2 r l)) * (show EReal from (View.ld x5 (Rect.unit ![0, 896] ![1, 128] inb_S1x1024_S1x128_0_896)) (ix2 0 l)) = blkY x1 x2 x3 x4 x5 S 1 r ⟨384 + l.val, by omega⟩ := by
  have ex : (show EReal from k0_pay10 (F := Ideal) x1 (ix2 r l)) = x1 (ix2 r ⟨896 + l.val, by omega⟩) := by pointwise [k0_pay10]
  refine (congrArg (fun z : EReal => (show EReal from k0_pay104 (F := Ideal) (k0_pay10 x1) (k0_pay15 x2 x3) k0_pay17 (k0_pay19 (k0_pay16 x2 x3 x4) k0_pay18) (k0_pay20 (k0_pay16 x2 x3 x4) k0_pay18) k0_pay21 (k0_pay70 (k0_pay12 x1) (k0_pay14 x1)) (k0_pay72 (k0_pay14 x1) st) (ix2 r l)) + z * (show EReal from (View.ld x5 (Rect.unit ![0, 896] ![1, 128] inb_S1x1024_S1x128_0_896)) (ix2 0 l))) ex).trans ?_
  refine (tile7 (k0_pay16 x2 x3 x4) (k0_pay15 x2 x3) (k0_pay70 (k0_pay12 x1) (k0_pay14 x1)) (k0_pay72 (k0_pay14 x1) st) x1 (View.ld x5 (Rect.unit ![0, 896] ![1, 128] inb_S1x1024_S1x128_0_896)) r l (headOf 1 ⟨384 + l.val, by omega⟩) ?_).trans ?_
  · show 8 * 1 + (384 + l.val) / 64 = 14 + if l.val < 64 then 0 else 1
    split <;> omega
  refine ycell_congr r (blkA_eq x2 x3 x4) (blkD_eq x2 x3) (blkCB1_eq x1) (yoffG1 x1 st S hst r _) ?_ ?_ rfl
  · funext s
    exact congrArg (fun j => x1 (ix2 s j)) (Fin.ext (show 896 + l.val = 512 * 1 + (384 + l.val) by omega))
  · refine Eq.trans (b := x5 (ix2 0 ⟨896 + l.val, by omega⟩)) (by pointwise []) ?_
    exact congrArg (fun j => x5 (ix2 0 j)) (Fin.ext (show 896 + l.val = 512 * 1 + (384 + l.val) by omega))

theorem group0 (x0 : Vec Ideal S128x1024 .f32) (x1 : Vec Ideal S128x1536 .f32) (x2 : Tile) (x3 x4 : Vec Ideal S1x128 .f32) (x5 x6 : Vec Ideal S1x1024 .f32) (st : Vec Ideal S1x128x512 .f32) (S : Fin 2 → Fin 128 → Fin 512 → EReal) (hst : ∀ n k, st (ix3 0 n k) = S 0 n k) (r : Fin 128) (k : Fin 512) :
    (show EReal from k0_pay107 (F := Ideal) (k0_pay34 (k0_pay3 x1) k0_pay21 (k0_pay22 (k0_pay11 x1) (k0_pay13 x1)) (k0_pay24 (k0_pay13 x1) st) (k0_pay28 (k0_pay16 x2 x3 x4) k0_pay18) (k0_pay31 (k0_pay3 x1) (k0_pay15 x2 x3)) (k0_pay32 (k0_pay3 x1) (k0_pay11 x1) (k0_pay13 x1) (k0_pay15 x2 x3) (k0_pay16 x2 x3 x4) k0_pay17 k0_pay18) (k0_pay33 (k0_pay16 x2 x3 x4) k0_pay17 k0_pay18) (View.ld x5 (Rect.unit ![0, 0] ![1, 128] inb_S1x1024_S1x128_0_0))) (k0_pay46 (k0_pay4 x1) k0_pay17 k0_pay21 (k0_pay22 (k0_pay11 x1) (k0_pay13 x1)) (k0_pay24 (k0_pay13 x1) st) (k0_pay40 (k0_pay19 (k0_pay16 x2 x3 x4) k0_pay18) k0_pay21) (k0_pay43 (k0_pay4 x1) (k0_pay15 x2 x3) k0_pay21) (k0_pay44 (k0_pay4 x1) (k0_pay15 x2 x3) k0_pay17 (k0_pay19 (k0_pay16 x2 x3 x4) k0_pay18) (k0_pay20 (k0_pay16 x2 x3 x4) k0_pay18) k0_pay21 (k0_pay22 (k0_pay11 x1) (k0_pay13 x1))) (k0_pay45 (k0_pay19 (k0_pay16 x2 x3 x4) k0_pay18) (k0_pay20 (k0_pay16 x2 x3 x4) k0_pay18)) (View.ld x5 (Rect.unit ![0, 128] ![1, 128] inb_S1x1024_S1x128_0_128))) (k0_pay57 (k0_pay5 x1) k0_pay17 (k0_pay20 (k0_pay16 x2 x3 x4) k0_pay18) k0_pay21 (k0_pay22 (k0_pay11 x1) (k0_pay13 x1)) (k0_pay24 (k0_pay13 x1) st) (k0_pay50 (k0_pay19 (k0_pay16 x2 x3 x4) k0_pay18)) (k0_pay52 (k0_pay19 (k0_pay16 x2 x3 x4) k0_pay18) k0_pay21) (k0_pay55 (k0_pay5 x1) (k0_pay15 x2 x3) k0_pay21) (k0_pay56 (k0_pay5 x1) (k0_pay15 x2 x3) k0_pay17 (k0_pay19 (k0_pay16 x2 x3 x4) k0_pay18) (k0_pay20 (k0_pay16 x2 x3 x4) k0_pay18) k0_pay21 (k0_pay22 (k0_pay11 x1) (k0_pay13 x1))) (View.ld x5 (Rect.unit ![0, 256] ![1, 128] inb_S1x1024_S1x128_0_256))) (k0_pay68 (k0_pay6 x1) k0_pay17 (k0_pay20 (k0_pay16 x2 x3 x4) k0_pay18) k0_pay21 (k0_pay22 (k0_pay11 x1) (k0_pay13 x1)) (k0_pay24 (k0_pay13 x1) st) (k0_pay61 (k0_pay19 (k0_pay16 x2 x3 x4) k0_pay18)) (k0_pay63 (k0_pay19 (k0_pay16 x2 x3 x4) k0_pay18) k0_pay21) (k0_pay66 (k0_pay6 x1) (k0_pay15 x2 x3) k0_pay21) (k0_pay67 k0_pay17 (k0_pay19 (k0_pay16 x2 x3 x4) k0_pay18) (k0_pay20 (k0_pay16 x2 x3 x4) k0_pay18) (k0_pay22 (k0_pay11 x1) (k0_pay13 x1))) (View.ld x5 (Rect.unit ![0, 384] ![1, 128] inb_S1x1024_S1x128_0_384))) (View.ld x0 (Rect.unit ![0, 0] ![128, 512] inb_S128x1024_S128x512_0_0)) (View.ld x6 (Rect.unit ![0, 0] ![1, 512] inb_S1x1024_S1x512_0_0)) (ix2 r k)) = blkO x0 x1 x2 x3 x4 x5 x6 S 0 r k := by
  refine (grp0_at _ _ _ _ (blkY x1 x2 x3 x4 x5 S 0) (ytile0 x1 x2 x3 x4 x5 st S hst) (ytile1 x1 x2 x3 x4 x5 st S hst) (ytile2 x1 x2 x3 x4 x5 st S hst) (ytile3 x1 x2 x3 x4 x5 st S hst) _ _ r k).trans ?_
  refine congrArg₂ (fun z g => gnorm z g k) ?_ ?_
  · funext k
    refine congrArg (fun z : EReal => blkY x1 x2 x3 x4 x5 S 0 r k * z) ?_
    refine Eq.trans (b := x0 (ix2 r ⟨0 + k.val, by omega⟩)) (by pointwise []) ?_
    exact congrArg (fun j => x0 (ix2 r j)) (Fin.ext (show 0 + k.val = 512 * 0 + k.val by omega))
  · funext k
    refine Eq.trans (b := x6 (ix2 0 ⟨0 + k.val, by omega⟩)) (by pointwise []) ?_
    exact congrArg (fun j => x6 (ix2 0 j)) (Fin.ext (show 0 + k.val = 512 * 0 + k.val by omega))

theorem group1 (x0 : Vec Ideal S128x1024 .f32) (x1 : Vec Ideal S128x1536 .f32) (x2 : Tile) (x3 x4 : Vec Ideal S1x128 .f32) (x5 x6 : Vec Ideal S1x1024 .f32) (st : Vec Ideal S1x128x512 .f32) (S : Fin 2 → Fin 128 → Fin 512 → EReal) (hst : ∀ n k, st (ix3 0 n k) = S 1 n k) (r : Fin 128) (k : Fin 512) :
    (show EReal from k0_pay1 (F := Ideal) (k0_pay108 (k0_pay10 x1) (k0_pay78 (k0_pay7 x1) (k0_pay15 x2 x3) k0_pay17 (k0_pay20 (k0_pay16 x2 x3 x4) k0_pay18) k0_pay21 (k0_pay70 (k0_pay12 x1) (k0_pay14 x1)) (k0_pay72 (k0_pay14 x1) st) (k0_pay73 (k0_pay19 (k0_pay16 x2 x3 x4) k0_pay18)) (k0_pay74 (k0_pay19 (k0_pay16 x2 x3 x4) k0_pay18)) (View.ld x5 (Rect.unit ![0, 512] ![1, 128] inb_S1x1024_S1x128_0_512))) (k0_pay86 (k0_pay8 x1) (k0_pay15 x2 x3) k0_pay17 (k0_pay19 (k0_pay16 x2 x3 x4) k0_pay18) (k0_pay20 (k0_pay16 x2 x3 x4) k0_pay18) k0_pay21 (k0_pay70 (k0_pay12 x1) (k0_pay14 x1)) (k0_pay72 (k0_pay14 x1) st) (k0_pay81 (k0_pay19 (k0_pay16 x2 x3 x4) k0_pay18)) (View.ld x5 (Rect.unit ![0, 640] ![1, 128] inb_S1x1024_S1x128_0_640))) (k0_pay95 (k0_pay9 x1) (k0_pay15 x2 x3) k0_pay17 (k0_pay19 (k0_pay16 x2 x3 x4) k0_pay18) (k0_pay20 (k0_pay16 x2 x3 x4) k0_pay18) k0_pay21 (k0_pay70 (k0_pay12 x1) (k0_pay14 x1)) (k0_pay72 (k0_pay14 x1) st) (View.ld x5 (Rect.unit ![0, 768] ![1, 128] inb_S1x1024_S1x128_0_768))) (k0_pay104 (k0_pay10 x1) (k0_pay15 x2 x3) k0_pay17 (k0_pay19 (k0_pay16 x2 x3 x4) k0_pay18) (k0_pay20 (k0_pay16 x2 x3 x4) k0_pay18) k0_pay21 (k0_pay70 (k0_pay12 x1) (k0_pay14 x1)) (k0_pay72 (k0_pay14 x1) st)) (k0_pay105 (View.ld x5 (Rect.unit ![0, 896] ![1, 128] inb_S1x1024_S1x128_0_896))) (View.ld x0 (Rect.unit ![0, 512] ![128, 512] inb_S128x1024_S128x512_0_512))) (k0_pay109 (View.ld x6 (Rect.unit ![0, 512] ![1, 512] inb_S1x1024_S1x512_0_512))) (k0_pay110 (k0_pay10 x1) (k0_pay78 (k0_pay7 x1) (k0_pay15 x2 x3) k0_pay17 (k0_pay20 (k0_pay16 x2 x3 x4) k0_pay18) k0_pay21 (k0_pay70 (k0_pay12 x1) (k0_pay14 x1)) (k0_pay72 (k0_pay14 x1) st) (k0_pay73 (k0_pay19 (k0_pay16 x2 x3 x4) k0_pay18)) (k0_pay74 (k0_pay19 (k0_pay16 x2 x3 x4) k0_pay18)) (View.ld x5 (Rect.unit ![0, 512] ![1, 128] inb_S1x1024_S1x128_0_512))) (k0_pay86 (k0_pay8 x1) (k0_pay15 x2 x3) k0_pay17 (k0_pay19 (k0_pay16 x2 x3 x4) k0_pay18) (k0_pay20 (k0_pay16 x2 x3 x4) k0_pay18) k0_pay21 (k0_pay70 (k0_pay12 x1) (k0_pay14 x1)) (k0_pay72 (k0_pay14 x1) st) (k0_pay81 (k0_pay19 (k0_pay16 x2 x3 x4) k0_pay18)) (View.ld x5 (Rect.unit ![0, 640] ![1, 128] inb_S1x1024_S1x128_0_640))) (k0_pay95 (k0_pay9 x1) (k0_pay15 x2 x3) k0_pay17 (k0_pay19 (k0_pay16 x2 x3 x4) k0_pay18) (k0_pay20 (k0_pay16 x2 x3 x4) k0_pay18) k0_pay21 (k0_pay70 (k0_pay12 x1) (k0_pay14 x1)) (k0_pay72 (k0_pay14 x1) st) (View.ld x5 (Rect.unit ![0, 768] ![1, 128] inb_S1x1024_S1x128_0_768))) (k0_pay104 (k0_pay10 x1) (k0_pay15 x2 x3) k0_pay17 (k0_pay19 (k0_pay16 x2 x3 x4) k0_pay18) (k0_pay20 (k0_pay16 x2 x3 x4) k0_pay18) k0_pay21 (k0_pay70 (k0_pay12 x1) (k0_pay14 x1)) (k0_pay72 (k0_pay14 x1) st)) (k0_pay105 (View.ld x5 (Rect.unit ![0, 896] ![1, 128] inb_S1x1024_S1x128_0_896))) (View.ld x0 (Rect.unit ![0, 512] ![128, 512] inb_S128x1024_S128x512_0_512))) (ix2 r k)) = blkO x0 x1 x2 x3 x4 x5 x6 S 1 r k := by
  refine (grp1_at (k0_pay10 x1) _ _ _ _ (View.ld x5 (Rect.unit ![0, 896] ![1, 128] inb_S1x1024_S1x128_0_896)) (blkY x1 x2 x3 x4 x5 S 1) (ytile4 x1 x2 x3 x4 x5 st S hst) (ytile5 x1 x2 x3 x4 x5 st S hst) (ytile6 x1 x2 x3 x4 x5 st S hst) (ytile7 x1 x2 x3 x4 x5 st S hst) _ _ r k).trans ?_
  refine congrArg₂ (fun z g => gnorm z g k) ?_ ?_
  · funext k
    refine congrArg (fun z : EReal => blkY x1 x2 x3 x4 x5 S 1 r k * z) ?_
    refine Eq.trans (b := x0 (ix2 r ⟨512 + k.val, by omega⟩)) (by pointwise []) ?_
    exact congrArg (fun j => x0 (ix2 r j)) (Fin.ext (show 512 + k.val = 512 * 1 + k.val by omega))
  · funext k
    refine Eq.trans (b := x6 (ix2 0 ⟨512 + k.val, by omega⟩)) (by pointwise []) ?_
    exact congrArg (fun j => x6 (ix2 0 j)) (Fin.ext (show 512 + k.val = 512 * 1 + k.val by omega))

theorem left0 (x1 : Vec Ideal S128x1536 .f32) (x2 : Tile) (x3 x4 : Vec Ideal S1x128 .f32) (st : Vec Ideal S1x128x512 .f32) (S : Fin 2 → Fin 128 → Fin 512 → EReal) (hst : ∀ n k, st (ix3 0 n k) = S 0 n k) (n : Fin 128) (k : Fin 512) :
    (show EReal from k0_pay69 (F := Ideal) (k0_pay11 x1) (k0_pay23 st) (k0_pay35 (k0_pay29 (k0_pay16 x2 x3 x4) k0_pay18) (k0_pay30 (k0_pay3 x1) (k0_pay15 x2 x3))) (k0_pay36 (k0_pay28 (k0_pay16 x2 x3 x4) k0_pay18)) (k0_pay47 (k0_pay41 (k0_pay19 (k0_pay16 x2 x3 x4) k0_pay18) k0_pay21) (k0_pay42 (k0_pay4 x1) (k0_pay15 x2 x3) k0_pay21)) (k0_pay48 (k0_pay40 (k0_pay19 (k0_pay16 x2 x3 x4) k0_pay18) k0_pay21)) (k0_pay58 (k0_pay53 (k0_pay19 (k0_pay16 x2 x3 x4) k0_pay18) k0_pay21) (k0_pay54 (k0_pay5 x1) (k0_pay15 x2 x3) k0_pay21)) (k0_pay59 (k0_pay52 (k0_pay19 (k0_pay16 x2 x3 x4) k0_pay18) k0_pay21)) (k0_pay63 (k0_pay19 (k0_pay16 x2 x3 x4) k0_pay18) k0_pay21) (k0_pay64 (k0_pay19 (k0_pay16 x2 x3 x4) k0_pay18) k0_pay21) (k0_pay65 (k0_pay6 x1) (k0_pay15 x2 x3) k0_pay21) (ix3 0 n k)) = blkS x1 x2 x3 x4 S 0 n k := by
  revert k
  refine four_tiles ?_ ?_ ?_ ?_
  · intro l
    refine (state0 (k0_pay16 x2 x3 x4) (k0_pay15 x2 x3) (k0_pay11 x1) st x1 n l (headOf 0 ⟨0 + l.val, by omega⟩) ?_).trans ?_
    · show 8 * 0 + (0 + l.val) / 64 = 0 + if l.val < 64 then 0 else 1
      split <;> omega
    refine stcell_congr n (blkA_eq x2 x3 x4) (blkD_eq x2 x3) (blkB0_eq x1) (hst n _) ?_ rfl
    funext s
    exact congrArg (fun j => x1 (ix2 s j)) (Fin.ext (show 0 + l.val = 512 * 0 + (0 + l.val) by omega))
  · intro l
    refine (state1 (k0_pay16 x2 x3 x4) (k0_pay15 x2 x3) (k0_pay11 x1) st x1 n l (headOf 0 ⟨128 + l.val, by omega⟩) ?_).trans ?_
    · show 8 * 0 + (128 + l.val) / 64 = 2 + if l.val < 64 then 0 else 1
      split <;> omega
    refine stcell_congr n (blkA_eq x2 x3 x4) (blkD_eq x2 x3) (blkB0_eq x1) (hst n _) ?_ rfl
    funext s
    exact congrArg (fun j => x1 (ix2 s j)) (Fin.ext (show 128 + l.val = 512 * 0 + (128 + l.val) by omega))
  · intro l
    refine (state2 (k0_pay16 x2 x3 x4) (k0_pay15 x2 x3) (k0_pay11 x1) st x1 n l (headOf 0 ⟨256 + l.val, by omega⟩) ?_).trans ?_
    · show 8 * 0 + (256 + l.val) / 64 = 4 + if l.val < 64 then 0 else 1
      split <;> omega
    refine stcell_congr n (blkA_eq x2 x3 x4) (blkD_eq x2 x3) (blkB0_eq x1) (hst n _) ?_ rfl
    funext s
    exact congrArg (fun j => x1 (ix2 s j)) (Fin.ext (show 256 + l.val = 512 * 0 + (256 + l.val) by omega))
  · intro l
    refine (state3 (k0_pay16 x2 x3 x4) (k0_pay15 x2 x3) (k0_pay11 x1) st x1 n l (headOf 0 ⟨384 + l.val, by omega⟩) ?_).trans ?_
    · show 8 * 0 + (384 + l.val) / 64 = 6 + if l.val < 64 then 0 else 1
      split <;> omega
    refine stcell_congr n (blkA_eq x2 x3 x4) (blkD_eq x2 x3) (blkB0_eq x1) (hst n _) ?_ rfl
    funext s
    exact congrArg (fun j => x1 (ix2 s j)) (Fin.ext (show 384 + l.val = 512 * 0 + (384 + l.val) by omega))

theorem left1 (x1 : Vec Ideal S128x1536 .f32) (x2 : Tile) (x3 x4 : Vec Ideal S1x128 .f32) (st : Vec Ideal S1x128x512 .f32) (S : Fin 2 → Fin 128 → Fin 512 → EReal) (hst : ∀ n k, st (ix3 0 n k) = S 1 n k) (n : Fin 128) (k : Fin 512) :
    (show EReal from k0_pay106 (F := Ideal) (k0_pay12 x1) (k0_pay71 st) (k0_pay79 (k0_pay7 x1) (k0_pay15 x2 x3) k0_pay21 (k0_pay73 (k0_pay19 (k0_pay16 x2 x3 x4) k0_pay18)) (k0_pay74 (k0_pay19 (k0_pay16 x2 x3 x4) k0_pay18))) (k0_pay80 k0_pay21 (k0_pay73 (k0_pay19 (k0_pay16 x2 x3 x4) k0_pay18)) (k0_pay74 (k0_pay19 (k0_pay16 x2 x3 x4) k0_pay18))) (k0_pay87 (k0_pay8 x1) (k0_pay15 x2 x3) (k0_pay19 (k0_pay16 x2 x3 x4) k0_pay18) k0_pay21 (k0_pay81 (k0_pay19 (k0_pay16 x2 x3 x4) k0_pay18))) (k0_pay88 (k0_pay19 (k0_pay16 x2 x3 x4) k0_pay18) k0_pay21 (k0_pay81 (k0_pay19 (k0_pay16 x2 x3 x4) k0_pay18))) (k0_pay96 (k0_pay93 (k0_pay19 (k0_pay16 x2 x3 x4) k0_pay18) k0_pay21) (k0_pay94 (k0_pay9 x1) (k0_pay15 x2 x3) k0_pay21)) (k0_pay97 (k0_pay92 (k0_pay19 (k0_pay16 x2 x3 x4) k0_pay18) k0_pay21)) (k0_pay101 (k0_pay19 (k0_pay16 x2 x3 x4) k0_pay18) k0_pay21) (k0_pay102 (k0_pay19 (k0_pay16 x2 x3 x4) k0_pay18) k0_pay21) (k0_pay103 (k0_pay10 x1) (k0_pay15 x2 x3) k0_pay21) (ix3 0 n k)) = blkS x1 x2 x3 x4 S 1 n k := by
  revert k
  refine four_tiles ?_ ?_ ?_ ?_
  · intro l
    refine (state4 (k0_pay16 x2 x3 x4) (k0_pay15 x2 x3) (k0_pay12 x1) st x1 n l (headOf 1 ⟨0 + l.val, by omega⟩) ?_).trans ?_
    · show 8 * 1 + (0 + l.val) / 64 = 8 + if l.val < 64 then 0 else 1
      split <;> omega
    refine stcell_congr n (blkA_eq x2 x3 x4) (blkD_eq x2 x3) (blkB1_eq x1) (hst n _) ?_ rfl
    funext s
    exact congrArg (fun j => x1 (ix2 s j)) (Fin.ext (show 512 + l.val = 512 * 1 + (0 + l.val) by omega))
  · intro l
    refine (state5 (k0_pay16 x2 x3 x4) (k0_pay15 x2 x3) (k0_pay12 x1) st x1 n l (headOf 1 ⟨128 + l.val, by omega⟩) ?_).trans ?_
    · show 8 * 1 + (128 + l.val) / 64 = 10 + if l.val < 64 then 0 else 1
      split <;> omega
    refine stcell_congr n (blkA_eq x2 x3 x4) (blkD_eq x2 x3) (blkB1_eq x1) (hst n _) ?_ rfl
    funext s
    exact congrArg (fun j => x1 (ix2 s j)) (Fin.ext (show 640 + l.val = 512 * 1 + (128 + l.val) by omega))
  · intro l
    refine (state6 (k0_pay16 x2 x3 x4) (k0_pay15 x2 x3) (k0_pay12 x1) st x1 n l (headOf 1 ⟨256 + l.val, by omega⟩) ?_).trans ?_
    · show 8 * 1 + (256 + l.val) / 64 = 12 + if l.val < 64 then 0 else 1
      split <;> omega
    refine stcell_congr n (blkA_eq x2 x3 x4) (blkD_eq x2 x3) (blkB1_eq x1) (hst n _) ?_ rfl
    funext s
    exact congrArg (fun j => x1 (ix2 s j)) (Fin.ext (show 768 + l.val = 512 * 1 + (256 + l.val) by omega))
  · intro l
    refine (state7 (k0_pay16 x2 x3 x4) (k0_pay15 x2 x3) (k0_pay12 x1) st x1 n l (headOf 1 ⟨384 + l.val, by omega⟩) ?_).trans ?_
    · show 8 * 1 + (384 + l.val) / 64 = 14 + if l.val < 64 then 0 else 1
      split <;> omega
    refine stcell_congr n (blkA_eq x2 x3 x4) (blkD_eq x2 x3) (blkB1_eq x1) (hst n _) ?_ rfl
    funext s
    exact congrArg (fun j => x1 (ix2 s j)) (Fin.ext (show 896 + l.val = 512 * 1 + (384 + l.val) by omega))

end Cert.SsdIdeal.Value
-- ==== Proof.SsdBlock.lean ====
module
public import proofs.«01_k».proof.Proof.SsdGroup
public import proofs.«01_k».proof.Proof.Gen.SsdIdeal.Value
public import Idealize.ShloMosaic.Lib.Pipeline.ReadBack
public import Idealize.ShloMosaic.Lib.Pipeline.ValueKit
set_option maxRecDepth 16384
@[expose] public section

/-! # The scan kernel: what a grid point writes and leaves -/

noncomputable section
open Idealize.ShloMosaic Idealize.ShloMosaic.TcCoe Idealize.SL.Sem
namespace Cert.SsdIdeal.Value
open Cert.SsdIdeal Cert.SsdIdeal.Gen
open Cert.InprojIdeal.Value (canon_hit canon_miss)

/-- Where the newest store of a list reaches, its payload is what is read; -/
theorem canon_hit' {S : Shape} {e : EltTy} (r : Rect S) (w : r.shape.Idx → Elt Ideal e) (L : List (View.Piece (Elt Ideal) S e)) (x : r.shape.Idx) (y : S.Idx)
    (hx : ∀ a, (y a).val = r.off a + r.stride a * (x a).val) : View.canon (Val := Elt Ideal) (⟨r, w⟩ :: L) y = w x := by
  have e : r.emb x = y := Rect.emb_eq_of_coords r x y hx
  subst e
  exact View.canon_cons_emb r w L x

/-- elsewhere the older ones are. -/
theorem canon_miss' {S : Shape} {e : EltTy} (p : View.Piece (Elt Ideal) S e) (L : List (View.Piece (Elt Ideal) S e)) (y : S.Idx) (a : Fin S.rank) (o n : ℕ)
    (ho : p.1.off a = o) (hst : p.1.stride a = 1) (hn : p.1.size a = n) (h : (y a).val < o ∨ o + n ≤ (y a).val) :
    View.canon (Val := Elt Ideal) (p :: L) y = View.canon (Val := Elt Ideal) L y :=
  View.canon_cons_of_not_mem p L (p.1.not_mem_set_of_axis y a o n ho hst hn h)

/-- A tile of the output written as its two groups. -/
theorem canon_two (i512 : ∀ a, (![0, 512] : Fin 2 → ℕ) a + (![128, 512] : Fin 2 → ℕ) a ≤ S128x1024.size a)
    (i0 : ∀ a, (![0, 0] : Fin 2 → ℕ) a + (![128, 512] : Fin 2 → ℕ) a ≤ S128x1024.size a)
    (w512 w0 : S128x512.Idx → Elt Ideal .bf16) (G : Fin 2 → Fin 128 → Fin 512 → EReal)
    (h512 : ∀ (r : Fin 128) (k : Fin 512), (show EReal from w512 (ix2 r k)) = G 1 r k)
    (h0 : ∀ (r : Fin 128) (k : Fin 512), (show EReal from w0 (ix2 r k)) = G 0 r k)
    (g : Fin 2) (r : Fin 128) (k : Fin 512) :
    (show EReal from View.canon (Val := Elt Ideal) (s := S128x1024) (e := .bf16) [⟨Rect.unit ![0, 512] ![128, 512] i512, w512⟩, ⟨Rect.unit ![0, 0] ![128, 512] i0, w0⟩] (ix2 r ⟨512 * g.val + k.val, by omega⟩)) = G g r k := by
  match g with
  | ⟨1, _⟩ =>
    refine (canon_hit' (S := S128x1024) (Rect.unit (s := S128x1024) ![0, 512] ![128, 512] i512) w512 _ (ix2 (n0 := 128) (n1 := 512) r k) _ ?_).trans (h512 r k)
    intro a
    match a with
    | ⟨0, _⟩ => show r.val = 0 + 1 * r.val; omega
    | ⟨1, _⟩ => show 512 * 1 + k.val = 512 + 1 * k.val; omega
  | ⟨0, _⟩ =>
    refine (canon_miss' _ _ _ 1 512 512 rfl rfl rfl (Or.inl (by show 512 * 0 + k.val < 512; omega))).trans ?_
    refine (canon_hit' (S := S128x1024) (Rect.unit (s := S128x1024) ![0, 0] ![128, 512] i0) w0 _ (ix2 (n0 := 128) (n1 := 512) r k) _ ?_).trans (h0 r k)
    intro a
    match a with
    | ⟨0, _⟩ => show r.val = 0 + 1 * r.val; omega
    | ⟨1, _⟩ => show 512 * 0 + k.val = 0 + 1 * k.val; omega

/-- The state written as its two groups. -/
theorem canon_state (i1 : ∀ a, (![1, 0, 0] : Fin 3 → ℕ) a + (![1, 128, 512] : Fin 3 → ℕ) a ≤ S2x128x512.size a)
    (i0 : ∀ a, (![0, 0, 0] : Fin 3 → ℕ) a + (![1, 128, 512] : Fin 3 → ℕ) a ≤ S2x128x512.size a)
    (w1 w0 : S1x128x512.Idx → Elt Ideal .f32) (L : List (View.Piece (Elt Ideal) S2x128x512 .f32)) (G : Fin 2 → Fin 128 → Fin 512 → EReal)
    (h1 : ∀ (r : Fin 128) (k : Fin 512), (show EReal from w1 (ix3 0 r k)) = G 1 r k)
    (h0 : ∀ (r : Fin 128) (k : Fin 512), (show EReal from w0 (ix3 0 r k)) = G 0 r k)
    (g : Fin 2) (r : Fin 128) (k : Fin 512) :
    (show EReal from View.canon (Val := Elt Ideal) (s := S2x128x512) (e := .f32) (⟨Rect.unit ![1, 0, 0] ![1, 128, 512] i1, w1⟩ :: ⟨Rect.unit ![0, 0, 0] ![1, 128, 512] i0, w0⟩ :: L) (ix3 g r k)) = G g r k := by
  match g with
  | ⟨1, _⟩ =>
    refine (canon_hit (S := S2x128x512) (Rect.unit (s := S2x128x512) ![1, 0, 0] ![1, 128, 512] i1) w1 _ (ix3 (n0 := 1) (n1 := 128) (n2 := 512) 0 r k) _ ?_).trans (h1 r k)
    intro a
    match a with
    | ⟨0, _⟩ => rfl
    | ⟨1, _⟩ => show r.val = 0 + 1 * r.val; omega
    | ⟨2, _⟩ => show k.val = 0 + 1 * k.val; omega
  | ⟨0, _⟩ =>
    refine (canon_miss _ _ _ 0 1 1 rfl rfl rfl (Or.inl (by show 0 < 1; omega))).trans ?_
    refine (canon_hit (S := S2x128x512) (Rect.unit (s := S2x128x512) ![0, 0, 0] ![1, 128, 512] i0) w0 _ (ix3 (n0 := 1) (n1 := 128) (n2 := 512) 0 r k) _ ?_).trans (h0 r k)
    intro a
    match a with
    | ⟨0, _⟩ => rfl
    | ⟨1, _⟩ => show r.val = 0 + 1 * r.val; omega
    | ⟨2, _⟩ => show k.val = 0 + 1 * k.val; omega

/-- The state is first filled with zeros. -/
theorem fill_zero (j : S2x128x512.Idx) : (show EReal from k0_pay2 (F := Ideal) j) = 0 := by
  obtain ⟨a, b, c, rfl⟩ : ∃ a b c, j = ix3 a b c := ⟨_, _, _, (ix3_eta j).symm⟩
  pointwise [k0_pay2]

theorem start0 {sig' : RefSig} {κ' : Kind} {sp' : Space} (v : View sig' κ' sp' S2x128x512 .f32) (inb : ∀ a, (![0, 0, 0] : Fin 3 → ℕ) a + S2x128x512.size a ≤ S2x128x512.size a) (r : Rect S2x128x512) (j : r.shape.Idx) :
    (show EReal from v.readCov (Val := Elt Ideal) [⟨Rect.unit ![0, 0, 0] S2x128x512.size inb, k0_pay2 (F := Ideal)⟩] r.toLoadRect j) = 0 := by
  rw [View.readCov_fill (Val := Elt Ideal) v inb (k0_pay2 (F := Ideal)) [] r (by intro a; fin_cases a <;> rfl)]
  exact fill_zero _

theorem start1 {sig' : RefSig} {κ' : Kind} {sp' : Space} (v : View sig' κ' sp' S2x128x512 .f32) (inb : ∀ a, (![0, 0, 0] : Fin 3 → ℕ) a + S2x128x512.size a ≤ S2x128x512.size a)
    (i0 : ∀ a, (![0, 0, 0] : Fin 3 → ℕ) a + (![1, 128, 512] : Fin 3 → ℕ) a ≤ S2x128x512.size a) (w : S1x128x512.Idx → Elt Ideal .f32)
    (i1 : ∀ a, (![1, 0, 0] : Fin 3 → ℕ) a + (![1, 128, 512] : Fin 3 → ℕ) a ≤ S2x128x512.size a) (j : S1x128x512.Idx) :
    (show EReal from v.readCov (Val := Elt Ideal) [⟨Rect.unit ![0, 0, 0] ![1, 128, 512] i0, w⟩, ⟨Rect.unit ![0, 0, 0] S2x128x512.size inb, k0_pay2 (F := Ideal)⟩] (Rect.unit (s := S2x128x512) ![1, 0, 0] ![1, 128, 512] i1).toLoadRect j) = 0 := by
  have e := View.readCov_cons_of_disjoint (Val := Elt Ideal) v (⟨Rect.unit (s := S2x128x512) ![0, 0, 0] ![1, 128, 512] i0, w⟩ : View.Piece (Elt Ideal) S2x128x512 .f32) [⟨Rect.unit ![0, 0, 0] S2x128x512.size inb, k0_pay2 (F := Ideal)⟩] (Rect.unit (s := S2x128x512) ![1, 0, 0] ![1, 128, 512] i1).toLoadRect (Rect.unit_disjoint (inb := i0) (inb' := i1) 0 (Or.inl (by show 0 + 1 ≤ 1; omega)))
  exact (congrFun e j).trans (start0 v inb (Rect.unit (s := S2x128x512) ![1, 0, 0] ![1, 128, 512] i1) j)

theorem out_B (c : Dev nD) (i : grid0.Coords) (arg2 : Memref sig .tc .vmem S128x1024 .f32) (harg2 : arg2.IsWhole) (arg3 : Memref sig .tc .vmem S128x1536 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S2x128x512 .f32) (harg10 : arg10.IsWhole) (hc0 : ¬cond0_0 i) (x0 : Vec Ideal S128x1024 .f32) (x1 : Vec Ideal S128x1536 .f32) (x2 : Tile) (x3 x4 : Vec Ideal S1x128 .f32) (x5 x6 : Vec Ideal S1x1024 .f32) (xs0 : Vec Ideal S2x128x512 .f32) (g : Fin 2) (r : Fin 128) (k : Fin 512) :
    (show EReal from out0_B_7 (F := Ideal) c i arg2 harg2 arg3 harg3 arg4 harg4 arg5 harg5 arg6 harg6 arg7 harg7 arg8 harg8 arg9 harg9 arg10 harg10 hc0 x0 x1 x2 x3 x4 x5 x6 xs0 (ix2 r ⟨512 * g.val + k.val, by omega⟩)) = blkO x0 x1 x2 x3 x4 x5 x6 (fun g n k => xs0 (ix3 g n k)) g r k := by
  unfold out0_B_7
  frame_out
  refine canon_two _ _ _ _ (fun g r k => blkO x0 x1 x2 x3 x4 x5 x6 (fun g n k => xs0 (ix3 g n k)) g r k) (fun r k => group1 x0 x1 x2 x3 x4 x5 x6 _ _ (fun n k => ?_) r k) (fun r k => group0 x0 x1 x2 x3 x4 x5 x6 _ _ (fun n k => ?_) r k) g r k
  · show xs0 _ = xs0 _
    refine congrArg xs0 (funext fun a => Fin.ext ?_)
    match a with
    | ⟨0, _⟩ => rfl
    | ⟨1, _⟩ => show 0 + 1 * n.val = n.val; omega
    | ⟨2, _⟩ => show 0 + 1 * k.val = k.val; omega
  · show xs0 _ = xs0 _
    refine congrArg xs0 (funext fun a => Fin.ext ?_)
    match a with
    | ⟨0, _⟩ => rfl
    | ⟨1, _⟩ => show 0 + 1 * n.val = n.val; omega
    | ⟨2, _⟩ => show 0 + 1 * k.val = k.val; omega

theorem left_B (c : Dev nD) (i : grid0.Coords) (arg2 : Memref sig .tc .vmem S128x1024 .f32) (harg2 : arg2.IsWhole) (arg3 : Memref sig .tc .vmem S128x1536 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S2x128x512 .f32) (harg10 : arg10.IsWhole) (hc0 : ¬cond0_0 i) (x0 : Vec Ideal S128x1024 .f32) (x1 : Vec Ideal S128x1536 .f32) (x2 : Tile) (x3 x4 : Vec Ideal S1x128 .f32) (x5 x6 : Vec Ideal S1x1024 .f32) (xs0 : Vec Ideal S2x128x512 .f32) (g : Fin 2) (n : Fin 128) (k : Fin 512) :
    (show EReal from sout0_B_0 (F := Ideal) c i arg2 harg2 arg3 harg3 arg4 harg4 arg5 harg5 arg6 harg6 arg7 harg7 arg8 harg8 arg9 harg9 arg10 harg10 hc0 x0 x1 x2 x3 x4 x5 x6 xs0 (ix3 g n k)) = blkS x1 x2 x3 x4 (fun g n k => xs0 (ix3 g n k)) g n k := by
  unfold sout0_B_0
  frame_out
  refine canon_state _ _ _ _ _ (fun g n k => blkS x1 x2 x3 x4 (fun g n k => xs0 (ix3 g n k)) g n k) (fun n k => left1 x1 x2 x3 x4 _ _ (fun n k => ?_) n k) (fun n k => left0 x1 x2 x3 x4 _ _ (fun n k => ?_) n k) g n k
  · show xs0 _ = xs0 _
    refine congrArg xs0 (funext fun a => Fin.ext ?_)
    match a with
    | ⟨0, _⟩ => rfl
    | ⟨1, _⟩ => show 0 + 1 * n.val = n.val; omega
    | ⟨2, _⟩ => show 0 + 1 * k.val = k.val; omega
  · show xs0 _ = xs0 _
    refine congrArg xs0 (funext fun a => Fin.ext ?_)
    match a with
    | ⟨0, _⟩ => rfl
    | ⟨1, _⟩ => show 0 + 1 * n.val = n.val; omega
    | ⟨2, _⟩ => show 0 + 1 * k.val = k.val; omega

theorem out_A (c : Dev nD) (i : grid0.Coords) (arg2 : Memref sig .tc .vmem S128x1024 .f32) (harg2 : arg2.IsWhole) (arg3 : Memref sig .tc .vmem S128x1536 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S2x128x512 .f32) (harg10 : arg10.IsWhole) (hc0 : cond0_0 i) (x0 : Vec Ideal S128x1024 .f32) (x1 : Vec Ideal S128x1536 .f32) (x2 : Tile) (x3 x4 : Vec Ideal S1x128 .f32) (x5 x6 : Vec Ideal S1x1024 .f32) (g : Fin 2) (r : Fin 128) (k : Fin 512) :
    (show EReal from out0_A_7 (F := Ideal) c i arg2 harg2 arg3 harg3 arg4 harg4 arg5 harg5 arg6 harg6 arg7 harg7 arg8 harg8 arg9 harg9 arg10 harg10 hc0 x0 x1 x2 x3 x4 x5 x6 (ix2 r ⟨512 * g.val + k.val, by omega⟩)) = blkO x0 x1 x2 x3 x4 x5 x6 (fun _ _ _ => 0) g r k := by
  unfold out0_A_7
  frame_out
  refine canon_two _ _ _ _ (fun g r k => blkO x0 x1 x2 x3 x4 x5 x6 (fun _ _ _ => 0) g r k) (fun r k => group1 x0 x1 x2 x3 x4 x5 x6 _ _ (fun n k => ?_) r k) (fun r k => group0 x0 x1 x2 x3 x4 x5 x6 _ _ (fun n k => ?_) r k) g r k
  · exact start1 _ _ _ _ _ _
  · exact start0 _ _ _ _

theorem left_A (c : Dev nD) (i : grid0.Coords) (arg2 : Memref sig .tc .vmem S128x1024 .f32) (harg2 : arg2.IsWhole) (arg3 : Memref sig .tc .vmem S128x1536 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x1024 .bf16) (harg9 : arg9.IsWhole) (arg10 : Memref sig .tc .vmem S2x128x512 .f32) (harg10 : arg10.IsWhole) (hc0 : cond0_0 i) (x0 : Vec Ideal S128x1024 .f32) (x1 : Vec Ideal S128x1536 .f32) (x2 : Tile) (x3 x4 : Vec Ideal S1x128 .f32) (x5 x6 : Vec Ideal S1x1024 .f32) (g : Fin 2) (n : Fin 128) (k : Fin 512) :
    (show EReal from sout0_A_0 (F := Ideal) c i arg2 harg2 arg3 harg3 arg4 harg4 arg5 harg5 arg6 harg6 arg7 harg7 arg8 harg8 arg9 harg9 arg10 harg10 hc0 x0 x1 x2 x3 x4 x5 x6 (ix3 g n k)) = blkS x1 x2 x3 x4 (fun _ _ _ => 0) g n k := by
  unfold sout0_A_0
  frame_out
  refine canon_state _ _ _ _ _ (fun g n k => blkS x1 x2 x3 x4 (fun _ _ _ => 0) g n k) (fun n k => left1 x1 x2 x3 x4 _ _ (fun n k => ?_) n k) (fun n k => left0 x1 x2 x3 x4 _ _ (fun n k => ?_) n k) g n k
  · exact start1 _ _ _ _ _ _
  · exact start0 _ _ _ _
-- ==== Proof.RunningSum.lean ====
module
public import Idealize.ShloMosaic.Lib.Pipeline.ValueKit
set_option maxRecDepth 16384
@[expose] public section

/-! # A windowed sum over the whole past is a running sum -/

noncomputable section
open Idealize.ShloMosaic Idealize.ShloMosaic.TcCoe Idealize.SL.Sem
namespace Cert.RunningSum

/-- A left fold of `+` is the sum, started at the initial value. -/
theorem foldl_add {ι : Type} (f : ι → EReal) (L : List ι) (v : EReal) : L.foldl (fun r n => r + f n) v = v + (L.map f).sum := by
  induction L generalizing v with
  | nil => simp
  | cons a L ih => rw [List.foldl_cons, ih, List.map_cons, List.sum_cons, add_assoc]

/-- A running sum along axis `k`, as a window of the axis' whole length padded in front, is the sum of the entries up to the index. -/
theorem cumsum_at {s : Shape} (window strides lo hi : Fin s.rank → ℕ) (k : Fin s.rank)
    (hw : ∀ a, window a = if a = k then s.size k else 1) (hs : ∀ a, strides a = 1) (hlo : ∀ a, lo a = if a = k then s.size k - 1 else 0)
    (h : s.ReduceWindows window strides lo hi s) (x : s.Idx → EReal) (j : s.Idx) :
    Ideal.hostReduceWindowAdd window strides lo hi h x 0 j
      = ∑ i : Fin (s.size k), if i.val ≤ (j k).val then x (Function.update j k i) else 0 := by
  have hk : 0 < s.size k := lt_of_le_of_lt (Nat.zero_le _) (j k).isLt
  unfold Ideal.hostReduceWindowAdd Host.reduceWindow
  simp only
  rw [foldl_add, zero_add, ← Fin.sum_univ_def]
  set W : Shape := ⟨s.rank, window⟩ with hW
  rw [Equiv.sum_comp W.rowMajor.symm (fun q : W.Idx => if hin : ∀ a, lo a ≤ (j (a.cast h.1.symm)).val * strides a + (q a).val ∧ (j (a.cast h.1.symm)).val * strides a + (q a).val - lo a < s.size a then x (fun a => ⟨(j (a.cast h.1.symm)).val * strides a + (q a).val - lo a, (hin a).2⟩) else 0)]
  have wk : window k = s.size k := by rw [hw k, if_pos rfl]
  -- positions of the window against entries of the axis
  refine (Finset.sum_bij' (s := (Finset.univ : Finset W.Idx)) (t := (Finset.univ : Finset (Fin (s.size k))))
    (fun q _ => ⟨((j k).val + (q k).val + 1) % s.size k, Nat.mod_lt _ hk⟩)
    (fun i _ => fun a => if e : a = k then ⟨(i.val + (s.size k - 1 - (j k).val)) % s.size k, by subst e; show _ < window a; rw [wk]; exact Nat.mod_lt _ hk⟩ else ⟨0, by show 0 < window a; rw [hw a, if_neg e]; exact Nat.one_pos⟩) ?_ ?_ ?_ ?_ ?_)
  · intros; exact Finset.mem_univ _
  · intros; exact Finset.mem_univ _
  · intro q _
    funext a
    have qb : (q a).val < window a := (q a).isLt
    by_cases e : a = k
    · subst e
      rw [dif_pos rfl]
      apply Fin.ext
      show (((j a).val + (q a).val + 1) % s.size a + (s.size a - 1 - (j a).val)) % s.size a = (q a).val
      have jb := (j a).isLt
      rw [wk] at qb
      by_cases c : (j a).val + (q a).val + 1 < s.size a
      · rw [Nat.mod_eq_of_lt c, Nat.mod_eq_sub_mod (by omega), Nat.mod_eq_of_lt (by omega)]; omega
      · rw [Nat.mod_eq_sub_mod (show s.size a ≤ (j a).val + (q a).val + 1 by omega), Nat.mod_eq_of_lt (show (j a).val + (q a).val + 1 - s.size a < s.size a by omega), Nat.mod_eq_of_lt (by omega)]; omega
    · rw [dif_neg e]
      apply Fin.ext
      show 0 = (q a).val
      rw [hw a, if_neg e] at qb
      omega
  · intro i _
    apply Fin.ext
    have ib := i.isLt
    have jb := (j k).isLt
    have e : ((if e : k = k then (⟨(i.val + (s.size k - 1 - (j k).val)) % s.size k, by rw [wk]; exact Nat.mod_lt _ hk⟩ : Fin (window k)) else ⟨0, by rw [wk]; exact hk⟩) : Fin (window k)).val = (i.val + (s.size k - 1 - (j k).val)) % s.size k := by rw [dif_pos rfl]
    show ((j k).val + _ + 1) % s.size k = i.val
    refine (congrArg (fun z => ((j k).val + z + 1) % s.size k) e).trans ?_
    show ((j k).val + (i.val + (s.size k - 1 - (j k).val)) % s.size k + 1) % s.size k = i.val
    by_cases c : i.val ≤ (j k).val
    · rw [Nat.mod_eq_of_lt (show i.val + (s.size k - 1 - (j k).val) < s.size k by omega), Nat.mod_eq_sub_mod (by omega), Nat.mod_eq_of_lt (by omega)]; omega
    · rw [Nat.mod_eq_sub_mod (show s.size k ≤ i.val + (s.size k - 1 - (j k).val) by omega), Nat.mod_eq_of_lt (show i.val + (s.size k - 1 - (j k).val) - s.size k < s.size k by omega), Nat.mod_eq_of_lt (by omega)]; omega
  · intro q _
    have jb := (j k).isLt
    have qb : (q k).val < window k := (q k).isLt
    rw [wk] at qb
    have q0 : ∀ a, a ≠ k → (q a).val = 0 := fun a e => by
      have := (q a).isLt
      have hwa : W.size a = 1 := by show window a = 1; rw [hw a, if_neg e]
      omega
    have lk : lo k = s.size k - 1 := by rw [hlo k, if_pos rfl]
    have l0 : ∀ a, a ≠ k → lo a = 0 := fun a e => by rw [hlo a, if_neg e]
    by_cases c : (j k).val + (q k).val + 1 < s.size k
    · have hm : ((j k).val + (q k).val + 1) % s.size k = (j k).val + (q k).val + 1 := Nat.mod_eq_of_lt c
      rw [dif_neg, if_neg]
      · show ¬ ((j k).val + (q k).val + 1) % s.size k ≤ (j k).val
        omega
      · intro hin
        have := (hin k).1
        rw [lk, hs k] at this
        have hj : (j (k.cast h.1.symm)).val = (j k).val := rfl
        omega
    · have hm : ((j k).val + (q k).val + 1) % s.size k = (j k).val + (q k).val + 1 - s.size k := by
        rw [Nat.mod_eq_sub_mod (by omega), Nat.mod_eq_of_lt (by omega)]
      have hin : ∀ a, lo a ≤ (j (a.cast h.1.symm)).val * strides a + (q a).val ∧ (j (a.cast h.1.symm)).val * strides a + (q a).val - lo a < s.size a := by
        intro a
        have hj : (j (a.cast h.1.symm)).val = (j a).val := rfl
        have ja := (j a).isLt
        rw [hs a, Nat.mul_one, hj]
        by_cases e : a = k
        · subst e; omega
        · have := q0 a e; have := l0 a e; omega
      rw [dif_pos hin, if_pos]
      · congr 1
        funext a
        apply Fin.ext
        have hj : (j (a.cast h.1.symm)).val = (j a).val := rfl
        show (j (a.cast h.1.symm)).val * strides a + (q a).val - lo a = _
        rw [hs a, Nat.mul_one, hj]
        by_cases e : a = k
        · subst e
          rw [Function.update_self]
          show _ = ((j a).val + (q a).val + 1) % s.size a
          omega
        · rw [Function.update_of_ne e]
          have := q0 a e; have := l0 a e; omega
      · show ((j k).val + (q k).val + 1) % s.size k ≤ (j k).val
        omega

end Cert.RunningSum
-- ==== Proof.SsdReference.lean ====
module
public import proofs.«01_k».proof.Proof.SsdRow
public import proofs.«01_k».proof.Proof.RunningSum
public import proofs.«01_k».proof.Proof.Gen.SsdReferenceIdeal.Run
public import Idealize.ShloMosaic.Lib.Pipeline.ValueKit
public import Idealize.ShloMosaic.Lib.ValueIdxRank6
set_option maxRecDepth 16384
@[expose] public section

/-! # The reference's arrays, entry by entry -/
noncomputable section
open Idealize.ShloMosaic Idealize.ShloMosaic.TcCoe Idealize.SL.Sem
namespace Cert.SsdReferenceIdeal.Value
open Cert.SsdReferenceIdeal Cert.SsdReferenceIdeal.Gen
open Cert.SsdIdeal.Value (softp gnorm)

abbrev Val0 := Valuation τ sig (Elt Ideal)

/-- The row of the flat arrays that holds a sequence position. -/
def rowOf (b : Fin 4) (s : Fin 8192) : Fin 32768 := ⟨b.val * 8192 + s.val, by omega⟩

/-- The arguments, entry by entry. -/
def argX (V : Val0) (b : Fin 4) (s : Fin 8192) (k : Fin 1536) : EReal := (V (Proc.devRef .tc main_arg1) : FVec Ideal S32768x1536 .f32) (ix2 (rowOf b s) k)
def argT (V : Val0) (b : Fin 4) (s : Fin 8192) (h : Fin 16) : EReal := (V (Proc.devRef .tc main_arg2) : FVec Ideal S32768x128 .f32) (ix2 (rowOf b s) ⟨h.val, by omega⟩)
def argB (V : Val0) (h : Fin 16) : EReal := (V (Proc.devRef .tc main_arg3) : FVec Ideal S1x16 .f32) (ix2 0 h)
def argL (V : Val0) (h : Fin 16) : EReal := (V (Proc.devRef .tc main_arg4) : FVec Ideal S1x16 .f32) (ix2 0 h)
/-- The step sizes and the decay exponents. -/
def dtV (V : Val0) (b : Fin 4) (s : Fin 8192) (h : Fin 16) : EReal := softp (argT V b s h + argB V h)
def daV (V : Val0) (b : Fin 4) (s : Fin 8192) (h : Fin 16) : EReal := -(Ideal.exp (argL V h)) * dtV V b s h
def posOf (c : Fin 64) (l : Fin 128) : Fin 8192 := ⟨c.val * 128 + l.val, by omega⟩
def hd (g : Fin 2) (j : Fin 8) : Fin 16 := ⟨g.val * 8 + j.val, by omega⟩

theorem v1_at (V : Val0) (b : Fin 4) (s : Fin 8192) (k : Fin 1536) : (res_main_v1 V : FVec Ideal S4x8192x1536 .f32) (ix3 b s k) = argX V b s k := by
  pointwise [res_main_v1, argX, rowOf]

theorem v11_at (V : Val0) (b : Fin 4) (s : Fin 8192) (g : Fin 2) (j : Fin 8) (p : Fin 64) : (res_main_v11 V : FVec Ideal S4x8192x2x8x64 .f32) (ix5 b s g j p) = argX V b s ⟨g.val * 512 + j.val * 64 + p.val, by omega⟩ := by
  pointwise [res_main_v11, res_main_v1, argX, rowOf]

theorem v31_at (V : Val0) (b : Fin 4) (c : Fin 64) (l : Fin 128) (g : Fin 2) (n : Fin 128) : (res_main_v31 V : FVec Ideal S4x64x128x2x128 .f32) (ix5 b c l g n) = argX V b (posOf c l) ⟨1024 + (g.val * 128 + n.val), by omega⟩ := by
  pointwise [res_main_v31, res_main_v1, argX, rowOf, posOf]

theorem v32_at (V : Val0) (b : Fin 4) (c : Fin 64) (l : Fin 128) (g : Fin 2) (n : Fin 128) : (res_main_v32 V : FVec Ideal S4x64x128x2x128 .f32) (ix5 b c l g n) = argX V b (posOf c l) ⟨1280 + (g.val * 128 + n.val), by omega⟩ := by
  pointwise [res_main_v32, res_main_v1, argX, rowOf, posOf]

theorem v16_at (V : Val0) (b : Fin 4) (s : Fin 8192) (h : Fin 16) : (res_main_v16 V : FVec Ideal S4x8192x16 .f32) (ix3 b s h) = argT V b s h + argB V h := by
  pointwise [res_main_v16, argT, argB, rowOf]

theorem v18_at (V : Val0) (b : Fin 4) (s : Fin 8192) (g : Fin 2) (j : Fin 8) : (res_main_v18 V : FVec Ideal S4x8192x2x8 .f32) (ix4 b s g j) = dtV V b s (hd g j) := by
  have e := v16_at V b s (hd g j)
  pointwise [res_main_v18, res_main_call0_v3, res_main_call0_cst, dtV, softp]
  rw [if_neg (not_not.mpr rfl)]
  refine Eq.trans (congrArg (fun z : EReal => max z 0 + Ideal.log1p (Ideal.exp (-(max z (-z))))) e) ?_
  rw [zero_sub]

theorem v28_at (V : Val0) (b : Fin 4) (c : Fin 64) (l : Fin 128) (g : Fin 2) (j : Fin 8) (p : Fin 64) : (res_main_v28 V : FVec Ideal S4x64x128x2x8x64 .f32) (ix6 b c l g j p) = argX V b (posOf c l) ⟨g.val * 512 + j.val * 64 + p.val, by omega⟩ * dtV V b (posOf c l) (hd g j) := by
  have e := v11_at V b (posOf c l) g j p
  have e2 := v18_at V b (posOf c l) g j
  pointwise [res_main_v28, posOf]
  exact congrArg₂ (fun a b : EReal => a * b) e e2

theorem v30_at (V : Val0) (b : Fin 4) (c : Fin 64) (l : Fin 128) (g : Fin 2) (j : Fin 8) : (res_main_v30 V : FVec Ideal S4x2x8x64x128 .f32) (ix5 b g j c l) = daV V b (posOf c l) (hd g j) := by
  have e2 := v18_at V b (posOf c l) g j
  pointwise [res_main_v30, posOf, daV, argL, hd]
  exact congrArg (fun z : EReal => -Ideal.exp (argL V (hd g j)) * z) e2
end Cert.SsdReferenceIdeal.Value
-- ==== Proof.SsdReferenceSum.lean ====
module
public import proofs.«01_k».proof.Proof.SsdReference
public import proofs.«01_k».proof.Proof.InprojReference
public import proofs.«01_k».proof.Proof.RunningSum
public import proofs.«01_k».proof.Proof.Gen.SsdReferenceIdeal.Run
public import Idealize.ShloMosaic.Lib.Pipeline.ValueKit
public import Idealize.ShloMosaic.Lib.ValueIdxRank6
set_option maxRecDepth 16384
@[expose] public section

/-! # The reference's sums over positions and over chunks -/
noncomputable section
open Idealize.ShloMosaic Idealize.ShloMosaic.TcCoe Idealize.SL.Sem
namespace Cert.SsdReferenceIdeal.Value
open Cert.SsdReferenceIdeal Cert.SsdReferenceIdeal.Gen
open Cert.SsdIdeal.Value (softp gnorm)

/-- Running sums along the positions of a chunk, along the second position of a pair, and along the chunks. -/
def win5 (x : FVec Ideal S4x2x8x64x128 .f32) : FVec Ideal S4x2x8x64x128 .f32 :=
  Host.reduceWindowAdd ![1, 1, 1, 1, 128] ![1, 1, 1, 1, 1] ![0, 0, 0, 0, 127] ![0, 0, 0, 0, 0] x (broadcastInDim S_ ![] bcast_S_S_ (constant S_ .f32 0x00000000#32)) reduceWindows_S4x2x8x64x128_S4x2x8x64x128_w1s1p0_0_w1s1p0_0_w1s1p0_0_w1s1p0_0_w128s1p127_0 h_S_
def win6 (x : FVec Ideal S4x2x8x64x128x128 .f32) : FVec Ideal S4x2x8x64x128x128 .f32 :=
  Host.reduceWindowAdd ![1, 1, 1, 1, 128, 1] ![1, 1, 1, 1, 1, 1] ![0, 0, 0, 0, 127, 0] ![0, 0, 0, 0, 0, 0] x (broadcastInDim S_ ![] bcast_S_S_ (constant S_ .f32 0x00000000#32)) reduceWindows_S4x2x8x64x128x128_S4x2x8x64x128x128_w1s1p0_0_w1s1p0_0_w1s1p0_0_w1s1p0_0_w128s1p127_0_w1s1p0_0 h_S_
def win65 (x : FVec Ideal S4x2x8x65x65 .f32) : FVec Ideal S4x2x8x65x65 .f32 :=
  Host.reduceWindowAdd ![1, 1, 1, 65, 1] ![1, 1, 1, 1, 1] ![0, 0, 0, 64, 0] ![0, 0, 0, 0, 0] x (broadcastInDim S_ ![] bcast_S_S_ (constant S_ .f32 0x00000000#32)) reduceWindows_S4x2x8x65x65_S4x2x8x65x65_w1s1p0_0_w1s1p0_0_w1s1p0_0_w65s1p64_0_w1s1p0_0 h_S_
/-- The exponents that lie between two positions, and between two chunks. -/
def segIn (a : FVec Ideal S4x2x8x64x128 .f32) : FVec Ideal S4x2x8x64x128x128 .f32 :=
  (select (broadcastInDim S4x2x8x64x128x128 ![4, 5] bcast_S128x128_S4x2x8x64x128x128_4_5 (select (cmpi .sge (addi (iotaInDim S128x128 32 0) (broadcastInDim S128x128 ![] bcast_S_S128x128 (constantI S_ 32 4294967295#32))) (iotaInDim S128x128 32 1)) (broadcastInDim S128x128 ![] bcast_S_S128x128 (constantI S_ 1 1#1)) (broadcastInDim S128x128 ![] bcast_S_S128x128 (constantI S_ 1 0#1)))) (broadcastInDim S4x2x8x64x128x128 ![0, 1, 2, 3, 4, 5] bcast_S4x2x8x64x128x1_S4x2x8x64x128x128_0_1_2_3_4_5 (broadcastInDim S4x2x8x64x128x1 ![0, 1, 2, 3, 4] bcast_S4x2x8x64x128_S4x2x8x64x128x1_0_1_2_3_4 (a))) (broadcastInDim S4x2x8x64x128x128 ![] bcast_S_S4x2x8x64x128x128 (id (constant S_ .f32 0x00000000#32))))
def chunkIn (r : FVec Ideal S4x2x8x64x128 .f32) : FVec Ideal S4x2x8x65x65 .f32 :=
  (select (broadcastInDim S4x2x8x65x65 ![3, 4] bcast_S65x65_S4x2x8x65x65_3_4 (select (cmpi .sge (addi (iotaInDim S65x65 32 0) (broadcastInDim S65x65 ![] bcast_S_S65x65 (constantI S_ 32 4294967295#32))) (iotaInDim S65x65 32 1)) (broadcastInDim S65x65 ![] bcast_S_S65x65 (constantI S_ 1 1#1)) (broadcastInDim S65x65 ![] bcast_S_S65x65 (constantI S_ 1 0#1)))) (broadcastInDim S4x2x8x65x65 ![0, 1, 2, 3, 4] bcast_S4x2x8x65x1_S4x2x8x65x65_0_1_2_3_4 (broadcastInDim S4x2x8x65x1 ![0, 1, 2, 3] bcast_S4x2x8x65_S4x2x8x65x1_0_1_2_3 (pad S4x2x8x65 ![0, 0, 0, 1] ![0, 0, 0, 0] ![0, 0, 0, 0] (shapeCast _ (extractStridedSlice S4x2x8x64x1 ![0, 0, 0, 0, 127] (r) slices_S4x2x8x64x128_S4x2x8x64x1_0_0_0_0_127) shapeCasts_S4x2x8x64x1_S4x2x8x64) (sitofp .f32 (constantI S_ 32 0#32)) pads_S4x2x8x64_S4x2x8x65_000_000_000_100 h_S_))) (broadcastInDim S4x2x8x65x65 ![] bcast_S_S4x2x8x65x65 (id (constant S_ .f32 0x00000000#32))))
/-- The decay from one position of a chunk to another. -/
def refSeg (a : FVec Ideal S4x2x8x64x128 .f32) : FVec Ideal S4x2x8x64x128x128 .f32 :=
  Host.exp (select (broadcastInDim S4x2x8x64x128x128 ![4, 5] bcast_S128x128_S4x2x8x64x128x128_4_5 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (win6 (segIn a)) (broadcastInDim S4x2x8x64x128x128 ![] bcast_S_S4x2x8x64x128x128 (id (constant S_ .f32 0xFF800000#32))))
/-- The decay from the end of one chunk to the start of another. -/
def refChunkSeg (r : FVec Ideal S4x2x8x64x128 .f32) : FVec Ideal S4x2x8x65x65 .f32 :=
  Host.exp (select (broadcastInDim S4x2x8x65x65 ![3, 4] bcast_S65x65_S4x2x8x65x65_3_4 (select (cmpi .sge (addi (iotaInDim S65x65 32 0) (broadcastInDim S65x65 ![] bcast_S_S65x65 (constantI S_ 32 0#32))) (iotaInDim S65x65 32 1)) (broadcastInDim S65x65 ![] bcast_S_S65x65 (constantI S_ 1 1#1)) (broadcastInDim S65x65 ![] bcast_S_S65x65 (constantI S_ 1 0#1)))) (win65 (chunkIn r)) (broadcastInDim S4x2x8x65x65 ![] bcast_S_S4x2x8x65x65 (id (constant S_ .f32 0xFF800000#32))))
/-- The products of the two projections of a chunk's positions. -/
def refCB (x y : FVec Ideal S4x64x128x2x128 .f32) : FVec Ideal S4x2x64x128x128 .f32 :=
  Host.dotGeneral dot_S4x64x128x2x128_S4x64x128x2x128_S4x2x64x128x128_4_4_2_2_031_031 none (x) (y)
/-- The part of the output that comes from the chunk itself. -/
def refDiag (x : FVec Ideal S4x64x128x2x8x64 .f32) (cb : FVec Ideal S4x2x64x128x128 .f32) (sg : FVec Ideal S4x2x8x64x128x128 .f32) : FVec Ideal S4x64x128x2x8x64 .f32 :=
  transpose S4x64x128x2x8x64 [0, 1, 5, 2, 3, 4] (Host.dotGeneral dot_S4x64x128x2x8x64_S4x2x8x64x128x128_S4x64x2x8x64x128_2_5_5_4_0134_0312 none (x) (mulf (broadcastInDim S4x2x8x64x128x128 ![0, 1, 2, 3, 4, 5] bcast_S4x2x1x64x128x128_S4x2x8x64x128x128_0_1_2_3_4_5 (broadcastInDim S4x2x1x64x128x128 ![0, 1, 3, 4, 5] bcast_S4x2x64x128x128_S4x2x1x64x128x128_0_1_3_4_5 (cb))) (sg))) transposes_S4x64x2x8x64x128_S4x64x128x2x8x64_0_1_5_2_3_4
/-- The states at the starts of the chunks. -/
def refState (s : FVec Ideal S4x64x2x8x64x128 .f32) (d : FVec Ideal S4x2x8x65x65 .f32) : FVec Ideal S4x64x2x8x64x128 .f32 :=
  extractStridedSlice S4x64x2x8x64x128 ![0, 0, 0, 0, 0, 0] (transpose S4x65x2x8x64x128 [0, 5, 1, 2, 3, 4] (Host.dotGeneral dot_S4x65x2x8x64x128_S4x2x8x65x65_S4x2x8x64x128x65_1_4_45_3_023_012 none (concatenate S4x65x2x8x64x128 1 [⟨S4x1x2x8x64x128, (broadcastInDim S4x1x2x8x64x128 ![] bcast_S_S4x1x2x8x64x128 (constant S_ .f32 0x00000000#32))⟩, ⟨S4x64x2x8x64x128, (s)⟩] concatenates_S4x1x2x8x64x128_S4x64x2x8x64x128_S4x65x2x8x64x128_d1) (d)) transposes_S4x2x8x64x128x65_S4x65x2x8x64x128_0_5_1_2_3_4) slices_S4x65x2x8x64x128_S4x64x2x8x64x128_0_0_0_0_0_0
/-- The part of the output that comes from the earlier chunks. -/
def refOff (s : FVec Ideal S4x64x2x8x64x128 .f32) (x : FVec Ideal S4x64x128x2x128 .f32) (r : FVec Ideal S4x2x8x64x128 .f32) : FVec Ideal S4x64x128x2x8x64 .f32 :=
  mulf (transpose S4x64x128x2x8x64 [0, 1, 5, 2, 3, 4] (Host.dotGeneral dot_S4x64x2x8x64x128_S4x64x128x2x128_S4x64x2x8x64x128_5_4_34_2_012_013 none (s) (x)) transposes_S4x64x2x8x64x128_S4x64x128x2x8x64_0_1_5_2_3_4) (broadcastInDim S4x64x128x2x8x64 ![0, 1, 2, 3, 4, 5] bcast_S4x64x128x2x8x1_S4x64x128x2x8x64_0_1_2_3_4_5 (broadcastInDim S4x64x128x2x8x1 ![0, 1, 2, 3, 4] bcast_S4x64x128x2x8_S4x64x128x2x8x1_0_1_2_3_4 (transpose S4x64x128x2x8 [0, 3, 4, 1, 2] (Host.exp (r)) transposes_S4x2x8x64x128_S4x64x128x2x8_0_3_4_1_2)))

theorem v85_eq (V : Val0) : res_main_v85 V = addf (refDiag (res_main_v28 V) (refCB (res_main_v32 V) (res_main_v31 V)) (refSeg (res_main_v30 V))) (refOff (refState (res_main_v58 V) (refChunkSeg (res_main_v33 V))) (res_main_v32 V) (res_main_v33 V)) := rfl
theorem v33_eq (V : Val0) : res_main_v33 V = win5 (res_main_v30 V) := rfl

theorem init_zero : (broadcastInDim S_ ![] bcast_S_S_ (constant (F := Ideal) S_ .f32 0x00000000#32)) (fun a => a.elim0) = (0 : EReal) := by
  show Ideal.ofBits .f32 0x00000000#32 = 0
  simp [Ideal.ofBits, Ideal.ieee]

/-- The host's window sum, on extended reals. -/
theorem win_eq {s : Shape} (window strides lo hi : Fin s.rank → ℕ) (x : FVec Ideal s .f32) (h : s.ReduceWindows window strides lo hi s) (hs : 0 < S_.numel) (i : s.Idx) :
    (show EReal from Host.reduceWindowAdd window strides lo hi x (broadcastInDim S_ ![] bcast_S_S_ (constant (F := Ideal) S_ .f32 0x00000000#32)) h hs i) = Ideal.hostReduceWindowAdd window strides lo hi h x 0 i :=
  congrArg (fun z : EReal => Ideal.hostReduceWindowAdd window strides lo hi h x z i) init_zero

theorem win5_at (x : FVec Ideal S4x2x8x64x128 .f32) (b : Fin 4) (g : Fin 2) (j : Fin 8) (c : Fin 64) (l : Fin 128) :
    (show EReal from win5 x (ix5 b g j c l)) = ∑ i : Fin 128, if i.val ≤ l.val then (show EReal from x (ix5 b g j c i)) else 0 := by
  refine (win_eq _ _ _ _ _ _ _ _).trans ?_
  refine (Cert.RunningSum.cumsum_at (s := S4x2x8x64x128) _ _ _ _ 4 (by decide) (by decide) (by decide) _ x (ix5 b g j c l)).trans ?_
  refine Finset.sum_congr rfl fun i _ => ?_
  refine congrArg (fun z : EReal => if i.val ≤ l.val then z else 0) (congrArg x (funext fun a => ?_))
  fin_cases a <;> rfl

theorem win6_at (x : FVec Ideal S4x2x8x64x128x128 .f32) (b : Fin 4) (g : Fin 2) (j : Fin 8) (c : Fin 64) (l s : Fin 128) :
    (show EReal from win6 x (ix6 b g j c l s)) = ∑ i : Fin 128, if i.val ≤ l.val then (show EReal from x (ix6 b g j c i s)) else 0 := by
  refine (win_eq _ _ _ _ _ _ _ _).trans ?_
  refine (Cert.RunningSum.cumsum_at (s := S4x2x8x64x128x128) _ _ _ _ 4 (by decide) (by decide) (by decide) _ x (ix6 b g j c l s)).trans ?_
  refine Finset.sum_congr rfl fun i _ => ?_
  refine congrArg (fun z : EReal => if i.val ≤ l.val then z else 0) (congrArg x (funext fun a => ?_))
  fin_cases a <;> rfl

theorem win65_at (x : FVec Ideal S4x2x8x65x65 .f32) (b : Fin 4) (g : Fin 2) (j : Fin 8) (z c : Fin 65) :
    (show EReal from win65 x (ix5 b g j z c)) = ∑ i : Fin 65, if i.val ≤ z.val then (show EReal from x (ix5 b g j i c)) else 0 := by
  refine (win_eq _ _ _ _ _ _ _ _).trans ?_
  refine (Cert.RunningSum.cumsum_at (s := S4x2x8x65x65) _ _ _ _ 3 (by decide) (by decide) (by decide) _ x (ix5 b g j z c)).trans ?_
  refine Finset.sum_congr rfl fun i _ => ?_
  refine congrArg (fun q : EReal => if i.val ≤ z.val then q else 0) (congrArg x (funext fun a => ?_))
  fin_cases a <;> rfl

theorem cb_at (x y : FVec Ideal S4x64x128x2x128 .f32) (b : Fin 4) (g : Fin 2) (c : Fin 64) (l s : Fin 128) :
    (show EReal from refCB x y (ix5 b g c l s)) = ∑ n : Fin 128, (show EReal from x (ix5 b c l g n)) * (show EReal from y (ix5 b c s g n)) := by
  pointwise [refCB]

theorem diag_at (x : FVec Ideal S4x64x128x2x8x64 .f32) (cb : FVec Ideal S4x2x64x128x128 .f32) (sg : FVec Ideal S4x2x8x64x128x128 .f32) (b : Fin 4) (c : Fin 64) (l : Fin 128) (g : Fin 2) (j : Fin 8) (p : Fin 64) :
    (show EReal from refDiag x cb sg (ix6 b c l g j p)) = ∑ s : Fin 128, (show EReal from x (ix6 b c s g j p)) * ((show EReal from cb (ix5 b g c l s)) * (show EReal from sg (ix6 b g j c l s))) := by
  pointwise [refDiag]

theorem off_at (st : FVec Ideal S4x64x2x8x64x128 .f32) (x : FVec Ideal S4x64x128x2x128 .f32) (r : FVec Ideal S4x2x8x64x128 .f32) (b : Fin 4) (c : Fin 64) (l : Fin 128) (g : Fin 2) (j : Fin 8) (p : Fin 64) :
    (show EReal from refOff st x r (ix6 b c l g j p)) = (∑ n : Fin 128, (show EReal from st (ix6 b c g j p n)) * (show EReal from x (ix5 b c l g n))) * Ideal.exp (r (ix5 b g j c l)) := by
  pointwise [refOff]

theorem ge_128 {α : Type} (r s : Fin 128) (a b : α) : Scalar.select (IntOp.cmpi .sge (IntOp.addi (BitVec.ofNat 32 r.val) 0#32) (BitVec.ofNat 32 s.val)) a b = if s.val ≤ r.val then a else b := by
  have e : ∀ r s : Fin 128, IntOp.cmpi .sge (IntOp.addi (BitVec.ofNat 32 r.val) 0#32) (BitVec.ofNat 32 s.val) = if s.val ≤ r.val then 1#1 else 0#1 := by decide +kernel
  rw [e r s]; split <;> rfl
theorem gt_128 {α : Type} (r s : Fin 128) (a b : α) : Scalar.select (IntOp.cmpi .sge (IntOp.addi (BitVec.ofNat 32 r.val) 4294967295#32) (BitVec.ofNat 32 s.val)) a b = if s.val < r.val then a else b := by
  have e : ∀ r s : Fin 128, IntOp.cmpi .sge (IntOp.addi (BitVec.ofNat 32 r.val) 4294967295#32) (BitVec.ofNat 32 s.val) = if s.val < r.val then 1#1 else 0#1 := by decide +kernel
  rw [e r s]; split <;> rfl
theorem ge_65 {α : Type} (r s : Fin 65) (a b : α) : Scalar.select (IntOp.cmpi .sge (IntOp.addi (BitVec.ofNat 32 r.val) 0#32) (BitVec.ofNat 32 s.val)) a b = if s.val ≤ r.val then a else b := by
  have e : ∀ r s : Fin 65, IntOp.cmpi .sge (IntOp.addi (BitVec.ofNat 32 r.val) 0#32) (BitVec.ofNat 32 s.val) = if s.val ≤ r.val then 1#1 else 0#1 := by decide +kernel
  rw [e r s]; split <;> rfl
theorem gt_65 {α : Type} (r s : Fin 65) (a b : α) : Scalar.select (IntOp.cmpi .sge (IntOp.addi (BitVec.ofNat 32 r.val) 4294967295#32) (BitVec.ofNat 32 s.val)) a b = if s.val < r.val then a else b := by
  have e : ∀ r s : Fin 65, IntOp.cmpi .sge (IntOp.addi (BitVec.ofNat 32 r.val) 4294967295#32) (BitVec.ofNat 32 s.val) = if s.val < r.val then 1#1 else 0#1 := by decide +kernel
  rw [e r s]; split <;> rfl

theorem sel_sel {α : Type} (w : BitVec 1) (a b : α) : Scalar.select (Scalar.select w 1#1 0#1) a b = Scalar.select w a b := by
  unfold Scalar.select; split <;> rfl

theorem cst0 : (show EReal from id (constant (F := Ideal) S_ .f32 0x00000000#32) ix0) = 0 := by
  show Ideal.ofBits .f32 0x00000000#32 = 0
  simp [Ideal.ofBits, Ideal.ieee]

theorem segIn_at (a : FVec Ideal S4x2x8x64x128 .f32) (b : Fin 4) (g : Fin 2) (j : Fin 8) (c : Fin 64) (l s : Fin 128) :
    (show EReal from segIn a (ix6 b g j c l s)) = if s.val < l.val then (show EReal from a (ix5 b g j c l)) else 0 := by
  pointwise [segIn]
  rw [sel_sel, gt_128]
  exact congrArg (fun q : EReal => if s.val < l.val then (show EReal from a (ix5 b g j c l)) else q) cst0

theorem seg_at (a : FVec Ideal S4x2x8x64x128 .f32) (b : Fin 4) (g : Fin 2) (j : Fin 8) (c : Fin 64) (l s : Fin 128) :
    (show EReal from refSeg a (ix6 b g j c l s)) = Ideal.exp (if s.val ≤ l.val then ∑ i : Fin 128, if i.val ≤ l.val then (if s.val < i.val then (show EReal from a (ix5 b g j c i)) else 0) else 0 else ⊥) := by
  have e : (show EReal from win6 (segIn a) (ix6 b g j c l s)) = _ := (win6_at (segIn a) b g j c l s).trans (Finset.sum_congr rfl fun i _ => congrArg (fun z : EReal => if i.val ≤ l.val then z else 0) (segIn_at a b g j c i s))
  refine Eq.trans ?_ (congrArg (fun z : EReal => Ideal.exp (if s.val ≤ l.val then z else ⊥)) e)
  pointwise [refSeg]
  rw [sel_sel, ge_128]
  rfl

theorem chunkIn_at (r : FVec Ideal S4x2x8x64x128 .f32) (b : Fin 4) (g : Fin 2) (j : Fin 8) (z c : Fin 65) :
    (show EReal from chunkIn r (ix5 b g j z c)) = if c.val < z.val then (if h : 1 ≤ z.val then (show EReal from r (ix5 b g j ⟨z.val - 1, by omega⟩ 127)) else 0) else 0 := by
  pointwise [chunkIn]
  rw [sel_sel, gt_65]
  refine Eq.trans (congrArg (fun q : EReal => if c.val < z.val then (if h : 1 ≤ z.val ∧ z.val - 1 < 64 then (show EReal from r (ix5 b g j ⟨z.val - 1, h.2⟩ 127)) else FloatOps.sitofp (F := Ideal) FTy.f32 (0#32 : BitVec 32)) else q) cst0) ?_
  rw [Cert.InprojReferenceIdeal.Value.pad_zero]
  have hz := z.isLt
  by_cases h1 : 1 ≤ z.val
  · rw [dif_pos (⟨h1, by omega⟩ : 1 ≤ z.val ∧ z.val - 1 < 64), dif_pos h1]
  · rw [dif_neg (fun h : 1 ≤ z.val ∧ z.val - 1 < 64 => h1 h.1), dif_neg h1]

theorem chunk_at (r : FVec Ideal S4x2x8x64x128 .f32) (b : Fin 4) (g : Fin 2) (j : Fin 8) (z c : Fin 65) :
    (show EReal from refChunkSeg r (ix5 b g j z c)) = Ideal.exp (if c.val ≤ z.val then ∑ i : Fin 65, if i.val ≤ z.val then (if c.val < i.val then (if h : 1 ≤ i.val then (show EReal from r (ix5 b g j ⟨i.val - 1, by omega⟩ 127)) else 0) else 0) else 0 else ⊥) := by
  have e : (show EReal from win65 (chunkIn r) (ix5 b g j z c)) = _ := (win65_at (chunkIn r) b g j z c).trans (Finset.sum_congr rfl fun i _ => congrArg (fun q : EReal => if i.val ≤ z.val then q else 0) (chunkIn_at r b g j i c))
  refine Eq.trans ?_ (congrArg (fun q : EReal => Ideal.exp (if c.val ≤ z.val then q else ⊥)) e)
  pointwise [refChunkSeg]
  rw [sel_sel, ge_65]
  rfl

theorem state_at (s : FVec Ideal S4x64x2x8x64x128 .f32) (d : FVec Ideal S4x2x8x65x65 .f32) (b : Fin 4) (c : Fin 64) (g : Fin 2) (j : Fin 8) (p : Fin 64) (n : Fin 128) :
    (show EReal from refState s d (ix6 b c g j p n)) = ∑ e : Fin 64, (show EReal from s (ix6 b e g j p n)) * (show EReal from d (ix5 b g j ⟨c.val, by omega⟩ ⟨1 + e.val, by omega⟩)) := by
  pointwise [refState]
  simp only [zero_mul, Finset.sum_const_zero, zero_add]

theorem v58_at (V : Val0) (b : Fin 4) (c : Fin 64) (g : Fin 2) (j : Fin 8) (p : Fin 64) (n : Fin 128) :
    (show EReal from (res_main_v58 V : FVec Ideal S4x64x2x8x64x128 .f32) (ix6 b c g j p n)) = ∑ l : Fin 128, (Ideal.exp ((show EReal from (res_main_v33 V : FVec Ideal S4x2x8x64x128 .f32) (ix5 b g j c 127)) - (show EReal from (res_main_v33 V : FVec Ideal S4x2x8x64x128 .f32) (ix5 b g j c l))) * (show EReal from (res_main_v28 V : FVec Ideal S4x64x128x2x8x64 .f32) (ix6 b c l g j p))) * (show EReal from (res_main_v31 V : FVec Ideal S4x64x128x2x128 .f32) (ix5 b c l g n)) := by
  pointwise [res_main_v58]

theorem v94_at (V : Val0) (b : Fin 4) (c : Fin 64) (l : Fin 128) (g : Fin 2) (j : Fin 8) (p : Fin 64) :
    (show EReal from (res_main_v94 V : FVec Ideal S4x8192x2x512 .f32) (ix4 b (posOf c l) g ⟨j.val * 64 + p.val, by omega⟩))
      = ((show EReal from (res_main_v85 V : FVec Ideal S4x64x128x2x8x64 .f32) (ix6 b c l g j p)) + (show EReal from (res_main_v11 V : FVec Ideal S4x8192x2x8x64 .f32) (ix5 b (posOf c l) g j p)) * (show EReal from (V (Proc.devRef .tc main_arg5) : FVec Ideal S1x16 .f32) (ix2 0 (hd g j)))) * (show EReal from (V (Proc.devRef .tc main_arg0) : FVec Ideal S32768x1024 .f32) (ix2 (rowOf b (posOf c l)) ⟨g.val * 512 + (j.val * 64 + p.val), by omega⟩)) := by
  pointwise [res_main_v94, posOf, rowOf, hd]

/-- The result: gated and scaled group by group. -/
def refOut (z : FVec Ideal S4x8192x2x512 .f32) (ng : FVec Ideal S1x1024 .f32) : FVec Ideal S32768x1024 .bf16 :=
  truncf .bf16 (shapeCast _ (mulf (mulf z (broadcastInDim S4x8192x2x512 ![0, 1, 2, 3] bcast_S4x8192x2x1_S4x8192x2x512_0_1_2_3 (Host.rsqrt (addf (Host.divf (broadcastInDim S4x8192x2x1 ![0, 1, 2] bcast_S4x8192x2_S4x8192x2x1_0_1_2 (Host.reduceAdd (mulf z z) (constant S_ .f32 0x00000000#32) reducesTo_S4x8192x2x512_S4x8192x2_d3 h_S_)) (broadcastInDim S4x8192x2x1 ![] bcast_S_S4x8192x2x1 (constant S_ .f32 0x44000000#32))) (broadcastInDim S4x8192x2x1 ![] bcast_S_S4x8192x2x1 (constant S_ .f32 0x358637BD#32)))))) (broadcastInDim S4x8192x2x512 ![0, 1, 2, 3] bcast_S1x1x2x512_S4x8192x2x512_0_1_2_3 (broadcastInDim S1x1x2x512 ![2, 3] bcast_S2x512_S1x1x2x512_2_3 (shapeCast _ (shapeCast _ ng shapeCasts_S1x1024_S1024) shapeCasts_S1024_S2x512)))) shapeCasts_S4x8192x2x512_S32768x1024) bitsLt_bf16_f32

theorem refOut_at (z : FVec Ideal S4x8192x2x512 .f32) (ng : FVec Ideal S1x1024 .f32) (r : Fin 32768) (k : Fin 1024) :
    (show EReal from refOut z ng (ix2 r k)) = gnorm (fun q => z (ix4 ⟨r.val / 8192, by omega⟩ ⟨r.val % 8192, by omega⟩ ⟨k.val / 512, by omega⟩ q)) (fun q => ng (ix2 0 ⟨k.val / 512 * 512 + q.val, by omega⟩)) ⟨k.val % 512, by omega⟩ := by
  have e : (⟨k.val / 512 * 512 + k.val % 512, by omega⟩ : Fin 1024) = k := Fin.ext (by simp; omega)
  pointwise [refOut, gnorm]
  exact congrArg (fun q : Fin 1024 => (z (ix4 ⟨r.val / 8192, by omega⟩ ⟨r.val % 8192, by omega⟩ ⟨k.val / 512, by omega⟩ ⟨k.val % 512, by omega⟩) * Ideal.rsqrt (Ideal.div (∑ x, z (ix4 ⟨r.val / 8192, by omega⟩ ⟨r.val % 8192, by omega⟩ ⟨k.val / 512, by omega⟩ x) * z (ix4 ⟨r.val / 8192, by omega⟩ ⟨r.val % 8192, by omega⟩ ⟨k.val / 512, by omega⟩ x)) (Ideal.ofBits FTy.f32 1140850688#32) + Ideal.ofBits FTy.f32 897988541#32)) * ng (ix2 0 q)) e.symm

end Cert.SsdReferenceIdeal.Value
-- ==== Proof.SsdLaw.lean ====
module
public import proofs.«01_k».proof.Proof.SsdRow
public import proofs.«01_k».proof.Proof.RunningSum
@[expose] public section

/-! # The law of the chunked scan

A state carried from chunk to chunk is the sum of what every earlier chunk adds, decayed over the chunks in between. -/

noncomputable section
open Idealize.ShloMosaic Idealize.ShloMosaic.TcCoe Idealize.SL.Sem
namespace Cert.SsdLaw
open Cert.SsdIdeal.Value (softp)

/-- A finite sum of real numbers, as an extended real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A non-negative finite factor distributes over a sum. -/
theorem sum_mul_real {ι : Type} (s : Finset ι) (f : ι → EReal) (q : ℝ) (hq : 0 ≤ q) : (∑ i ∈ s, f i) * (q : EReal) = ∑ i ∈ s, f i * (q : EReal) := by
  classical
  induction s using Finset.induction_on with
  | empty => simp
  | insert a s ha ih => rw [Finset.sum_insert ha, Finset.sum_insert ha, EReal.right_distrib_of_nonneg_of_ne_top (EReal.coe_nonneg.mpr hq) (EReal.coe_ne_top q), ih]

/-- The running sums of a finite sequence, and the sums between two positions. -/
def acs (a : Fin 128 → ℝ) (r : Fin 128) : ℝ := ∑ i : Fin 128, if i.val ≤ r.val then a i else 0
def between (a : Fin 128 → ℝ) (l s : Fin 128) : ℝ := ∑ i : Fin 128, if i.val ≤ l.val then (if s.val < i.val then a i else 0) else 0

theorem between_eq (a : Fin 128 → ℝ) (l s : Fin 128) (h : s.val ≤ l.val) : between a l s = acs a l - acs a s := by
  rw [acs, acs, ← Finset.sum_sub_distrib, between]
  refine Finset.sum_congr rfl fun i _ => ?_
  by_cases h1 : i.val ≤ l.val
  · by_cases h2 : s.val < i.val
    · rw [if_pos h1, if_pos h2, if_pos h1, if_neg (show ¬ i.val ≤ s.val by omega), sub_zero]
    · rw [if_pos h1, if_neg h2, if_pos h1, if_pos (show i.val ≤ s.val by omega), sub_self]
  · rw [if_neg h1, if_neg h1, if_neg (show ¬ i.val ≤ s.val by omega), sub_zero]

/-- The decay exponents between chunks `e` and `c`. -/
def gap (t : Fin 64 → ℝ) (c e : ℕ) : ℝ := ∑ i : Fin 64, if i.val < c then (if e < i.val then t i else 0) else 0

theorem gap_self (t : Fin 64 → ℝ) (c : ℕ) : gap t (c + 1) c = 0 := by
  refine Finset.sum_eq_zero fun i _ => ?_
  split
  · rw [if_neg (show ¬ c < i.val by omega)]
  · rfl

theorem gap_succ (t : Fin 64 → ℝ) (c e : ℕ) (hc : c < 64) (h : e < c) : gap t (c + 1) e = gap t c e + t ⟨c, hc⟩ := by
  have e1 : t ⟨c, hc⟩ = ∑ i : Fin 64, if i = ⟨c, hc⟩ then t i else 0 := by rw [Finset.sum_ite_eq' Finset.univ, if_pos (Finset.mem_univ _)]
  rw [e1, gap, gap, ← Finset.sum_add_distrib]
  refine Finset.sum_congr rfl fun i _ => ?_
  by_cases hi : i.val = c
  · rw [if_pos (show i.val < c + 1 by omega), if_pos (show e < i.val by omega), if_neg (show ¬ i.val < c by omega), if_pos (show i = ⟨c, hc⟩ from Fin.ext hi), zero_add]
  · rw [if_neg (show ¬ i = ⟨c, hc⟩ from fun q => hi (congrArg Fin.val q)), add_zero]
    by_cases h1 : i.val < c
    · rw [if_pos (show i.val < c + 1 by omega), if_pos h1]
    · rw [if_neg (show ¬ i.val < c + 1 by omega), if_neg h1]

/-- The carried state is the decayed sum of the chunks' own states. -/
theorem carried (t : Fin 64 → ℝ) (T : Fin 64 → EReal) (S : ℕ → EReal) (h0 : S 0 = 0)
    (hs : ∀ (c : ℕ) (hc : c < 64), S (c + 1) = S c * Ideal.exp ((t ⟨c, hc⟩ : ℝ) : EReal) + T ⟨c, hc⟩) (c : ℕ) (hc : c ≤ 64) :
    S c = ∑ e : Fin 64, T e * Ideal.exp (if e.val < c then ((gap t c e.val : ℝ) : EReal) else ⊥) := by
  induction c with
  | zero =>
    rw [h0]
    refine (Finset.sum_eq_zero fun e _ => ?_).symm
    rw [if_neg (show ¬ e.val < 0 by omega), Ideal.exp_bot, mul_zero]
  | succ c ih =>
    have hc' : c < 64 := by omega
    have e1 : T ⟨c, hc'⟩ = ∑ i : Fin 64, if i = ⟨c, hc'⟩ then T i else 0 := by rw [Finset.sum_ite_eq' Finset.univ, if_pos (Finset.mem_univ _)]
    rw [hs c hc', ih (by omega), Ideal.exp_coe, sum_mul_real _ _ _ (Real.exp_pos _).le, e1, ← Finset.sum_add_distrib]
    refine Finset.sum_congr rfl fun e _ => ?_
    by_cases h1 : e.val < c
    · rw [if_pos h1, if_pos (show e.val < c + 1 by omega), if_neg (show ¬ e = ⟨c, hc'⟩ from fun q => h1.ne (congrArg Fin.val q)), add_zero, gap_succ t c e.val hc' h1,
        Ideal.exp_coe, Ideal.exp_coe, mul_assoc, ← EReal.coe_mul, ← Real.exp_add]
    · by_cases h2 : e.val = c
      · rw [if_neg h1, if_pos (show e.val < c + 1 by omega), if_pos (show e = ⟨c, hc'⟩ from Fin.ext h2), h2, gap_self, Ideal.exp_bot, mul_zero, zero_mul, zero_add, Ideal.exp_coe, Real.exp_zero, EReal.coe_one, mul_one]
      · rw [if_neg h1, if_neg (show ¬ e.val < c + 1 by omega), if_neg (show ¬ e = ⟨c, hc'⟩ from fun q => h2 (congrArg Fin.val q)), Ideal.exp_bot, mul_zero, zero_mul, zero_add]

/-- A running sum of finite exponents, and the difference of two. -/
theorem acs_coe (a : Fin 128 → EReal) (α : Fin 128 → ℝ) (h : ∀ i, a i = (α i : EReal)) (r : Fin 128) :
    (∑ i : Fin 128, if i.val ≤ r.val then a i else 0) = ((acs α r : ℝ) : EReal) := by
  rw [acs, ← sum_coe]
  refine Finset.sum_congr rfl fun i _ => ?_
  split
  · exact h i
  · rfl

theorem seg_coe (a : Fin 128 → EReal) (α : Fin 128 → ℝ) (h : ∀ i, a i = (α i : EReal)) (l s : Fin 128) (hs : s.val ≤ l.val) :
    (∑ i : Fin 128, if i.val ≤ l.val then (if s.val < i.val then a i else 0) else 0) = ((acs α l : ℝ) : EReal) - ((acs α s : ℝ) : EReal) := by
  rw [← EReal.coe_sub, ← between_eq α l s hs, between, ← sum_coe]
  refine Finset.sum_congr rfl fun i _ => ?_
  split
  · split
    · exact h i
    · rfl
  · rfl

/-- The exponents between two chunks, as the reference sums them: over the chunks with a zero put in front. -/
theorem gap_coe (w : Fin 64 → EReal) (t : Fin 64 → ℝ) (h : ∀ i, w i = (t i : EReal)) (c e : Fin 64) :
    (∑ i : Fin 65, if i.val ≤ c.val then (if 1 + e.val < i.val then (if h : 1 ≤ i.val then w ⟨i.val - 1, by omega⟩ else 0) else 0) else 0) = ((gap t c.val e.val : ℝ) : EReal) := by
  rw [Fin.sum_univ_succ, gap, ← sum_coe]
  have z : (if (0 : Fin 65).val ≤ c.val then (if 1 + e.val < (0 : Fin 65).val then (if h : 1 ≤ (0 : Fin 65).val then w ⟨(0 : Fin 65).val - 1, by omega⟩ else 0) else 0) else 0) = (0 : EReal) := by
    exact (if_pos (Nat.zero_le _)).trans (if_neg (show ¬ 1 + e.val < 0 by omega))
  rw [z, zero_add]
  refine Finset.sum_congr rfl fun i _ => ?_
  have hi : i.succ.val = i.val + 1 := Fin.val_succ i
  by_cases h1 : i.val < c.val
  · rw [if_pos (show i.succ.val ≤ c.val by omega), if_pos h1]
    by_cases h2 : e.val < i.val
    · rw [if_pos (show 1 + e.val < i.succ.val by omega), if_pos h2, dif_pos (show 1 ≤ i.succ.val by omega)]
      exact (congrArg w (Fin.ext (by show i.succ.val - 1 = i.val; omega))).trans (h i)
    · rw [if_neg (show ¬ 1 + e.val < i.succ.val by omega), if_neg h2]; rfl
  · rw [if_neg (show ¬ i.succ.val ≤ c.val by omega), if_neg h1]; rfl

/-- The step size of a finite argument is finite. -/
theorem softp_real (x : ℝ) : ∃ y : ℝ, softp (x : EReal) = (y : EReal) := by
  have e : (0 : EReal) - max (x : EReal) (-(x : EReal)) = ((0 - max x (-x) : ℝ) : EReal) := by
    rw [EReal.coe_sub, EReal.coe_zero, EReal.coe_strictMono.monotone.map_max, EReal.coe_neg]
  refine ⟨max x 0 + Real.log (1 + Real.exp (0 - max x (-x))), ?_⟩
  rw [softp, e, Ideal.exp_coe, EReal.coe_add, EReal.coe_strictMono.monotone.map_max, EReal.coe_zero]
  congr 1
  have p : (1 : EReal) + ((Real.exp (0 - max x (-x)) : ℝ) : EReal) = ((1 + Real.exp (0 - max x (-x)) : ℝ) : EReal) := by rw [EReal.coe_add, EReal.coe_one]
  show Ideal.log _ = _
  rw [p]
  exact if_neg (by have := Real.exp_pos (0 - max x (-x)); linarith)

/-- The same below infinity: at minus infinity the step size is zero. -/
theorem softp_below (x : EReal) (h : x ≠ ⊤) : ∃ y : ℝ, softp x = (y : EReal) := by
  induction x with
  | bot =>
    refine ⟨0, ?_⟩
    have e : (0 : EReal) - max ⊥ (-⊥) = ⊥ := by simp
    have p : (1 : EReal) + 0 = ((1 : ℝ) : EReal) := by rw [add_zero, EReal.coe_one]
    rw [softp, e, Ideal.exp_bot]
    show max ⊥ 0 + Ideal.log (1 + 0) = _
    rw [p]
    show max ⊥ 0 + (if (1 : ℝ) ≤ 0 then ⊥ else ((Real.log 1 : ℝ) : EReal)) = _
    rw [if_neg (by norm_num), Real.log_one]
    simp
  | coe x => exact softp_real x
  | top => exact absurd rfl h

/-- The exponential of a number below infinity is finite. -/
theorem exp_real (x : EReal) (h : x ≠ ⊤) : ∃ y : ℝ, Ideal.exp x = (y : EReal) := by
  induction x with
  | bot => exact ⟨0, by rw [Ideal.exp_bot, EReal.coe_zero]⟩
  | coe x => exact ⟨Real.exp x, Ideal.exp_coe x⟩
  | top => exact absurd rfl h

end Cert.SsdLaw
-- ==== Proof.SsdMatch.lean ====
module
public import proofs.«01_k».proof.Proof.SsdGroup
public import proofs.«01_k».proof.Proof.SsdReferenceSum
public import proofs.«01_k».proof.Proof.SsdLaw
set_option maxRecDepth 16384
@[expose] public section

/-! # One chunk of the kernel against the reference

The blocks a grid point reads are a chunk of the reference's arguments. From the reference's state at the start of the
chunk the kernel's arithmetic gives the reference's output rows, and the reference's state at the start of the next one. -/

noncomputable section
open Idealize.ShloMosaic Idealize.ShloMosaic.TcCoe Idealize.SL.Sem
namespace Cert.SsdReferenceIdeal.Value
open Cert.SsdReferenceIdeal Cert.SsdReferenceIdeal.Gen
open Cert.SsdIdeal.Value (softp gnorm ycell stcell blkA blkD blkB blkC blkX blkY blkO blkS headOf Tile ycell_congr stcell_congr)
open Cert.SsdLaw (acs acs_coe seg_coe gap gap_coe softp_below exp_real)

/-- The head within its group, and the lane within the head, of a group's column. -/
def jOf (k : Fin 512) : Fin 8 := ⟨k.val / 64, by omega⟩
def pOf (k : Fin 512) : Fin 64 := ⟨k.val % 64, by omega⟩

/-- The blocks of one grid point: chunk `c` of sequence `b` of the reference's arguments. -/
structure Blocks (V : Val0) (b : Fin 4) (c : Fin 64) (x0 : FVec Ideal ⟨2, ![128, 1024]⟩ .f32) (x1 : FVec Ideal ⟨2, ![128, 1536]⟩ .f32) (x2 : FVec Ideal ⟨2, ![128, 128]⟩ .f32)
    (x3 x4 : FVec Ideal ⟨2, ![1, 128]⟩ .f32) (x5 x6 : FVec Ideal ⟨2, ![1, 1024]⟩ .f32) : Prop where
  h0 : ∀ (r : Fin 128) (k : Fin 1024), (show EReal from x0 (ix2 r k)) = (V (Proc.devRef .tc main_arg0) : FVec Ideal S32768x1024 .f32) (ix2 (rowOf b (posOf c r)) k)
  h1 : ∀ (r : Fin 128) (k : Fin 1536), (show EReal from x1 (ix2 r k)) = argX V b (posOf c r) k
  h2 : ∀ (r : Fin 128) (h : Fin 16), (show EReal from x2 (ix2 r ⟨h.val, by omega⟩)) = argT V b (posOf c r) h
  h3 : ∀ h : Fin 16, (show EReal from x3 (ix2 0 ⟨h.val, by omega⟩)) = argB V h
  h4 : ∀ h : Fin 16, (show EReal from x4 (ix2 0 ⟨h.val, by omega⟩)) = argL V h
  h5 : ∀ k : Fin 1024, (show EReal from x5 (ix2 0 k)) = (V (Proc.devRef .tc main_arg5) : FVec Ideal S1x16 .f32) (ix2 0 ⟨k.val / 64, by omega⟩)
  h6 : ∀ k : Fin 1024, (show EReal from x6 (ix2 0 k)) = (V (Proc.devRef .tc main_arg6) : FVec Ideal S1x1024 .f32) (ix2 0 k)

/-- The reference's running sums, chunk states and carried states, as functions. -/
def rA (V : Val0) (b : Fin 4) (g : Fin 2) (j : Fin 8) (c : Fin 64) (r : Fin 128) : EReal := (res_main_v33 V : FVec Ideal S4x2x8x64x128 .f32) (ix5 b g j c r)
def rT (V : Val0) (b : Fin 4) (c : Fin 64) (g : Fin 2) (j : Fin 8) (p : Fin 64) (n : Fin 128) : EReal := (res_main_v58 V : FVec Ideal S4x64x2x8x64x128 .f32) (ix6 b c g j p n)
def rS (V : Val0) (b : Fin 4) (c : Fin 64) (g : Fin 2) (j : Fin 8) (p : Fin 64) (n : Fin 128) : EReal := refState (res_main_v58 V) (refChunkSeg (res_main_v33 V)) (ix6 b c g j p n)

theorem rA_eq (V : Val0) (b : Fin 4) (g : Fin 2) (j : Fin 8) (c : Fin 64) (r : Fin 128) :
    rA V b g j c r = ∑ i : Fin 128, if i.val ≤ r.val then daV V b (posOf c i) (hd g j) else 0 :=
  (congrFun (v33_eq V) (ix5 b g j c r)).trans ((win5_at (res_main_v30 V) b g j c r).trans
    (Finset.sum_congr rfl fun i _ => congrArg (fun z : EReal => if i.val ≤ r.val then z else 0) (v30_at V b c i g j)))

theorem rT_eq (V : Val0) (b : Fin 4) (c : Fin 64) (g : Fin 2) (j : Fin 8) (p : Fin 64) (n : Fin 128) :
    rT V b c g j p n = ∑ l : Fin 128, (Ideal.exp (rA V b g j c 127 - rA V b g j c l) * (argX V b (posOf c l) ⟨g.val * 512 + j.val * 64 + p.val, by omega⟩ * dtV V b (posOf c l) (hd g j)))
      * argX V b (posOf c l) ⟨1024 + (g.val * 128 + n.val), by omega⟩ :=
  (v58_at V b c g j p n).trans (Finset.sum_congr rfl fun l _ =>
    congrArg₂ (fun y z : EReal => (Ideal.exp (rA V b g j c 127 - rA V b g j c l) * y) * z) (v28_at V b c l g j p) (v31_at V b c l g n))

/-- With finite decay exponents the running sums are finite. -/
theorem rA_real (V : Val0) (α : Fin 4 → Fin 8192 → Fin 16 → ℝ) (hα : ∀ b s h, daV V b s h = (α b s h : EReal)) (b : Fin 4) (g : Fin 2) (j : Fin 8) (c : Fin 64) (r : Fin 128) :
    rA V b g j c r = ((acs (fun i => α b (posOf c i) (hd g j)) r : ℝ) : EReal) :=
  (rA_eq V b g j c r).trans (acs_coe _ _ (fun i => hα b (posOf c i) (hd g j)) r)

/-- A chunk's whole decay exponent. -/
def tot (α : Fin 4 → Fin 8192 → Fin 16 → ℝ) (b : Fin 4) (g : Fin 2) (j : Fin 8) (c : Fin 64) : ℝ := acs (fun i => α b (posOf c i) (hd g j)) 127

theorem rS_eq (V : Val0) (α : Fin 4 → Fin 8192 → Fin 16 → ℝ) (hα : ∀ b s h, daV V b s h = (α b s h : EReal)) (b : Fin 4) (c : Fin 64) (g : Fin 2) (j : Fin 8) (p : Fin 64) (n : Fin 128) :
    rS V b c g j p n = ∑ e : Fin 64, rT V b e g j p n * Ideal.exp (if e.val < c.val then ((gap (tot α b g j) c.val e.val : ℝ) : EReal) else ⊥) := by
  refine (state_at (res_main_v58 V) (refChunkSeg (res_main_v33 V)) b c g j p n).trans (Finset.sum_congr rfl fun e _ => ?_)
  refine congrArg (fun z : EReal => rT V b e g j p n * z) ((chunk_at (res_main_v33 V) b g j ⟨c.val, by omega⟩ ⟨1 + e.val, by omega⟩).trans (congrArg Ideal.exp ?_))
  by_cases h : e.val < c.val
  · refine (if_pos (show 1 + e.val ≤ c.val by omega)).trans (Eq.trans ?_ (if_pos h).symm)
    exact gap_coe (fun i => rA V b g j i 127) (tot α b g j) (fun i => rA_real V α hα b g j i 127) c e
  · exact (if_neg (show ¬ 1 + e.val ≤ c.val by omega)).trans (if_neg h).symm

/-- The carried states one after another. -/
def states (V : Val0) (α : Fin 4 → Fin 8192 → Fin 16 → ℝ) (b : Fin 4) (g : Fin 2) (j : Fin 8) (p : Fin 64) (n : Fin 128) : ℕ → EReal
  | 0 => 0
  | c + 1 => if h : c < 64 then states V α b g j p n c * Ideal.exp ((tot α b g j ⟨c, h⟩ : ℝ) : EReal) + rT V b ⟨c, h⟩ g j p n else 0

theorem states_succ (V : Val0) (α : Fin 4 → Fin 8192 → Fin 16 → ℝ) (b : Fin 4) (g : Fin 2) (j : Fin 8) (p : Fin 64) (n : Fin 128) (c : ℕ) (h : c < 64) :
    states V α b g j p n (c + 1) = states V α b g j p n c * Ideal.exp ((tot α b g j ⟨c, h⟩ : ℝ) : EReal) + rT V b ⟨c, h⟩ g j p n := dif_pos h

theorem rS_states (V : Val0) (α : Fin 4 → Fin 8192 → Fin 16 → ℝ) (hα : ∀ b s h, daV V b s h = (α b s h : EReal)) (b : Fin 4) (c : Fin 64) (g : Fin 2) (j : Fin 8) (p : Fin 64) (n : Fin 128) :
    rS V b c g j p n = states V α b g j p n c.val :=
  (rS_eq V α hα b c g j p n).trans (Cert.SsdLaw.carried (tot α b g j) (fun e => rT V b e g j p n) (states V α b g j p n) rfl (fun c h => states_succ V α b g j p n c h) c.val (by omega)).symm

theorem rS_zero (V : Val0) (α : Fin 4 → Fin 8192 → Fin 16 → ℝ) (hα : ∀ b s h, daV V b s h = (α b s h : EReal)) (b : Fin 4) (c : Fin 64) (hc : c.val = 0) (g : Fin 2) (j : Fin 8) (p : Fin 64) (n : Fin 128) :
    rS V b c g j p n = 0 := by
  rw [rS_states V α hα, hc]; rfl

theorem rS_succ (V : Val0) (α : Fin 4 → Fin 8192 → Fin 16 → ℝ) (hα : ∀ b s h, daV V b s h = (α b s h : EReal)) (b : Fin 4) (c c' : Fin 64) (hc : c'.val = c.val + 1) (g : Fin 2) (j : Fin 8) (p : Fin 64) (n : Fin 128) :
    rS V b c' g j p n = rS V b c g j p n * Ideal.exp (rA V b g j c 127) + rT V b c g j p n := by
  rw [rS_states V α hα b c', hc, states_succ V α b g j p n c.val c.isLt, rS_states V α hα b c, rA_real V α hα]; rfl

theorem gnorm_congr {z z' w w' : Fin 512 → EReal} {k k' : Fin 512} (hz : z = z') (hw : w = w') (hk : k = k') : gnorm z w k = gnorm z' w' k' := by
  subst hz hw hk; rfl

section
variable {V : Val0} {b : Fin 4} {c : Fin 64} {x0 : FVec Ideal ⟨2, ![128, 1024]⟩ .f32} {x1 : FVec Ideal ⟨2, ![128, 1536]⟩ .f32} {x2 : FVec Ideal ⟨2, ![128, 128]⟩ .f32}
    {x3 x4 : FVec Ideal ⟨2, ![1, 128]⟩ .f32} {x5 x6 : FVec Ideal ⟨2, ![1, 1024]⟩ .f32} (H : Blocks V b c x0 x1 x2 x3 x4 x5 x6)
include H

theorem head_T (g : Fin 2) (k : Fin 512) (r : Fin 128) : (show EReal from x2 (ix2 r (headOf g k))) = argT V b (posOf c r) (hd g (jOf k)) :=
  (congrArg (fun h => (show EReal from x2 (ix2 r h))) (Fin.ext (show 8 * g.val + k.val / 64 = g.val * 8 + k.val / 64 by omega))).trans (H.h2 r (hd g (jOf k)))
theorem head_B (g : Fin 2) (k : Fin 512) : (show EReal from x3 (ix2 0 (headOf g k))) = argB V (hd g (jOf k)) :=
  (congrArg (fun h => (show EReal from x3 (ix2 0 h))) (Fin.ext (show 8 * g.val + k.val / 64 = g.val * 8 + k.val / 64 by omega))).trans (H.h3 (hd g (jOf k)))
theorem head_L (g : Fin 2) (k : Fin 512) : (show EReal from x4 (ix2 0 (headOf g k))) = argL V (hd g (jOf k)) :=
  (congrArg (fun h => (show EReal from x4 (ix2 0 h))) (Fin.ext (show 8 * g.val + k.val / 64 = g.val * 8 + k.val / 64 by omega))).trans (H.h4 (hd g (jOf k)))

theorem blkD_ref (g : Fin 2) (k : Fin 512) (r : Fin 128) : blkD x2 x3 r (headOf g k) = dtV V b (posOf c r) (hd g (jOf k)) :=
  congrArg₂ (fun y z : EReal => softp (y + z)) (head_T H g k r) (head_B H g k)

theorem blkA_ref (g : Fin 2) (k : Fin 512) (r : Fin 128) : blkA x2 x3 x4 r (headOf g k) = rA V b g (jOf k) c r := by
  rw [rA_eq]
  refine Finset.sum_congr rfl fun i _ => congrArg (fun z : EReal => if i.val ≤ r.val then z else 0) ?_
  refine (congrArg₂ (fun y z : EReal => y * -(Ideal.exp z)) (blkD_ref H g k i) (head_L H g k)).trans ?_
  exact mul_comm _ _

theorem blkB_ref (g : Fin 2) (r n : Fin 128) : blkB x1 g r n = argX V b (posOf c r) ⟨1024 + (g.val * 128 + n.val), by omega⟩ :=
  (congrArg (fun q => (show EReal from x1 (ix2 r q))) (Fin.ext (show 1024 + 128 * g.val + n.val = 1024 + (g.val * 128 + n.val) by omega))).trans (H.h1 r ⟨1024 + (g.val * 128 + n.val), by omega⟩)
theorem blkC_ref (g : Fin 2) (r n : Fin 128) : blkC x1 g r n = argX V b (posOf c r) ⟨1280 + (g.val * 128 + n.val), by omega⟩ :=
  (congrArg (fun q => (show EReal from x1 (ix2 r q))) (Fin.ext (show 1280 + 128 * g.val + n.val = 1280 + (g.val * 128 + n.val) by omega))).trans (H.h1 r ⟨1280 + (g.val * 128 + n.val), by omega⟩)
theorem blkX_ref (g : Fin 2) (k : Fin 512) (s : Fin 128) : blkX x1 g k s = argX V b (posOf c s) ⟨g.val * 512 + (jOf k).val * 64 + (pOf k).val, by have := (jOf k).isLt; have := (pOf k).isLt; omega⟩ :=
  (congrArg (fun q => (show EReal from x1 (ix2 s q))) (Fin.ext (show 512 * g.val + k.val = g.val * 512 + k.val / 64 * 64 + k.val % 64 by omega))).trans (H.h1 s _)

/-- The state the chunk leaves. -/
theorem blkS_ref (α : Fin 4 → Fin 8192 → Fin 16 → ℝ) (hα : ∀ b s h, daV V b s h = (α b s h : EReal)) (S : Fin 2 → Fin 128 → Fin 512 → EReal)
    (hS : ∀ g n k, S g n k = rS V b c g (jOf k) (pOf k) n) (c' : Fin 64) (hc : c'.val = c.val + 1) (g : Fin 2) (n : Fin 128) (k : Fin 512) :
    blkS x1 x2 x3 x4 S g n k = rS V b c' g (jOf k) (pOf k) n := by
  rw [rS_succ V α hα b c c' hc, rT_eq]
  refine congrArg₂ (fun y z : EReal => y + z) (congrArg₂ (fun y z : EReal => y * Ideal.exp z) (hS g n k) (blkA_ref H g k 127)) (Finset.sum_congr rfl fun s _ => ?_)
  rw [blkA_ref H, blkA_ref H, blkB_ref H, blkX_ref H, blkD_ref H, mul_comm, mul_comm (_ * _) (Ideal.exp _)]

/-- The chunk's output before the gate. -/
theorem blkY_ref (α : Fin 4 → Fin 8192 → Fin 16 → ℝ) (hα : ∀ b s h, daV V b s h = (α b s h : EReal)) (S : Fin 2 → Fin 128 → Fin 512 → EReal)
    (hS : ∀ g n k, S g n k = rS V b c g (jOf k) (pOf k) n) (g : Fin 2) (r : Fin 128) (k : Fin 512) :
    blkY x1 x2 x3 x4 x5 S g r k = (show EReal from (res_main_v85 V : FVec Ideal S4x64x128x2x8x64 .f32) (ix6 b c r g (jOf k) (pOf k)))
      + (show EReal from (res_main_v11 V : FVec Ideal S4x8192x2x8x64 .f32) (ix5 b (posOf c r) g (jOf k) (pOf k))) * (show EReal from (V (Proc.devRef .tc main_arg5) : FVec Ideal S1x16 .f32) (ix2 0 (hd g (jOf k)))) := by
  refine congrArg₂ (fun y z : EReal => y + z) ?_ ?_
  · refine Eq.trans ?_ (congrFun (v85_eq V) (ix6 b c r g (jOf k) (pOf k))).symm
    refine congrArg₂ (fun y z : EReal => y + z) ?_ ?_
    · refine Eq.trans ?_ (diag_at _ _ _ b c r g (jOf k) (pOf k)).symm
      refine Finset.sum_congr rfl fun s _ => ?_
      refine (mul_comm _ _).trans (congrArg₂ (fun y z : EReal => y * z) ?_ (congrArg₂ (fun y z : EReal => y * z) ?_ ?_))
      · exact (congrArg₂ (fun y z : EReal => y * z) (blkX_ref H g k s) (blkD_ref H g k s)).trans (v28_at V b c s g (jOf k) (pOf k)).symm
      · refine Eq.trans ?_ (cb_at _ _ b g c r s).symm
        refine Finset.sum_congr rfl fun n _ => congrArg₂ (fun y z : EReal => y * z) ?_ ?_
        · exact (blkC_ref H g r n).trans (v32_at V b c r g n).symm
        · exact (blkB_ref H g s n).trans (v31_at V b c s g n).symm
      · refine Eq.trans (congrArg Ideal.exp ?_) (seg_at _ b g (jOf k) c r s).symm
        by_cases h : s.val ≤ r.val
        · refine (if_pos h).trans (Eq.trans ?_ (if_pos h).symm)
          rw [blkA_ref H, blkA_ref H, rA_real V α hα, rA_real V α hα]
          exact (seg_coe _ _ (fun i => (v30_at V b c i g (jOf k)).trans (hα b (posOf c i) (hd g (jOf k)))) r s h).symm
        · exact (if_neg h).trans (if_neg h).symm
    · refine Eq.trans ?_ (off_at _ _ _ b c r g (jOf k) (pOf k)).symm
      refine congrArg₂ (fun y z : EReal => y * Ideal.exp z) (Finset.sum_congr rfl fun n _ => ?_) (blkA_ref H g k r)
      refine (mul_comm _ _).trans (congrArg₂ (fun y z : EReal => y * z) (hS g n k) ?_)
      exact (blkC_ref H g r n).trans (v32_at V b c r g n).symm
  · refine congrArg₂ (fun y z : EReal => y * z) ((blkX_ref H g k r).trans (v11_at V b (posOf c r) g (jOf k) (pOf k)).symm) ?_
    refine (H.h5 _).trans (congrArg (fun h => (show EReal from (V (Proc.devRef .tc main_arg5) : FVec Ideal S1x16 .f32) (ix2 0 h))) (Fin.ext ?_))
    show (512 * g.val + k.val) / 64 = g.val * 8 + k.val / 64
    omega

/-- The chunk's output rows are the reference's. -/
theorem blkO_ref (α : Fin 4 → Fin 8192 → Fin 16 → ℝ) (hα : ∀ b s h, daV V b s h = (α b s h : EReal)) (S : Fin 2 → Fin 128 → Fin 512 → EReal)
    (hS : ∀ g n k, S g n k = rS V b c g (jOf k) (pOf k) n) (g : Fin 2) (r : Fin 128) (k : Fin 512) (R : Fin 32768) (K : Fin 1024) (hR : R.val = b.val * 8192 + (c.val * 128 + r.val)) (hK : K.val = 512 * g.val + k.val) :
    blkO x0 x1 x2 x3 x4 x5 x6 S g r k = (show EReal from refOut (res_main_v94 V) (V (Proc.devRef .tc main_arg6)) (ix2 R K)) := by
  refine Eq.trans ?_ (refOut_at (res_main_v94 V) (V (Proc.devRef .tc main_arg6)) R K).symm
  have eb : (⟨R.val / 8192, by omega⟩ : Fin 4) = b := Fin.ext (by show R.val / 8192 = b.val; omega)
  have es : (⟨R.val % 8192, by omega⟩ : Fin 8192) = posOf c r := Fin.ext (by show R.val % 8192 = c.val * 128 + r.val; omega)
  have eg : (⟨K.val / 512, by omega⟩ : Fin 2) = g := Fin.ext (by show K.val / 512 = g.val; omega)
  have ek : (⟨K.val % 512, by omega⟩ : Fin 512) = k := Fin.ext (by show K.val % 512 = k.val; omega)
  have z : ∀ q : Fin 512, blkY x1 x2 x3 x4 x5 S g r q * (show EReal from x0 (ix2 r ⟨512 * g.val + q.val, by omega⟩)) = (show EReal from (res_main_v94 V : FVec Ideal S4x8192x2x512 .f32) (ix4 b (posOf c r) g q)) := by
    intro q
    refine Eq.trans (congrArg₂ (fun y z : EReal => y * z) (blkY_ref H α hα S hS g r q) ?_) ((v94_at V b c r g (jOf q) (pOf q)).symm.trans ?_)
    · refine (H.h0 r _).trans (congrArg (fun k => (show EReal from (V (Proc.devRef .tc main_arg0) : FVec Ideal S32768x1024 .f32) (ix2 (rowOf b (posOf c r)) k))) (Fin.ext ?_))
      show 512 * g.val + q.val = g.val * 512 + (q.val / 64 * 64 + q.val % 64)
      omega
    · refine congrArg (fun q => (show EReal from (res_main_v94 V : FVec Ideal S4x8192x2x512 .f32) (ix4 b (posOf c r) g q))) (Fin.ext ?_)
      show q.val / 64 * 64 + q.val % 64 = q.val
      omega
  refine Eq.trans (b := gnorm (fun q => (show EReal from (res_main_v94 V : FVec Ideal S4x8192x2x512 .f32) (ix4 b (posOf c r) g q))) (fun q => (show EReal from (V (Proc.devRef .tc main_arg6) : FVec Ideal S1x1024 .f32) (ix2 0 ⟨g.val * 512 + q.val, by omega⟩))) k) ?_ ?_
  · refine congrArg₂ (fun y z => gnorm y z k) (funext z) (funext fun q => ?_)
    refine (H.h6 _).trans (congrArg (fun h => (show EReal from (V (Proc.devRef .tc main_arg6) : FVec Ideal S1x1024 .f32) (ix2 0 h))) (Fin.ext ?_))
    show 512 * g.val + q.val = g.val * 512 + q.val
    omega
  · refine gnorm_congr (funext fun q => ?_) (funext fun q => ?_) ek.symm
    · show (show EReal from (res_main_v94 V : FVec Ideal S4x8192x2x512 .f32) (ix4 b (posOf c r) g q)) = _
      rw [← eb, ← es, ← eg]
    · refine congrArg (fun h => (show EReal from (V (Proc.devRef .tc main_arg6) : FVec Ideal S1x1024 .f32) (ix2 0 h))) (Fin.ext ?_)
      show g.val * 512 + q.val = K.val / 512 * 512 + q.val
      omega
end

/-- With step arguments below infinity the decay exponents are finite. -/
theorem daV_real (V : Val0) (hT : ∀ b s h, argT V b s h ≠ ⊤) (hB : ∀ h, argB V h ≠ ⊤) (hL : ∀ h, argL V h ≠ ⊤) :
    ∃ α : Fin 4 → Fin 8192 → Fin 16 → ℝ, ∀ b s h, daV V b s h = (α b s h : EReal) := by
  have e : ∀ b s h, ∃ y : ℝ, daV V b s h = (y : EReal) := by
    intro b s h
    obtain ⟨l, hl⟩ := exp_real (argL V h) (hL h)
    obtain ⟨d, hd⟩ := softp_below (argT V b s h + argB V h) (EReal.add_ne_top (hT b s h) (hB h))
    refine ⟨-l * d, ?_⟩
    rw [daV, dtV, hd, hl, EReal.coe_mul, EReal.coe_neg]
  choose α hα using e
  exact ⟨α, hα⟩

end Cert.SsdReferenceIdeal.Value
-- ==== Proof.SsdValue.lean ====
module
public import proofs.«01_k».proof.Proof.SsdBlock
public import proofs.«01_k».proof.Proof.SsdMatch
public import proofs.«01_k».proof.Proof.Gen.SsdIdeal.Value
public import Idealize.ShloMosaic.Lib.Pipeline.ValueKit
set_option maxRecDepth 16384
@[expose] public section

/-! # The scan's result array is the reference's

The grid runs the chunks of a sequence in order; the state the kernel carries is the reference's at each chunk's start. -/

noncomputable section
open Idealize.ShloMosaic Idealize.ShloMosaic.TcCoe Idealize.SL.Sem
open Idealize.ShloMosaic.Pipeline (Dat)
namespace Cert.SsdIdeal.Value
open Cert.SsdIdeal Cert.SsdIdeal.Gen
open Cert.SsdReferenceIdeal.Value (Val0 Blocks rowOf posOf hd argX argT argB argL daV rS jOf pOf refOut rS_zero blkS_ref blkO_ref)

variable (m : (ℓ : Loc nD τ sig) → Buf (Elt Ideal) ℓ)

/-- Every window's block index at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ t.val < 256 :=
  (by decide +kernel : ∀ t : Fin grid0.N, _)

theorem hostA0 (c : Dev nD) : V m c main_arg0 = m ((c : Thread nD τ).loc main_arg0) := by
  unfold V
  simp only [hostOps0, hostOps0_1, hostOps0_2, hostOps0_3, hostOps0_4, List.flatten_cons, List.flatten_nil, List.append_nil, List.cons_append, List.nil_append]
  after_results
  try rfl

theorem hostA1 (c : Dev nD) : V m c main_arg1 = m ((c : Thread nD τ).loc main_arg1) := by
  unfold V
  simp only [hostOps0, hostOps0_1, hostOps0_2, hostOps0_3, hostOps0_4, List.flatten_cons, List.flatten_nil, List.append_nil, List.cons_append, List.nil_append]
  after_results
  try rfl

theorem hostA2 (c : Dev nD) : V m c main_arg2 = m ((c : Thread nD τ).loc main_arg2) := by
  unfold V
  simp only [hostOps0, hostOps0_1, hostOps0_2, hostOps0_3, hostOps0_4, List.flatten_cons, List.flatten_nil, List.append_nil, List.cons_append, List.nil_append]
  after_results
  try rfl

/-- A per-head row, padded to a tile's columns. -/
def padded (w : FVec Ideal S1x16 .f32) : FVec Ideal S1x128 .f32 :=
  broadcastInDim S1x128 ![1] bcast_S128_S1x128_1 (pad S128 ![0] ![112] ![0] (shapeCast S16 w shapeCasts_S1x16_S16) (sitofp .f32 (constantI S_ 32 0#32)) pads_S16_S128_01120 h_S_)
/-- A per-head row, repeated over each head's lanes. -/
def spread (w : FVec Ideal S1x16 .f32) : FVec Ideal S1x1024 .f32 :=
  broadcastInDim S1x1024 ![1] bcast_S1024_S1x1024_1 (shapeCast S1024 (broadcastInDim S16x64 ![0] bcast_S16_S16x64_0 (shapeCast S16 w shapeCasts_S1x16_S16)) shapeCasts_S16x64_S1024)
/-- A row through its flat form. -/
def rowed (w : FVec Ideal S1x1024 .f32) : FVec Ideal S1x1024 .f32 :=
  broadcastInDim S1x1024 ![1] bcast_S1024_S1x1024_1 (shapeCast S1024 w shapeCasts_S1x1024_S1024)

theorem host6 (c : Dev nD) : V m c main_v6 = padded (m ((c : Thread nD τ).loc main_arg3)) := by
  unfold V
  simp only [hostOps0, hostOps0_1, hostOps0_2, hostOps0_3, hostOps0_4, List.flatten_cons, List.flatten_nil, List.append_nil, List.cons_append, List.nil_append]
  after_results
  try rfl

theorem host9 (c : Dev nD) : V m c main_v9 = padded (m ((c : Thread nD τ).loc main_arg4)) := by
  unfold V
  simp only [hostOps0, hostOps0_1, hostOps0_2, hostOps0_3, hostOps0_4, List.flatten_cons, List.flatten_nil, List.append_nil, List.cons_append, List.nil_append]
  after_results
  try rfl

theorem host3 (c : Dev nD) : V m c main_v3 = spread (m ((c : Thread nD τ).loc main_arg5)) := by
  unfold V
  simp only [hostOps0, hostOps0_1, hostOps0_2, hostOps0_3, hostOps0_4, List.flatten_cons, List.flatten_nil, List.append_nil, List.cons_append, List.nil_append]
  after_results
  try rfl

theorem host11 (c : Dev nD) : V m c main_v11 = rowed (m ((c : Thread nD τ).loc main_arg6)) := by
  unfold V
  simp only [hostOps0, hostOps0_1, hostOps0_2, hostOps0_3, hostOps0_4, List.flatten_cons, List.flatten_nil, List.append_nil, List.cons_append, List.nil_append]
  after_results
  try rfl

theorem padded_at (w : FVec Ideal S1x16 .f32) (h : Fin 16) : (show EReal from padded w (ix2 0 ⟨h.val, by omega⟩)) = w (ix2 0 h) := by
  pointwise [padded]

theorem spread_at (w : FVec Ideal S1x16 .f32) (k : Fin 1024) : (show EReal from spread w (ix2 0 k)) = w (ix2 0 ⟨k.val / 64, by omega⟩) := by
  pointwise [spread]

theorem rowed_at (w : FVec Ideal S1x1024 .f32) (k : Fin 1024) : (show EReal from rowed w (ix2 0 k)) = w (ix2 0 k) := by
  pointwise [rowed]

theorem read0 (c : Dev nD) (t : Fin cfg0.N) (r : Fin 128) (k : Fin 1024) (R : Fin 32768) (h : R.val = t.val * 128 + r.val) :
    (show EReal from iblk m c 0 t (ix2 r k)) = (show FVec Ideal S32768x1024 .f32 from m ((c : Thread nD τ).loc main_arg0)) (ix2 R k) := by
  obtain ⟨R, hR⟩ := R
  obtain rfl : R = t.val * 128 + r.val := h
  blk_simp [iblk, idx t]
  refine (congrFun (hostA0 m c) _).trans ?_
  blk_ext [idx t]

theorem read1 (c : Dev nD) (t : Fin cfg0.N) (r : Fin 128) (k : Fin 1536) (R : Fin 32768) (h : R.val = t.val * 128 + r.val) :
    (show EReal from iblk m c 1 t (ix2 r k)) = (show FVec Ideal S32768x1536 .f32 from m ((c : Thread nD τ).loc main_arg1)) (ix2 R k) := by
  obtain ⟨R, hR⟩ := R
  obtain rfl : R = t.val * 128 + r.val := h
  blk_simp [iblk, idx t]
  refine (congrFun (hostA1 m c) _).trans ?_
  blk_ext [idx t]

theorem read2 (c : Dev nD) (t : Fin cfg0.N) (r : Fin 128) (k : Fin 128) (R : Fin 32768) (h : R.val = t.val * 128 + r.val) :
    (show EReal from iblk m c 2 t (ix2 r k)) = (show FVec Ideal S32768x128 .f32 from m ((c : Thread nD τ).loc main_arg2)) (ix2 R k) := by
  obtain ⟨R, hR⟩ := R
  obtain rfl : R = t.val * 128 + r.val := h
  blk_simp [iblk, idx t]
  refine (congrFun (hostA2 m c) _).trans ?_
  blk_ext [idx t]

theorem read3 (c : Dev nD) (t : Fin cfg0.N) (k : Fin 128) :
    (show EReal from iblk m c 3 t (ix2 0 k)) = (show EReal from padded (m ((c : Thread nD τ).loc main_arg3)) (ix2 0 k)) := by
  blk_simp [iblk, idx t]
  refine (congrFun (host6 m c) _).trans ?_
  blk_ext [idx t]

theorem read4 (c : Dev nD) (t : Fin cfg0.N) (k : Fin 128) :
    (show EReal from iblk m c 4 t (ix2 0 k)) = (show EReal from padded (m ((c : Thread nD τ).loc main_arg4)) (ix2 0 k)) := by
  blk_simp [iblk, idx t]
  refine (congrFun (host9 m c) _).trans ?_
  blk_ext [idx t]

theorem read5 (c : Dev nD) (t : Fin cfg0.N) (k : Fin 1024) :
    (show EReal from iblk m c 5 t (ix2 0 k)) = (show EReal from spread (m ((c : Thread nD τ).loc main_arg5)) (ix2 0 k)) := by
  blk_simp [iblk, idx t]
  refine (congrFun (host3 m c) _).trans ?_
  blk_ext [idx t]

theorem read6 (c : Dev nD) (t : Fin cfg0.N) (k : Fin 1024) :
    (show EReal from iblk m c 6 t (ix2 0 k)) = (show EReal from rowed (m ((c : Thread nD τ).loc main_arg6)) (ix2 0 k)) := by
  blk_simp [iblk, idx t]
  refine (congrFun (host11 m c) _).trans ?_
  blk_ext [idx t]

/-- The reference's arguments are the kernel's. -/
structure Agree (c : Dev nD) (W : Val0) : Prop where
  e0 : (W (Proc.devRef .tc Cert.SsdReferenceIdeal.main_arg0) : FVec Ideal S32768x1024 .f32) = m ((c : Thread nD τ).loc main_arg0)
  e1 : (W (Proc.devRef .tc Cert.SsdReferenceIdeal.main_arg1) : FVec Ideal S32768x1536 .f32) = m ((c : Thread nD τ).loc main_arg1)
  e2 : (W (Proc.devRef .tc Cert.SsdReferenceIdeal.main_arg2) : FVec Ideal S32768x128 .f32) = m ((c : Thread nD τ).loc main_arg2)
  e3 : (W (Proc.devRef .tc Cert.SsdReferenceIdeal.main_arg3) : FVec Ideal S1x16 .f32) = m ((c : Thread nD τ).loc main_arg3)
  e4 : (W (Proc.devRef .tc Cert.SsdReferenceIdeal.main_arg4) : FVec Ideal S1x16 .f32) = m ((c : Thread nD τ).loc main_arg4)
  e5 : (W (Proc.devRef .tc Cert.SsdReferenceIdeal.main_arg5) : FVec Ideal S1x16 .f32) = m ((c : Thread nD τ).loc main_arg5)
  e6 : (W (Proc.devRef .tc Cert.SsdReferenceIdeal.main_arg6) : FVec Ideal S1x1024 .f32) = m ((c : Thread nD τ).loc main_arg6)

/-- The sequence and the chunk of a point. -/
def bOf (t : Fin cfg0.N) : Fin 4 := ⟨t.val / 64, by have := (idx t).2.2.2.2.2.2.2.2; omega⟩
def cOf (t : Fin cfg0.N) : Fin 64 := ⟨t.val % 64, by omega⟩

theorem rowOf_val (t : Fin cfg0.N) (r : Fin 128) : (rowOf (bOf t) (posOf (cOf t) r)).val = t.val * 128 + r.val := by
  show t.val / 64 * 8192 + (t.val % 64 * 128 + r.val) = t.val * 128 + r.val
  omega

section
variable {m} {c : Dev nD} {W : Val0} (hW : Agree m c W)
include hW

/-- A point's blocks are its chunk of the reference's arguments. -/
theorem blocks (t : Fin cfg0.N) : Blocks W (bOf t) (cOf t) (iblk m c 0 t) (iblk m c 1 t) (iblk m c 2 t) (iblk m c 3 t) (iblk m c 4 t) (iblk m c 5 t) (iblk m c 6 t) where
  h0 r k := (read0 m c t r k _ (rowOf_val t r)).trans (congrFun hW.e0 _).symm
  h1 r k := (read1 m c t r k _ (rowOf_val t r)).trans (congrFun hW.e1 _).symm
  h2 r h := (read2 m c t r ⟨h.val, by omega⟩ _ (rowOf_val t r)).trans (congrFun hW.e2 _).symm
  h3 h := (read3 m c t ⟨h.val, by omega⟩).trans ((padded_at _ h).trans (congrFun hW.e3 _).symm)
  h4 h := (read4 m c t ⟨h.val, by omega⟩).trans ((padded_at _ h).trans (congrFun hW.e4 _).symm)
  h5 k := (read5 m c t k).trans ((spread_at _ k).trans (congrFun hW.e5 _).symm)
  h6 k := (read6 m c t k).trans ((rowed_at _ k).trans (congrFun hW.e6 _).symm)

variable (α : Fin 4 → Fin 8192 → Fin 16 → ℝ) (hα : ∀ b s h, daV W b s h = (α b s h : EReal))
include hα

/-- The state a point leaves is the reference's at the start of the next chunk. -/
theorem left_ref (n : ℕ) (hn : n < cfg0.N) (c' : Fin 64) (hc : c'.val = n % 64 + 1) (g : Fin 2) (l : Fin 128) (k : Fin 512) :
    (show EReal from (outsAt0 m c n hn).2 (ix3 g l k)) = rS W (bOf ⟨n, hn⟩) c' g (jOf k) (pOf k) l := by
  induction n generalizing c' g l k with
  | zero =>
    rw [outsAt0_A m c ⟨0, hn⟩ rfl]
    dsimp only
    refine (left_A _ _ _ _ _ _ _ _ _ _ _ _ _ _ _ _ _ _ _ _ _ _ _ _ _ _ _ _ g l k).trans ?_
    exact blkS_ref (blocks hW ⟨0, hn⟩) α hα (fun _ _ _ => 0) (fun g n k => (rS_zero W α hα _ _ rfl g _ _ n).symm) c' hc g l k
  | succ n ih =>
    by_cases h : (n + 1) % 64 = 0
    · rw [outsAt0_A m c ⟨n + 1, hn⟩ h]
      dsimp only
      refine (left_A _ _ _ _ _ _ _ _ _ _ _ _ _ _ _ _ _ _ _ _ _ _ _ _ _ _ _ _ g l k).trans ?_
      exact blkS_ref (blocks hW ⟨n + 1, hn⟩) α hα (fun _ _ _ => 0) (fun g n k => (rS_zero W α hα _ _ h g _ _ n).symm) c' hc g l k
    · rw [outsAt0_B m c ⟨n + 1, hn⟩ h]
      dsimp only
      refine (left_B _ _ _ _ _ _ _ _ _ _ _ _ _ _ _ _ _ _ _ _ _ _ _ _ _ _ _ _ _ g l k).trans ?_
      refine blkS_ref (blocks hW ⟨n + 1, hn⟩) α hα _ (fun g l k => ?_) c' hc g l k
      refine (ih (Nat.lt_of_succ_lt hn) (cOf ⟨n + 1, hn⟩) (by show (n + 1) % 64 = n % 64 + 1; omega) g l k).trans ?_
      exact congrArg (fun b => rS W b (cOf ⟨n + 1, hn⟩) g (jOf k) (pOf k) l) (Fin.ext (by show n / 64 = (n + 1) / 64; omega))

/-- The rows a point writes are the reference's. -/
theorem point7 (t : Fin cfg0.N) (r : Fin 128) (k : Fin 1024) (h : t.val * 128 + r.val < 32768) :
    (show EReal from (outsAt0 m c t.val t.isLt).1 (ix2 r k))
      = (show EReal from refOut (Cert.SsdReferenceIdeal.Value.res_main_v94 W) (W (Proc.devRef .tc Cert.SsdReferenceIdeal.main_arg6)) (ix2 ⟨t.val * 128 + r.val, h⟩ k)) := by
  have ek : k = ⟨512 * (k.val / 512) + k.val % 512, by omega⟩ := Fin.ext (by show k.val = 512 * (k.val / 512) + k.val % 512; omega)
  have hR : t.val * 128 + r.val = t.val / 64 * 8192 + (t.val % 64 * 128 + r.val) := by omega
  refine (congrArg (fun k => (show EReal from (outsAt0 m c t.val t.isLt).1 (ix2 r k))) ek).trans ?_
  by_cases h0 : t.val % 64 = 0
  · rw [outsAt0_A m c t h0]
    dsimp only
    refine (out_A _ _ _ _ _ _ _ _ _ _ _ _ _ _ _ _ _ _ _ _ _ _ _ _ _ _ _ _ ⟨k.val / 512, by omega⟩ r ⟨k.val % 512, by omega⟩).trans ?_
    exact blkO_ref (blocks hW t) α hα (fun _ _ _ => 0) (fun g n k => (rS_zero W α hα _ _ h0 g _ _ n).symm) _ r _ ⟨t.val * 128 + r.val, h⟩ k hR (congrArg Fin.val ek)
  · obtain ⟨n, hn⟩ : ∃ n, t.val = n + 1 := ⟨t.val - 1, by omega⟩
    obtain ⟨t, ht⟩ := t
    obtain rfl : t = n + 1 := hn
    rw [outsAt0_B m c ⟨n + 1, ht⟩ h0]
    dsimp only
    refine (out_B _ _ _ _ _ _ _ _ _ _ _ _ _ _ _ _ _ _ _ _ _ _ _ _ _ _ _ _ _ ⟨k.val / 512, by omega⟩ r ⟨k.val % 512, by omega⟩).trans ?_
    refine blkO_ref (blocks hW ⟨n + 1, ht⟩) α hα _ (fun g l k => ?_) _ r _ ⟨(n + 1) * 128 + r.val, h⟩ k hR (congrArg Fin.val ek)
    refine (left_ref hW α hα n (Nat.lt_of_succ_lt ht) (cOf ⟨n + 1, ht⟩) (by show (n + 1) % 64 = n % 64 + 1; simp only at h0; omega) g l k).trans ?_
    exact congrArg (fun b => rS W b (cOf ⟨n + 1, ht⟩) g (jOf k) (pOf k) l) (Fin.ext (by show n / 64 = (n + 1) / 64; simp only at h0; omega))

theorem array7 : (dats m 0 c).arrAt 7 (cfgs 0).N = refOut (Cert.SsdReferenceIdeal.Value.res_main_v94 W) (W (Proc.devRef .tc Cert.SsdReferenceIdeal.main_arg6)) := by
  refine (dats m 0 c).arrAt_eq_of_covers 7 _ (by decide +kernel) fun t _ y => ?_
  obtain ⟨r, k, rfl⟩ : ∃ (r : Fin 128) (k : Fin 1024), y = ix2 r k := ⟨y 0, y 1, eq_ix2 y⟩
  have h : t.val * 128 + r.val < 32768 := by have := (idx t).2.2.2.2.2.2.2.2; omega
  blk_simp
  rw [after0_7]
  refine (point7 hW α hα t r k h).trans ?_
  blk_ext [idx t]
end

end Cert.SsdIdeal.Value
-- ==== Proof.SsdClaim.lean ====
module
public import proofs.«01_k».proof.Defs
public import proofs.«01_k».proof.Proof.SsdValue
public import Idealize.ShloMosaic.Lib.ReduceAll
public import Idealize.ShloMosaic.Lib.Claim
set_option maxRecDepth 16384
@[expose] public section

/-! # The scan against its reference -/

noncomputable section
open Idealize.ShloMosaic Idealize.ShloMosaic.TcCoe Idealize.SL.Sem
namespace Cert.Proof
open Cert.SsdReferenceIdeal.Value (refOut argT argB argL daV_real)

/-- The precondition's shapes. -/
theorem finite_facts : Cert.Pre_finite_steps.Facts where
  bcast_S_S32768x128 := by decide
  reducesTo_S32768x128_S_d0_1 := by decide
  h_S_ := by decide
  bcast_S_S1x16 := by decide
  reducesTo_S1x16_S_d0_1 := by decide

/-- What the comparison with infinity says. -/
theorem below_of_lt (x : EReal) (h : Ideal.cmp .olt x (Ideal.ofBits .f32 0x7F800000#32) = 1#1) : x ≠ ⊤ := by
  have e : Ideal.ofBits .f32 0x7F800000#32 = ⊤ := by simp [Ideal.ofBits, Ideal.ieee]
  rw [e] at h
  rintro rfl
  have z : Ideal.cmp .olt ⊤ ⊤ = 0#1 := by
    show BitVec.ofBool (decide ((⊤ : EReal) < ⊤)) = 0#1
    rw [decide_eq_false (lt_irrefl _)]; rfl
  rw [z] at h
  exact absurd h (by decide)

/-- What the precondition says of the three step arguments. -/
theorem finite_steps_below [hf : Cert.Pre_finite_steps.Facts] (x0 : FVec Ideal ⟨2, ![32768, 1024]⟩ .f32) (x1 : FVec Ideal ⟨2, ![32768, 1536]⟩ .f32) (x2 : FVec Ideal ⟨2, ![32768, 128]⟩ .f32)
    (x3 x4 x5 : FVec Ideal ⟨2, ![1, 16]⟩ .f32) (x6 : FVec Ideal ⟨2, ![1, 1024]⟩ .f32) (h : Cert.Pre_finite_steps.fn (F := Ideal) x0 x1 x2 x3 x4 x5 x6 = fun _ => 1#1) :
    (∀ i, (show EReal from x2 i) ≠ ⊤) ∧ (∀ i, (show EReal from x3 i) ≠ ⊤) ∧ (∀ i, (show EReal from x4 i) ≠ ⊤) := by
  have e := congrFun h (fun a => a.elim0)
  unfold Cert.Pre_finite_steps.fn at e
  obtain ⟨e23, e4⟩ := IntOp.andi_eq_one.1 e
  obtain ⟨e2, e3⟩ := IntOp.andi_eq_one.1 e23
  haveI : Subsingleton (Cert.Pre_finite_steps.S_).Idx := ⟨fun a b => funext fun q => q.elim0⟩
  exact ⟨fun i => below_of_lt _ (Host.reduce_andi_all _ _ _ _ _ e2 i), fun i => below_of_lt _ (Host.reduce_andi_all _ _ _ _ _ e3 i), fun i => below_of_lt _ (Host.reduce_andi_all _ _ _ _ _ e4 i)⟩

/-- The kernel's run and the reference's end with the same array. -/
theorem ssd_algebraic [hf : Cert.Pre_finite_steps.Facts] : Cert.algebraic_SsdIdeal_SsdReferenceIdeal_pre_finite_steps := by
  intro m g m' g' hpre hagree
  refine ⟨fun c => refOut (Cert.SsdReferenceIdeal.Value.res_main_v94 (StableHlo.launchContents m' c)) (StableHlo.launchContents m' c (Proc.devRef .tc Cert.SsdReferenceIdeal.main_arg6)), ?_, ?_⟩
  · refine (θ_run Cert.SsdIdeal.defs _ _).mono (fun r h c => ?_) (Cert.SsdIdeal.Value.run_blocks m g)
    obtain ⟨a7, b⟩ := h c
    obtain ⟨h0, h1, h2, h3, h4, h5, h6⟩ := hagree c
    have hW : Cert.SsdIdeal.Value.Agree m c (StableHlo.launchContents m' c) := ⟨h0, h1, h2, h3, h4, h5, h6⟩
    obtain ⟨p2, p3, p4⟩ := finite_steps_below _ _ _ _ _ _ _ (hpre c)
    obtain ⟨α, hα⟩ := daV_real (StableHlo.launchContents m' c)
      (fun b s h q => p2 (ix2 (Cert.SsdReferenceIdeal.Value.rowOf b s) ⟨h.val, by omega⟩) ((congrFun h2 _).symm.trans q))
      (fun h q => p3 (ix2 0 h) ((congrFun h3 _).symm.trans q)) (fun h q => p4 (ix2 0 h) ((congrFun h4 _).symm.trans q))
    exact ⟨a7.trans (Cert.SsdIdeal.Value.array7 hW α hα), b⟩
  · refine (θ_run Cert.SsdReferenceIdeal.defs _ _).mono (fun r h c => ?_) (Cert.SsdReferenceIdeal.Value.run m' g')
    exact h c

/-- The reference runs, its arguments end unchanged, and it declares no counter. -/
theorem ssd_reference_frame : Cert.quiescent_SsdReferenceIdeal := fun m g _ =>
  (θ_run Cert.SsdReferenceIdeal.defs _ _).mono
    (fun r h => ⟨fun c => (h c).2, Idealize.ShloMosaic.sem_eq_zero_of_no_sems (by decide) r.2⟩)
    (Cert.SsdReferenceIdeal.Value.run m g)
theorem ssd_reference_frame_pre [hf : Cert.Pre_finite_steps.Facts] : Cert.quiescent_SsdReferenceIdeal_pre_finite_steps := fun m g _ =>
  (θ_run Cert.SsdReferenceIdeal.defs _ _).mono
    (fun r h => ⟨fun c => (h c).2, Idealize.ShloMosaic.sem_eq_zero_of_no_sems (by decide) r.2⟩)
    (Cert.SsdReferenceIdeal.Value.run m g)

end Cert.Proof
-- ==== Proof.OutprojRow.lean ====
module
public import proofs.«01_k».proof.Proof.FfnRow
public import proofs.«01_k».proof.Proof.Gen.OutprojIdeal.Frame
public import Idealize.ShloMosaic.Lib.Pipeline.ValueKit
set_option maxRecDepth 16384
@[expose] public section

/-! # The output projection, row by row: each matmul is a sum, the two products of a row add up to one over 1536 -/

noncomputable section
open Idealize.ShloMosaic Idealize.ShloMosaic.TcCoe Idealize.SL.Sem
namespace Cert.OutprojIdeal.Value
open Cert.OutprojIdeal Cert.OutprojIdeal.Gen
open Cert.FfnIdeal.Value (normed rscale)

/-- An entry of the projection of a row whose two parts are `a` and `b`, its weight's rows split the same way. -/
def merged (a : Fin 512 → EReal) (b : Fin 1024 → EReal) (wa : Fin 512 → Fin 1024 → EReal) (wb : Fin 1024 → Fin 1024 → EReal)
    (c : Fin 1024) : EReal :=
  ∑ k, a k * wa k c + ∑ k, b k * wb k c

/-- An entry of a row of the residual stream plus its normalised projection. -/
def stepRow (x : Fin 1024 → EReal) (a : Fin 512 → EReal) (b : Fin 1024 → EReal) (wa : Fin 512 → Fin 1024 → EReal)
    (wb : Fin 1024 → Fin 1024 → EReal) (g : Fin 1024 → EReal) (c : Fin 1024) : EReal :=
  x c + normed (merged a b wa wb) g c

/-- The kernel's block of 512 rows holds each row plus the normalised projection. -/
theorem block_at (x0 : FVec Ideal S512x1024 .f32) (x1 : FVec Ideal S512x512 .bf16) (x2 : FVec Ideal S512x1024 .bf16)
    (x3 : FVec Ideal S512x1024 .bf16) (x4 : FVec Ideal S1024x1024 .bf16) (x5 : FVec Ideal S1x1024 .f32) (r : Fin 512) (c : Fin 1024) :
    (show EReal from out0_6 (F := Ideal) x0 x1 x2 x3 x4 x5 (ix2 r c))
      = stepRow (fun k => x0 (ix2 r k)) (fun k => x1 (ix2 r k)) (fun k => x2 (ix2 r k)) (fun k c => x3 (ix2 k c))
          (fun k c => x4 (ix2 k c)) (fun k => x5 (ix2 0 k)) c := by
  unfold out0_6
  frame_out
  pointwise [k0_pay1, stepRow, merged, normed, rscale]

end Cert.OutprojIdeal.Value
-- ==== Proof.OutprojReference.lean ====
module
public import proofs.«01_k».proof.Proof.OutprojRow
public import proofs.«01_k».proof.Proof.Gen.OutprojReferenceIdeal.Run
public import Idealize.ShloMosaic.Lib.Pipeline.ValueKit
set_option maxRecDepth 16384
@[expose] public section

/-! # The reference's output projection, row by row -/

noncomputable section
open Idealize.ShloMosaic Idealize.ShloMosaic.TcCoe Idealize.SL.Sem
namespace Cert.OutprojReferenceIdeal.Value
open Cert.OutprojReferenceIdeal Cert.OutprojReferenceIdeal.Gen
open Cert.FfnIdeal.Value (normed rscale)
open Cert.OutprojIdeal.Value (merged stepRow)

/-- The projection of the concatenated activations. -/
def refY (a : FVec Ideal S4x8192x512 .f32) (b : FVec Ideal S4x8192x1024 .f32) (w : FVec Ideal S1x1536x1024 .f32) :
    FVec Ideal S4x8192x1024 .f32 :=
  Host.dotGeneral dot_S4x8192x1536_S1536x1024_S4x8192x1024_2_0_01_1_n_n none (concatenate S4x8192x1536 2 [⟨S4x8192x512, a⟩, ⟨S4x8192x1024, b⟩] concatenates_S4x8192x512_S4x8192x1024_S4x8192x1536_d2) (shapeCast _ w shapeCasts_S1x1536x1024_S1536x1024)

/-- The residual stream plus the normalised projection. -/
def refZ (x y : FVec Ideal S4x8192x1024 .f32) (g : FVec Ideal S1x1024 .f32) : FVec Ideal S32768x1024 .f32 :=
  shapeCast _ (addf x (mulf (mulf y (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf y y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ g shapeCasts_S1x1024_S1024))))) shapeCasts_S4x8192x1024_S32768x1024

theorem refY_at (a : FVec Ideal S4x8192x512 .f32) (b : FVec Ideal S4x8192x1024 .f32) (w : FVec Ideal S1x1536x1024 .f32)
    (i : Fin 4) (s : Fin 8192) (c : Fin 1024) :
    refY a b w (ix3 i s c) = merged (fun k => a (ix3 i s k)) (fun k => b (ix3 i s k))
      (fun k c => w (ix3 0 ⟨k.val, by omega⟩ c)) (fun k c => w (ix3 0 ⟨512 + k.val, by omega⟩ c)) c := by
  pointwise [refY, merged]

theorem refZ_at (x y : FVec Ideal S4x8192x1024 .f32) (g : FVec Ideal S1x1024 .f32) (r : Fin 32768) (c : Fin 1024) :
    refZ x y g (ix2 r c) = x (ix3 ⟨r.val / 8192, by omega⟩ ⟨r.val % 8192, by omega⟩ c)
      + normed (fun k => y (ix3 ⟨r.val / 8192, by omega⟩ ⟨r.val % 8192, by omega⟩ k)) (fun k => g (ix2 0 k)) c := by
  pointwise [refZ, normed, rscale]

/-- Every entry of the reference's result is the step of its row. -/
theorem reference_at (x : FVec Ideal S4x8192x1024 .f32) (a : FVec Ideal S4x8192x512 .f32) (b : FVec Ideal S4x8192x1024 .f32)
    (w : FVec Ideal S1x1536x1024 .f32) (g : FVec Ideal S1x1024 .f32) (r : Fin 32768) (c : Fin 1024) :
    refZ x (refY a b w) g (ix2 r c)
      = stepRow (fun k => x (ix3 ⟨r.val / 8192, by omega⟩ ⟨r.val % 8192, by omega⟩ k))
          (fun k => a (ix3 ⟨r.val / 8192, by omega⟩ ⟨r.val % 8192, by omega⟩ k))
          (fun k => b (ix3 ⟨r.val / 8192, by omega⟩ ⟨r.val % 8192, by omega⟩ k))
          (fun k c => w (ix3 0 ⟨k.val, by omega⟩ c)) (fun k c => w (ix3 0 ⟨512 + k.val, by omega⟩ c)) (fun k => g (ix2 0 k)) c := by
  rw [refZ_at, stepRow]
  simp only [refY_at]

end Cert.OutprojReferenceIdeal.Value
-- ==== Proof.OutprojValue.lean ====
module
public import proofs.«01_k».proof.Proof.OutprojReference
public import proofs.«01_k».proof.Proof.Gen.OutprojIdeal.Frame
public import Idealize.ShloMosaic.Lib.Pipeline.ValueKit
set_option maxRecDepth 16384
@[expose] public section

/-! # The output projection's result array is the reference's -/

noncomputable section
open Idealize.ShloMosaic Idealize.ShloMosaic.TcCoe Idealize.SL.Sem
open Idealize.ShloMosaic.Pipeline (Dat)
namespace Cert.OutprojIdeal.Value
open Cert.OutprojIdeal Cert.OutprojIdeal.Gen
open Cert.OutprojReferenceIdeal.Value (refY refZ reference_at)

variable (m : (ℓ : Loc nD τ sig) → Buf (Elt Ideal) ℓ)

/-- The reference's result on the kernel's arguments. -/
def want (c : Dev nD) : FVec Ideal S32768x1024 .f32 :=
  refZ (m ((c : Thread nD τ).loc main_arg0))
    (refY (m ((c : Thread nD τ).loc main_arg1)) (m ((c : Thread nD τ).loc main_arg2)) (m ((c : Thread nD τ).loc main_arg3)))
    (m ((c : Thread nD τ).loc main_arg4))

/-- Every window's block index at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ t.val < 64 :=
  (by decide +kernel : ∀ t : Fin grid0.N, _)

theorem read0 (c : Dev nD) (t : Fin cfg0.N) (r : Fin 512) (k : Fin 1024) (h : t.val * 512 + r.val < 32768) :
    (show EReal from iblk m c 0 t (ix2 r k)) = (show FVec Ideal S4x8192x1024 .f32 from m ((c : Thread nD τ).loc main_arg0))
      (ix3 ⟨(t.val * 512 + r.val) / 8192, by omega⟩ ⟨(t.val * 512 + r.val) % 8192, by omega⟩ k) := by
  blk_simp [iblk, idx t]
  entry_read
  pointwise []
  blk_ext [idx t]

theorem read1 (c : Dev nD) (t : Fin cfg0.N) (r : Fin 512) (k : Fin 512) (h : t.val * 512 + r.val < 32768) :
    (show EReal from iblk m c 1 t (ix2 r k)) = (show FVec Ideal S4x8192x512 .f32 from m ((c : Thread nD τ).loc main_arg1))
      (ix3 ⟨(t.val * 512 + r.val) / 8192, by omega⟩ ⟨(t.val * 512 + r.val) % 8192, by omega⟩ k) := by
  blk_simp [iblk, idx t]
  entry_read
  pointwise []
  blk_ext [idx t]

theorem read2 (c : Dev nD) (t : Fin cfg0.N) (r : Fin 512) (k : Fin 1024) (h : t.val * 512 + r.val < 32768) :
    (show EReal from iblk m c 2 t (ix2 r k)) = (show FVec Ideal S4x8192x1024 .f32 from m ((c : Thread nD τ).loc main_arg2))
      (ix3 ⟨(t.val * 512 + r.val) / 8192, by omega⟩ ⟨(t.val * 512 + r.val) % 8192, by omega⟩ k) := by
  blk_simp [iblk, idx t]
  entry_read
  pointwise []
  blk_ext [idx t]

theorem read3 (c : Dev nD) (t : Fin cfg0.N) (k : Fin 512) (n : Fin 1024) :
    (show EReal from iblk m c 3 t (ix2 k n)) = (show FVec Ideal S1x1536x1024 .f32 from m ((c : Thread nD τ).loc main_arg3))
      (ix3 0 ⟨k.val, by omega⟩ n) := by
  blk_simp [iblk, idx t]
  entry_read
  pointwise []
  blk_ext [idx t]

theorem read4 (c : Dev nD) (t : Fin cfg0.N) (k : Fin 1024) (n : Fin 1024) :
    (show EReal from iblk m c 4 t (ix2 k n)) = (show FVec Ideal S1x1536x1024 .f32 from m ((c : Thread nD τ).loc main_arg3))
      (ix3 0 ⟨512 + k.val, by omega⟩ n) := by
  blk_simp [iblk, idx t]
  entry_read
  pointwise []
  blk_ext [idx t]

theorem read5 (c : Dev nD) (t : Fin cfg0.N) (k : Fin 1024) :
    (show EReal from iblk m c 5 t (ix2 0 k)) = (show FVec Ideal S1x1024 .f32 from m ((c : Thread nD τ).loc main_arg4))
      (ix2 0 k) := by
  blk_simp [iblk, idx t]
  entry_read
  pointwise []
  blk_ext [idx t]

/-- What the body leaves at a block index is the reference's entry at the array index it sits at. -/
theorem point (c : Dev nD) (t : Fin cfg0.N) (r : Fin 512) (k : Fin 1024) (h : t.val * 512 + r.val < 32768) :
    (show EReal from out0_6 (iblk m c 0 t) (iblk m c 1 t) (iblk m c 2 t) (iblk m c 3 t) (iblk m c 4 t) (iblk m c 5 t) (ix2 r k))
      = want m c (ix2 ⟨t.val * 512 + r.val, h⟩ k) := by
  rw [want, reference_at]
  refine (block_at _ _ _ _ _ _ r k).trans ?_
  congr 1
  · funext k; exact read0 m c t r k h
  · funext k; exact read1 m c t r k h
  · funext k; exact read2 m c t r k h
  · funext k n; exact read3 m c t k n
  · funext k n; exact read4 m c t k n
  · funext k; exact read5 m c t k

/-- The result array after the run. -/
theorem final (c : Dev nD) : (dats m 0 c).arrAt 6 (cfgs 0).N = want m c := by
  refine (dats m 0 c).arrAt_eq_of_covers 6 _ (by decide +kernel) fun t _ y => ?_
  obtain ⟨r, k, rfl⟩ : ∃ (r : Fin 512) (k : Fin 1024), y = ix2 r k := ⟨y 0, y 1, eq_ix2 y⟩
  have h : t.val * 512 + r.val < 32768 := by have := (idx t).2.2.2.2.2.2.2; omega
  blk_simp
  rw [after0_6]
  refine (point m c t r k h).trans ?_
  blk_ext [idx t]

end Cert.OutprojIdeal.Value
-- ==== Proof.OutprojClaim.lean ====
module
public import proofs.«01_k».proof.Defs
public import proofs.«01_k».proof.Proof.OutprojValue
public import Idealize.ShloMosaic.Lib.Claim
@[expose] public section

/-! # The output projection against its reference -/

noncomputable section
open Idealize.ShloMosaic Idealize.SL.Sem
namespace Cert.Proof

/-- The kernel's run and the reference's end with the same array. -/
theorem outproj_algebraic : Cert.algebraic_OutprojIdeal_OutprojReferenceIdeal := by
  pair_intro
  · run_from Cert.OutprojIdeal.Gen.run_main m g
  · run_from Cert.OutprojReferenceIdeal.Value.run m' g'
    obtain ⟨h0, h1, h2, h3, h4⟩ := hagree c
    refine Eq.trans ?_ (Cert.OutprojIdeal.Value.final m c).symm
    change Cert.OutprojReferenceIdeal.Value.refZ _ (Cert.OutprojReferenceIdeal.Value.refY _ _ _) _ = _
    rw [h1, h2]
    rfl

/-- The reference runs, its arguments end unchanged, and it declares no counter. -/
theorem outproj_reference_frame : Cert.quiescent_OutprojReferenceIdeal := fun m g _ =>
  (θ_run Cert.OutprojReferenceIdeal.defs _ _).mono
    (fun r h => ⟨fun c => (h c).2, Idealize.ShloMosaic.sem_eq_zero_of_no_sems (by decide) r.2⟩)
    (Cert.OutprojReferenceIdeal.Value.run m g)

end Cert.Proof
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.FfnClaim
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.InprojClaim
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdReferenceIdeal
public import proofs.«01_k».proof.Proof.SsdClaim
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojReferenceIdeal
public import proofs.«01_k».proof.Proof.OutprojClaim
public import Idealize.ShloMosaic.Adequacy
public import Idealize.ShloMosaic.Init

@[expose] public section

noncomputable section

namespace Cert.Proof

open Idealize.ShloMosaic Idealize.SL.Sem

theorem claim : Cert.Claim := ⟨Cert.Ffn.Gen.facts, Cert.FfnIdeal.Gen.facts, Cert.FfnReferenceIdeal.Gen.facts, Cert.Inproj.Gen.facts, Cert.InprojIdeal.Gen.facts, Cert.InprojReferenceIdeal.Gen.facts, Cert.Ssd.Gen.facts, Cert.SsdIdeal.Gen.facts, Cert.SsdReferenceIdeal.Gen.facts, Cert.Outproj.Gen.facts, Cert.OutprojIdeal.Gen.facts, Cert.OutprojReferenceIdeal.Gen.facts, finite_facts, by
  haveI := finite_facts
  refine ⟨?_, ?_, ?_, ?_, ?_, ?_, ?_, ?_, ?_, ?_, ?_, ?_, ?_, ?_, ?_, ?_, ?_, ?_, ?_, ?_, ?_, ?_⟩
  · exact fun m ρ _ => Cert.Ffn.Gen.frame m ρ
  · exact fun m ρ _ => Cert.FfnIdeal.Gen.frame m ρ
  · exact ffn_reference_frame
  · exact fun m ρ _ => Cert.Inproj.Gen.frame m ρ
  · exact fun m ρ _ => Cert.InprojIdeal.Gen.frame m ρ
  · exact inproj_reference_frame
  · exact fun m ρ _ => Cert.Ssd.Gen.frame m ρ
  · exact fun m ρ _ => Cert.SsdIdeal.Gen.frame m ρ
  · exact fun m ρ _ => Cert.SsdIdeal.Gen.frame m ρ
  · exact ssd_reference_frame
  · exact ssd_reference_frame_pre
  · exact fun m ρ _ => Cert.Outproj.Gen.frame m ρ
  · exact fun m ρ _ => Cert.OutprojIdeal.Gen.frame m ρ
  · exact outproj_reference_frame
  · trivial
  · exact ffn_algebraic
  · trivial
  · exact inproj_algebraic
  · trivial
  · exact ssd_algebraic
  · trivial
  · exact outproj_algebraic⟩

end Cert.Proof

end
